-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2Ideal [hPre_pages_in_pool : Cert.Pre_pages_in_pool.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_pages_in_pool.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12))) = (fun _ => 1#1)

def Pre_Reference2Ideal [hPre_pages_in_pool : Cert.Pre_pages_in_pool.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_pages_in_pool.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2Ideal [hKernel2Ideal : Cert.Kernel2Ideal.Facts] [hPre_pages_in_pool : Cert.Pre_pages_in_pool.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12))
      ∧ r.2.sem = fun _ => 0)

def quiescent_Reference2Ideal [hReference2Ideal : Cert.Reference2Ideal.Facts] [hPre_pages_in_pool : Cert.Pre_pages_in_pool.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def algebraic_Kernel2Ideal_Reference2Ideal [hKernel2Ideal : Cert.Kernel2Ideal.Facts] [hReference2Ideal : Cert.Reference2Ideal.Facts] [hPre_pages_in_pool : Cert.Pre_pages_in_pool.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)) →
    ∃ (v0 : (c : Dev Cert.Kernel2Ideal.nD) → Buf (Elt Ideal) ((c.tc : Thread Cert.Kernel2Ideal.nD Cert.Kernel2Ideal.τ).loc Cert.Kernel2Ideal.main_v15_0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v15_0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v20) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v6_0)) (v1 : (c : Dev Cert.Kernel3Ideal.nD) → Buf (Elt Ideal) ((c.tc : Thread Cert.Kernel3Ideal.nD Cert.Kernel3Ideal.τ).loc Cert.Kernel3Ideal.main_v6_1)) (v2 : (c : Dev Cert.Kernel3Ideal.nD) → Buf (Elt Ideal) ((c.tc : Thread Cert.Kernel3Ideal.nD Cert.Kernel3Ideal.τ).loc Cert.Kernel3Ideal.main_v6_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6_0) = v0 c
          ∧ r.2.mem ((c.tc : Thread Cert.Kernel3Ideal.nD Cert.Kernel3Ideal.τ).loc Cert.Kernel3Ideal.main_v6_1) = v1 c
          ∧ r.2.mem ((c.tc : Thread Cert.Kernel3Ideal.nD Cert.Kernel3Ideal.τ).loc Cert.Kernel3Ideal.main_v6_4) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v19) = v0 c
          ∧ r.2.mem ((c.tc : Thread Cert.Reference3Ideal.nD Cert.Reference3Ideal.τ).loc Cert.Reference3Ideal.main_v20) = v1 c
          ∧ r.2.mem ((c.tc : Thread Cert.Reference3Ideal.nD Cert.Reference3Ideal.τ).loc Cert.Reference3Ideal.main_v21) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v6) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v24) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v6)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v6) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v17) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v6)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v6) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v22) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v5)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v5) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v20) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def Claim : Prop :=
  ∃ (hKernel : Cert.Kernel.Facts) (hKernelIdeal : Cert.KernelIdeal.Facts) (hReferenceIdeal : Cert.ReferenceIdeal.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_pages_in_pool : Cert.Pre_pages_in_pool.Facts),
    quiescent_Kernel (hKernel := hKernel)
    ∧ quiescent_KernelIdeal (hKernelIdeal := hKernelIdeal)
    ∧ quiescent_ReferenceIdeal (hReferenceIdeal := hReferenceIdeal)
    ∧ quiescent_Kernel2Ideal (hKernel2Ideal := hKernel2Ideal) (hPre_pages_in_pool := hPre_pages_in_pool)
    ∧ quiescent_Reference2Ideal (hReference2Ideal := hReference2Ideal) (hPre_pages_in_pool := hPre_pages_in_pool)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal (hKernelIdeal := hKernelIdeal) (hReferenceIdeal := hReferenceIdeal)
    ∧ algebraic_Kernel2Ideal_Reference2Ideal (hKernel2Ideal := hKernel2Ideal) (hReference2Ideal := hReference2Ideal) (hPre_pages_in_pool := hPre_pages_in_pool)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_pages_in_pool.lean ====
abbrev S8192x2048 : Shape := ⟨2, ![8192, 2048]⟩
abbrev S1x2048x8192 : Shape := ⟨3, ![1, 2048, 8192]⟩
abbrev S1x8192x2048 : Shape := ⟨3, ![1, 8192, 2048]⟩
abbrev S2048 : Shape := ⟨1, ![2048]⟩
abbrev S32x64 : Shape := ⟨2, ![32, 64]⟩
abbrev S32x1024 : Shape := ⟨2, ![32, 1024]⟩
abbrev S32x8192 : Shape := ⟨2, ![32, 8192]⟩
abbrev S32x128 : Shape := ⟨2, ![32, 128]⟩
abbrev S1x2560x128x16x64 : Shape := ⟨5, ![1, 2560, 128, 16, 64]⟩
abbrev S_ : Shape := ⟨0, ![]⟩

class Facts : Prop where
  bcast_S_S32x64 : S_.BroadcastsInDim S32x64 (![] : Fin 0 → Fin S32x64.rank)

variable [Facts]

def fn {F : FTy → Type} [FloatOps F] (main_arg0 : FVec F S8192x2048 .bf16) (main_arg1 : FVec F S8192x2048 .f32) (main_arg2 : FVec F S1x2048x8192 .f32) (main_arg3 : FVec F S1x8192x2048 .f32) (main_arg4 : FVec F S2048 .f32) (main_arg5 : IVec S32x64 32) (main_arg6 : FVec F S32x1024 .f32) (main_arg7 : FVec F S32x1024 .f32) (main_arg8 : FVec F S32x1024 .f32) (main_arg9 : FVec F S32x8192 .f32) (main_arg10 : FVec F S32x128 .f32) (main_arg11 : FVec F S1x2560x128x16x64 .f32) (main_arg12 : FVec F S1x2560x128x16x64 .f32) : IVec S32x64 1 :=
  let main_c : IVec S_ 32 := constantI S_ 32 0#32
  let main_v0 : IVec S32x64 32 := broadcastInDim S32x64 ![] bcast_S_S32x64 main_c
  let main_v1 : IVec S32x64 1 := cmpi .sge main_arg5 main_v0
  let main_c_0 : IVec S_ 32 := constantI S_ 32 2560#32
  let main_v2 : IVec S32x64 32 := broadcastInDim S32x64 ![] bcast_S_S32x64 main_c_0
  let main_v3 : IVec S32x64 1 := cmpi .slt main_arg5 main_v2
  let main_v4 : IVec S32x64 1 := andi main_v1 main_v3
  main_v4
-- ==== Kernel.lean ====
abbrev S2x4096x2048 : Shape := ⟨3, ![2, 4096, 2048]⟩
abbrev S1x2048 : Shape := ⟨2, ![1, 2048]⟩
abbrev S1x2048x9296 : Shape := ⟨3, ![1, 2048, 9296]⟩
abbrev S2048x9296 : Shape := ⟨2, ![2048, 9296]⟩
abbrev S9296x2048 : Shape := ⟨2, ![9296, 2048]⟩
abbrev S2048 : Shape := ⟨1, ![2048]⟩
abbrev S8192x2048 : Shape := ⟨2, ![8192, 2048]⟩
abbrev S8192x5120 : Shape := ⟨2, ![8192, 5120]⟩
abbrev S1024x2048 : Shape := ⟨2, ![1024, 2048]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 10
  | .vmem => 8
  | .smem => 0
  | _ => 0

abbrev bufTy : (tb : Table) → Fin (tcTables nBuf tb) → BufTy
  | .hbm, ⟨0, _⟩ => ⟨S2x4096x2048, .f32⟩
  | .hbm, ⟨1, _⟩ => ⟨S1x2048, .f32⟩
  | .hbm, ⟨2, _⟩ => ⟨S1x2048x9296, .f32⟩
  | .hbm, ⟨3, _⟩ => ⟨S2048x9296, .f32⟩
  | .hbm, ⟨4, _⟩ => ⟨S9296x2048, .f32⟩
  | .hbm, ⟨5, _⟩ => ⟨S9296x2048, .bf16⟩
  | .hbm, ⟨6, _⟩ => ⟨S2048, .f32⟩
  | .hbm, ⟨7, _⟩ => ⟨S1x2048, .f32⟩
  | .hbm, ⟨8, _⟩ => ⟨S8192x2048, .f32⟩
  | .hbm, ⟨9, _⟩ => ⟨S8192x5120, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1024x2048, .bf16⟩
  | .local _ .vmem, ⟨4, _⟩ => ⟨S1024x2048, .bf16⟩
  | .local _ .vmem, ⟨5, _⟩ => ⟨S1024x1024, .f32⟩
  | .local _ .vmem, ⟨6, _⟩ => ⟨S1024x1024, .f32⟩
  | .local _ .vmem, ⟨7, _⟩ => ⟨S1024x2048, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 5], ![false, false]⟩

def k0_mult1 (i : grid0.Coords) : BitVec 32 :=
  let c4176_i32 : BitVec 32 := 4176#32
  let arg1 : BitVec 32 := BitVec.ofNat 32 (i 1).val
  let c1024_i32 : BitVec 32 := 1024#32
  let v0 : BitVec 32 := Scalar.muli arg1 c1024_i32
  let v1 : BitVec 32 := Scalar.addi c4176_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c1024_i32 : BitVec 32 := 1024#32
  let v0 : BitVec 32 := Scalar.muli arg1 c1024_i32
  let c4176_i32 : BitVec 32 := 4176#32
  let v1 : BitVec 32 := Scalar.addi c4176_i32 v0
  let v2 : BitVec 32 := v1
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c5_i32 : BitVec 32 := 5#32
  let c0_i32 : BitVec 32 := 0#32
  let v1 : BitVec 1 := Scalar.cmpi .eq c5_i32 c0_i32
  let c1_i32 : BitVec 32 := 1#32
  let v2 : BitVec 32 := Scalar.select v1 c1_i32 c5_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  ![arg0.toNat, v10.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S2x4096x2048 : Shape := ⟨3, ![2, 4096, 2048]⟩
abbrev S1x2048 : Shape := ⟨2, ![1, 2048]⟩
abbrev S1x2048x9296 : Shape := ⟨3, ![1, 2048, 9296]⟩
abbrev S2048 : Shape := ⟨1, ![2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S2048x9296 : Shape := ⟨2, ![2048, 9296]⟩
abbrev S2x4096x9296 : Shape := ⟨3, ![2, 4096, 9296]⟩
abbrev S2x4096x1024 : Shape := ⟨3, ![2, 4096, 1024]⟩
abbrev S2x4096x5120 : Shape := ⟨3, ![2, 4096, 5120]⟩
abbrev S8192x5120 : Shape := ⟨2, ![8192, 5120]⟩

abbrev nBuf : Space → Nat
  | .hbm => 27
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S1x2048, .f32⟩
  | .hbm, ⟨2, _⟩ => ⟨S1x2048x9296, .f32⟩
  | .hbm, ⟨3, _⟩ => ⟨S2048, .f32⟩
  | .hbm, ⟨4, _⟩ => ⟨S2x4096x2048, .f32⟩
  | .hbm, ⟨5, _⟩ => ⟨S_, .f32⟩
  | .hbm, ⟨6, _⟩ => ⟨S2x4096, .f32⟩
  | .hbm, ⟨7, _⟩ => ⟨S2x4096x1, .f32⟩
  | .hbm, ⟨8, _⟩ => ⟨S_, .f32⟩
  | .hbm, ⟨9, _⟩ => ⟨S2x4096x1, .f32⟩
  | .hbm, ⟨10, _⟩ => ⟨S2x4096x1, .f32⟩
  | .hbm, ⟨11, _⟩ => ⟨S_, .f32⟩
  | .hbm, ⟨12, _⟩ => ⟨S2x4096x1, .f32⟩
  | .hbm, ⟨13, _⟩ => ⟨S2x4096x1, .f32⟩
  | .hbm, ⟨14, _⟩ => ⟨S2x4096x1, .f32⟩
  | .hbm, ⟨15, _⟩ => ⟨S2x4096x2048, .f32⟩
  | .hbm, ⟨16, _⟩ => ⟨S2x4096x2048, .f32⟩
  | .hbm, ⟨17, _⟩ => ⟨S1x1x2048, .f32⟩
  | .hbm, ⟨18, _⟩ => ⟨S2x4096x2048, .f32⟩
  | .hbm, ⟨19, _⟩ => ⟨S2x4096x2048, .f32⟩
  | .hbm, ⟨20, _⟩ => ⟨S2048x9296, .f32⟩
  | .hbm, ⟨21, _⟩ => ⟨S2x4096x9296, .f32⟩
  | .hbm, ⟨22, _⟩ => ⟨S2x4096x1024, .f32⟩
  | .hbm, ⟨23, _⟩ => ⟨S2x4096x2048, .f32⟩
  | .hbm, ⟨24, _⟩ => ⟨S2x4096x2048, .f32⟩
  | .hbm, ⟨25, _⟩ => ⟨S2x4096x5120, .f32⟩
  | .hbm, ⟨26, _⟩ => ⟨S8192x5120, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩

abbrev nD : Nat := 1
abbrev τ : Topo := Topo.v7x

variable {F : FTy → Type} [FloatOps F]
-- ==== Kernel2Ideal.lean ====
abbrev S8192x2048 : Shape := ⟨2, ![8192, 2048]⟩
abbrev S1x2048x8192 : Shape := ⟨3, ![1, 2048, 8192]⟩
abbrev S1x8192x2048 : Shape := ⟨3, ![1, 8192, 2048]⟩
abbrev S2048 : Shape := ⟨1, ![2048]⟩
abbrev S32x64 : Shape := ⟨2, ![32, 64]⟩
abbrev S32x1024 : Shape := ⟨2, ![32, 1024]⟩
abbrev S32x8192 : Shape := ⟨2, ![32, 8192]⟩
abbrev S32x128 : Shape := ⟨2, ![32, 128]⟩
abbrev S1x2560x128x16x64 : Shape := ⟨5, ![1, 2560, 128, 16, 64]⟩
abbrev S1x2048 : Shape := ⟨2, ![1, 2048]⟩
abbrev S2048x8192 : Shape := ⟨2, ![2048, 8192]⟩
abbrev S1x2560x16x64x128 : Shape := ⟨5, ![1, 2560, 16, 64, 128]⟩
abbrev S32x16x64 : Shape := ⟨3, ![32, 16, 64]⟩
abbrev S32x64x16 : Shape := ⟨3, ![32, 64, 16]⟩
abbrev S32x1x8192 : Shape := ⟨3, ![32, 1, 8192]⟩
abbrev S32x1x128 : Shape := ⟨3, ![32, 1, 128]⟩
abbrev S32x16x64x1 : Shape := ⟨4, ![32, 16, 64, 1]⟩
abbrev S512x2048 : Shape := ⟨2, ![512, 2048]⟩
abbrev S2048x512 : Shape := ⟨2, ![2048, 512]⟩
abbrev S1x64x16 : Shape := ⟨3, ![1, 64, 16]⟩
abbrev S1x1x1024 : Shape := ⟨3, ![1, 1, 1024]⟩
abbrev S1x1x128 : Shape := ⟨3, ![1, 1, 128]⟩
abbrev S1x1x16x64x128 : Shape := ⟨5, ![1, 1, 16, 64, 128]⟩
abbrev S1x1 : Shape := ⟨2, ![1, 1]⟩
abbrev S1x16x64x1 : Shape := ⟨4, ![1, 16, 64, 1]⟩
abbrev S16x1x128 : Shape := ⟨3, ![16, 1, 128]⟩
abbrev S16x64x128 : Shape := ⟨3, ![16, 64, 128]⟩
abbrev S512x512 : Shape := ⟨2, ![512, 512]⟩
abbrev S64x16 : Shape := ⟨2, ![64, 16]⟩
abbrev S64x1 : Shape := ⟨2, ![64, 1]⟩
abbrev S64x128 : Shape := ⟨2, ![64, 128]⟩
abbrev S1x64x128 : Shape := ⟨3, ![1, 64, 128]⟩
abbrev S16x128 : Shape := ⟨2, ![16, 128]⟩
abbrev S1x128 : Shape := ⟨2, ![1, 128]⟩
abbrev S512 : Shape := ⟨1, ![512]⟩
abbrev S512x1 : Shape := ⟨2, ![512, 1]⟩
abbrev S16x1 : Shape := ⟨2, ![16, 1]⟩
abbrev S16x1x1 : Shape := ⟨3, ![16, 1, 1]⟩
abbrev S16x64 : Shape := ⟨2, ![16, 64]⟩
abbrev S16x64x1 : Shape := ⟨3, ![16, 64, 1]⟩

abbrev nBuf : Space → Nat
  | .hbm => 29
  | .vmem => 57
  | .smem => 1
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S1x2048x8192, .f32⟩
  | .hbm, ⟨3, _⟩ => ⟨S1x8192x2048, .f32⟩
  | .hbm, ⟨4, _⟩ => ⟨S2048, .f32⟩
  | .hbm, ⟨5, _⟩ => ⟨S32x1024, .f32⟩
  | .hbm, ⟨6, _⟩ => ⟨S32x1024, .f32⟩
  | .hbm, ⟨7, _⟩ => ⟨S32x1024, .f32⟩
  | .hbm, ⟨8, _⟩ => ⟨S32x8192, .f32⟩
  | .hbm, ⟨9, _⟩ => ⟨S32x128, .f32⟩
  | .hbm, ⟨10, _⟩ => ⟨S1x2560x128x16x64, .f32⟩
  | .hbm, ⟨11, _⟩ => ⟨S1x2560x128x16x64, .f32⟩
  | .hbm, ⟨12, _⟩ => ⟨S1x2048, .f32⟩
  | .hbm, ⟨13, _⟩ => ⟨S2048x8192, .f32⟩
  | .hbm, ⟨14, _⟩ => ⟨S2048x8192, .bf16⟩
  | .hbm, ⟨15, _⟩ => ⟨S8192x2048, .f32⟩
  | .hbm, ⟨16, _⟩ => ⟨S8192x2048, .bf16⟩
  | .hbm, ⟨17, _⟩ => ⟨S1x2560x16x64x128, .f32⟩
  | .hbm, ⟨18, _⟩ => ⟨S1x2560x16x64x128, .f32⟩
  | .hbm, ⟨19, _⟩ => ⟨S32x16x64, .f32⟩
  | .hbm, ⟨20, _⟩ => ⟨S32x64x16, .f32⟩
  | .hbm, ⟨21, _⟩ => ⟨S32x16x64, .f32⟩
  | .hbm, ⟨22, _⟩ => ⟨S32x64x16, .f32⟩
  | .hbm, ⟨23, _⟩ => ⟨S32x16x64, .f32⟩
  | .hbm, ⟨24, _⟩ => ⟨S32x64x16, .f32⟩
  | .hbm, ⟨25, _⟩ => ⟨S32x1x8192, .f32⟩
  | .hbm, ⟨26, _⟩ => ⟨S32x1x128, .f32⟩
  | .hbm, ⟨27, _⟩ => ⟨S8192x2048, .f32⟩
  | .hbm, ⟨28, _⟩ => ⟨S32x16x64x1, .f32⟩
  | .local _ .vmem, ⟨0, _⟩ => ⟨S512x2048, .bf16⟩
  | .local _ .vmem, ⟨1, _⟩ => ⟨S512x2048, .bf16⟩
  | .local _ .vmem, ⟨2, _⟩ => ⟨S512x2048, .f32⟩
  | .local _ .vmem, ⟨3, _⟩ => ⟨S2048x512, .bf16⟩
  | .local _ .vmem, ⟨4, _⟩ => ⟨S2048x512, .bf16⟩
  | .local _ .vmem, ⟨5, _⟩ => ⟨S512x2048, .bf16⟩
  | .local _ .vmem, ⟨6, _⟩ => ⟨S512x2048, .bf16⟩
  | .local _ .vmem, ⟨7, _⟩ => ⟨S1x2048, .f32⟩
  | .local _ .vmem, ⟨8, _⟩ => ⟨S1x64x16, .f32⟩
  | .local _ .vmem, ⟨9, _⟩ => ⟨S1x64x16, .f32⟩
  | .local _ .vmem, ⟨10, _⟩ => ⟨S1x64x16, .f32⟩
  | .local _ .vmem, ⟨11, _⟩ => ⟨S1x64x16, .f32⟩
  | .local _ .vmem, ⟨12, _⟩ => ⟨S1x64x16, .f32⟩
  | .local _ .vmem, ⟨13, _⟩ => ⟨S1x64x16, .f32⟩
  | .local _ .vmem, ⟨14, _⟩ => ⟨S1x1x1024, .f32⟩
  | .local _ .vmem, ⟨15, _⟩ => ⟨S1x1x1024, .f32⟩
  | .local _ .vmem, ⟨16, _⟩ => ⟨S1x1x128, .f32⟩
  | .local _ .vmem, ⟨17, _⟩ => ⟨S1x1x128, .f32⟩
  | .local _ .vmem, ⟨18, _⟩ => ⟨S1x1x16x64x128, .f32⟩
  | .local _ .vmem, ⟨19, _⟩ => ⟨S1x1x16x64x128, .f32⟩
  | .local _ .vmem, ⟨20, _⟩ => ⟨S1x1x16x64x128, .f32⟩
  | .local _ .vmem, ⟨21, _⟩ => ⟨S1x1x16x64x128, .f32⟩
  | .local _ .vmem, ⟨22, _⟩ => ⟨S1x1x16x64x128, .f32⟩
  | .local _ .vmem, ⟨23, _⟩ => ⟨S1x1x16x64x128, .f32⟩
  | .local _ .vmem, ⟨24, _⟩ => ⟨S1x1x16x64x128, .f32⟩
  | .local _ .vmem, ⟨25, _⟩ => ⟨S1x1x16x64x128, .f32⟩
  | .local _ .vmem, ⟨26, _⟩ => ⟨S1x1x16x64x128, .f32⟩
  | .local _ .vmem, ⟨27, _⟩ => ⟨S1x1x16x64x128, .f32⟩
  | .local _ .vmem, ⟨28, _⟩ => ⟨S1x1x16x64x128, .f32⟩
  | .local _ .vmem, ⟨29, _⟩ => ⟨S1x1x16x64x128, .f32⟩
  | .local _ .vmem, ⟨30, _⟩ => ⟨S1x1x16x64x128, .f32⟩
  | .local _ .vmem, ⟨31, _⟩ => ⟨S1x1x16x64x128, .f32⟩
  | .local _ .vmem, ⟨32, _⟩ => ⟨S1x1x16x64x128, .f32⟩
  | .local _ .vmem, ⟨33, _⟩ => ⟨S1x1x16x64x128, .f32⟩
  | .local _ .vmem, ⟨34, _⟩ => ⟨S1x1x16x64x128, .f32⟩
  | .local _ .vmem, ⟨35, _⟩ => ⟨S1x1x16x64x128, .f32⟩
  | .local _ .vmem, ⟨36, _⟩ => ⟨S1x1x16x64x128, .f32⟩
  | .local _ .vmem, ⟨37, _⟩ => ⟨S1x1x16x64x128, .f32⟩
  | .local _ .vmem, ⟨38, _⟩ => ⟨S1x1x16x64x128, .f32⟩
  | .local _ .vmem, ⟨39, _⟩ => ⟨S1x1x16x64x128, .f32⟩
  | .local _ .vmem, ⟨40, _⟩ => ⟨S1x1x16x64x128, .f32⟩
  | .local _ .vmem, ⟨41, _⟩ => ⟨S1x1x16x64x128, .f32⟩
  | .local _ .vmem, ⟨42, _⟩ => ⟨S1x1x16x64x128, .f32⟩
  | .local _ .vmem, ⟨43, _⟩ => ⟨S1x1x16x64x128, .f32⟩
  | .local _ .vmem, ⟨44, _⟩ => ⟨S1x1x16x64x128, .f32⟩
  | .local _ .vmem, ⟨45, _⟩ => ⟨S1x1x16x64x128, .f32⟩
  | .local _ .vmem, ⟨46, _⟩ => ⟨S1x1x16x64x128, .f32⟩
  | .local _ .vmem, ⟨47, _⟩ => ⟨S1x1x16x64x128, .f32⟩
  | .local _ .vmem, ⟨48, _⟩ => ⟨S1x1x16x64x128, .f32⟩
  | .local _ .vmem, ⟨49, _⟩ => ⟨S1x1x16x64x128, .f32⟩
  | .local _ .vmem, ⟨50, _⟩ => ⟨S512x2048, .f32⟩
  | .local _ .vmem, ⟨51, _⟩ => ⟨S512x2048, .f32⟩
  | .local _ .vmem, ⟨52, _⟩ => ⟨S1x16x64x1, .f32⟩
  | .local _ .vmem, ⟨53, _⟩ => ⟨S1x16x64x1, .f32⟩
  | .local _ .vmem, ⟨54, _⟩ => ⟨S16x1x128, .f32⟩
  | .local _ .vmem, ⟨55, _⟩ => ⟨S16x1x128, .f32⟩
  | .local _ .vmem, ⟨56, _⟩ => ⟨S16x64x128, .f32⟩
  | .local _ .smem, ⟨0, _⟩ => ⟨S32x64, .i32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | _, _ => false

abbrev semScoped : Fin 0 → Bool
  | ⟨_, h⟩ => absurd h (Nat.not_lt_zero _)

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  ofTc nBuf bufTy 0 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_arg10 : Ref sig .tc := ⟨.hbm, 9, rfl⟩
abbrev main_arg11 : Ref sig .tc := ⟨.hbm, 10, rfl⟩
abbrev main_arg12 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15_0 : Ref sig .tc := ⟨.hbm, 27, rfl⟩
abbrev main_v15_1 : Ref sig .tc := ⟨.hbm, 28, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_stg17_0 : Ref sig .tc := ⟨.vmem, 32, rfl⟩
abbrev cc0_stg17_1 : Ref sig .tc := ⟨.vmem, 33, rfl⟩
abbrev cc0_stg18_0 : Ref sig .tc := ⟨.vmem, 34, rfl⟩
abbrev cc0_stg18_1 : Ref sig .tc := ⟨.vmem, 35, rfl⟩
abbrev cc0_stg19_0 : Ref sig .tc := ⟨.vmem, 36, rfl⟩
abbrev cc0_stg19_1 : Ref sig .tc := ⟨.vmem, 37, rfl⟩
abbrev cc0_stg20_0 : Ref sig .tc := ⟨.vmem, 38, rfl⟩
abbrev cc0_stg20_1 : Ref sig .tc := ⟨.vmem, 39, rfl⟩
abbrev cc0_stg21_0 : Ref sig .tc := ⟨.vmem, 40, rfl⟩
abbrev cc0_stg21_1 : Ref sig .tc := ⟨.vmem, 41, rfl⟩
abbrev cc0_stg22_0 : Ref sig .tc := ⟨.vmem, 42, rfl⟩
abbrev cc0_stg22_1 : Ref sig .tc := ⟨.vmem, 43, rfl⟩
abbrev cc0_stg23_0 : Ref sig .tc := ⟨.vmem, 44, rfl⟩
abbrev cc0_stg23_1 : Ref sig .tc := ⟨.vmem, 45, rfl⟩
abbrev cc0_stg24_0 : Ref sig .tc := ⟨.vmem, 46, rfl⟩
abbrev cc0_stg24_1 : Ref sig .tc := ⟨.vmem, 47, rfl⟩
abbrev cc0_stg25_0 : Ref sig .tc := ⟨.vmem, 48, rfl⟩
abbrev cc0_stg25_1 : Ref sig .tc := ⟨.vmem, 49, rfl⟩
abbrev cc0_stg26_0 : Ref sig .tc := ⟨.vmem, 50, rfl⟩
abbrev cc0_stg26_1 : Ref sig .tc := ⟨.vmem, 51, rfl⟩
abbrev cc0_stg27_0 : Ref sig .tc := ⟨.vmem, 52, rfl⟩
abbrev cc0_stg27_1 : Ref sig .tc := ⟨.vmem, 53, rfl⟩
abbrev cc0_scratch0 : Ref sig .tc := ⟨.vmem, 54, rfl⟩
abbrev cc0_scratch1 : Ref sig .tc := ⟨.vmem, 55, rfl⟩
abbrev cc0_scratch2 : Ref sig .tc := ⟨.vmem, 56, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29
abbrev cc0_sem16_0 : DmaSem sig := 30
abbrev cc0_sem16_1 : DmaSem sig := 31
abbrev cc0_sem17_0 : DmaSem sig := 32
abbrev cc0_sem17_1 : DmaSem sig := 33
abbrev cc0_sem18_0 : DmaSem sig := 34
abbrev cc0_sem18_1 : DmaSem sig := 35
abbrev cc0_sem19_0 : DmaSem sig := 36
abbrev cc0_sem19_1 : DmaSem sig := 37
abbrev cc0_sem20_0 : DmaSem sig := 38
abbrev cc0_sem20_1 : DmaSem sig := 39
abbrev cc0_sem21_0 : DmaSem sig := 40
abbrev cc0_sem21_1 : DmaSem sig := 41
abbrev cc0_sem22_0 : DmaSem sig := 42
abbrev cc0_sem22_1 : DmaSem sig := 43
abbrev cc0_sem23_0 : DmaSem sig := 44
abbrev cc0_sem23_1 : DmaSem sig := 45
abbrev cc0_sem24_0 : DmaSem sig := 46
abbrev cc0_sem24_1 : DmaSem sig := 47
abbrev cc0_sem25_0 : DmaSem sig := 48
abbrev cc0_sem25_1 : DmaSem sig := 49
abbrev cc0_sem26_0 : DmaSem sig := 50
abbrev cc0_sem26_1 : DmaSem sig := 51
abbrev cc0_sem27_0 : DmaSem sig := 52
abbrev cc0_sem27_1 : DmaSem sig := 53

abbrev nD : Nat := 1
abbrev τ : Topo := Topo.v7x

variable {F : FTy → Type} [FloatOps F]

abbrev grid0 : Pipeline.Grid := ⟨2, ![16, 16], ![false, false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) (c0_i32_11 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let v31 : Index := Scalar.indexCast v18
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c8_i32_10 : BitVec 32 := 8#32
  let v29 : BitVec 32 := Scalar.muli v28 c8_i32_10
  let v30 : BitVec 32 := Scalar.addi v29 c0_i32_11
  let v32 : Index := Scalar.indexCast v30
  ![v31.toNat, v32.toNat]
def k0_cond4 (i : grid0.Coords) : BitVec 1 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c8_i32 : BitVec 32 := 8#32
  let c0_i32 : BitVec 32 := 0#32
  let v2 : BitVec 1 := Scalar.cmpi .eq c8_i32 c0_i32
  let c1_i32 : BitVec 32 := 1#32
  let v3 : BitVec 32 := Scalar.select v2 c1_i32 c8_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c7_i32 : BitVec 32 := 7#32
  let v272 : BitVec 1 := Scalar.cmpi .eq v11 c7_i32
  let v273 : BitVec 32 := Scalar.extui v272
  let c0_i32_145 : BitVec 32 := 0#32
  let v274 : BitVec 1 := Scalar.cmpi .ne v273 c0_i32_145
  v274

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c8_i32 : BitVec 32 := 8#32
  let v2 : BitVec 32 := Scalar.divsi v1 c8_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c0_i32_4 : BitVec 32 := 0#32
  let c0_i32_5 : BitVec 32 := 0#32
  let c0_i32_6 : BitVec 32 := 0#32
  ![v18.toNat, c0_i32_4.toNat, c0_i32_5.toNat]

def cc0_transform_6 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c8_i32 : BitVec 32 := 8#32
  let v2 : BitVec 32 := Scalar.divsi v1 c8_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c0_i32_4 : BitVec 32 := 0#32
  let c0_i32_5 : BitVec 32 := 0#32
  let c0_i32_6 : BitVec 32 := 0#32
  ![v18.toNat, c0_i32_4.toNat, c0_i32_5.toNat]

def cc0_transform_7 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c8_i32 : BitVec 32 := 8#32
  let v2 : BitVec 32 := Scalar.divsi v1 c8_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c0_i32_4 : BitVec 32 := 0#32
  let c0_i32_5 : BitVec 32 := 0#32
  let c0_i32_6 : BitVec 32 := 0#32
  ![v18.toNat, c0_i32_4.toNat, c0_i32_5.toNat]

def cc0_transform_8 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c8_i32 : BitVec 32 := 8#32
  let v2 : BitVec 32 := Scalar.divsi v1 c8_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c16_i32_4 : BitVec 32 := 16#32
  let v19 : BitVec 32 := Scalar.muli arg0 c16_i32_4
  let v20 : BitVec 32 := Scalar.addi v19 arg1
  let c8_i32_5 : BitVec 32 := 8#32
  let c0_i32_6 : BitVec 32 := 0#32
  let v21 : BitVec 1 := Scalar.cmpi .eq c8_i32_5 c0_i32_6
  let c1_i32_7 : BitVec 32 := 1#32
  let v22 : BitVec 32 := Scalar.select v21 c1_i32_7 c8_i32_5
  let v23 : BitVec 32 := Scalar.remsi v20 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c0_i32_11 : BitVec 32 := 0#32
  let c0_i32_12 : BitVec 32 := 0#32
  ![v18.toNat, c0_i32_11.toNat, v30.toNat]

def cc0_transform_9 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c8_i32 : BitVec 32 := 8#32
  let v2 : BitVec 32 := Scalar.divsi v1 c8_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c0_i32_4 : BitVec 32 := 0#32
  let c0_i32_5 : BitVec 32 := 0#32
  let c0_i32_6 : BitVec 32 := 0#32
  ![v18.toNat, c0_i32_4.toNat, c0_i32_5.toNat]

def cc0_transform_10 (k0_off1_inb : ∀ i : grid0.Coords, ∀ (r : Fin 8), ∀ a, (k0_off1 i (BitVec.ofNat 32 r.val)) a + S1x1.size a ≤ S32x64.size a) (numel1_S1x1 : S1x1.numel = 1) (pf : pre0.Contents (Elt F)) (i : grid0.Coords) : Fin 5 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c8_i32 : BitVec 32 := 8#32
  let v2 : BitVec 32 := Scalar.divsi v1 c8_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c8_i32_10 : BitVec 32 := 8#32
  let v29 : BitVec 32 := Scalar.muli v28 c8_i32_10
  let c0_i32_11 : BitVec 32 := 0#32
  let v30 : BitVec 32 := Scalar.addi v29 c0_i32_11
  let v31 : Index := Scalar.indexCast v18
  let v32 : Index := Scalar.indexCast v30
  let v33 : BitVec 32 := pf.at 0 (Rect.unit (s := S32x64) ![v31.toNat, v32.toNat] S1x1.size (k0_off1_inb i 0)) numel1_S1x1
  let c0_i32_12 : BitVec 32 := 0#32
  let c0_i32_13 : BitVec 32 := 0#32
  let c0_i32_14 : BitVec 32 := 0#32
  let c0_i32_15 : BitVec 32 := 0#32
  let c0_i32_16 : BitVec 32 := 0#32
  ![c0_i32_12.toNat, v33.toNat, c0_i32_13.toNat, c0_i32_14.toNat, c0_i32_15.toNat]

def cc0_transform_11 (k0_off1_inb : ∀ i : grid0.Coords, ∀ (r : Fin 8), ∀ a, (k0_off1 i (BitVec.ofNat 32 r.val)) a + S1x1.size a ≤ S32x64.size a) (numel1_S1x1 : S1x1.numel = 1) (pf : pre0.Contents (Elt F)) (i : grid0.Coords) : Fin 5 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c8_i32 : BitVec 32 := 8#32
  let v2 : BitVec 32 := Scalar.divsi v1 c8_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c8_i32_10 : BitVec 32 := 8#32
  let v29 : BitVec 32 := Scalar.muli v28 c8_i32_10
  let c1_i32_11 : BitVec 32 := 1#32
  let v30 : BitVec 32 := Scalar.addi v29 c1_i32_11
  let v31 : Index := Scalar.indexCast v18
  let v32 : Index := Scalar.indexCast v30
  let v33 : BitVec 32 := pf.at 0 (Rect.unit (s := S32x64) ![v31.toNat, v32.toNat] S1x1.size (k0_off1_inb i 1)) numel1_S1x1
  let c0_i32_12 : BitVec 32 := 0#32
  let c0_i32_13 : BitVec 32 := 0#32
  let c0_i32_14 : BitVec 32 := 0#32
  let c0_i32_15 : BitVec 32 := 0#32
  let c0_i32_16 : BitVec 32 := 0#32
  ![c0_i32_12.toNat, v33.toNat, c0_i32_13.toNat, c0_i32_14.toNat, c0_i32_15.toNat]

def cc0_transform_12 (k0_off1_inb : ∀ i : grid0.Coords, ∀ (r : Fin 8), ∀ a, (k0_off1 i (BitVec.ofNat 32 r.val)) a + S1x1.size a ≤ S32x64.size a) (numel1_S1x1 : S1x1.numel = 1) (pf : pre0.Contents (Elt F)) (i : grid0.Coords) : Fin 5 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c8_i32 : BitVec 32 := 8#32
  let v2 : BitVec 32 := Scalar.divsi v1 c8_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c8_i32_10 : BitVec 32 := 8#32
  let v29 : BitVec 32 := Scalar.muli v28 c8_i32_10
  let c2_i32 : BitVec 32 := 2#32
  let v30 : BitVec 32 := Scalar.addi v29 c2_i32
  let v31 : Index := Scalar.indexCast v18
  let v32 : Index := Scalar.indexCast v30
  let v33 : BitVec 32 := pf.at 0 (Rect.unit (s := S32x64) ![v31.toNat, v32.toNat] S1x1.size (k0_off1_inb i 2)) numel1_S1x1
  let c0_i32_11 : BitVec 32 := 0#32
  let c0_i32_12 : BitVec 32 := 0#32
  let c0_i32_13 : BitVec 32 := 0#32
  let c0_i32_14 : BitVec 32 := 0#32
  let c0_i32_15 : BitVec 32 := 0#32
  ![c0_i32_11.toNat, v33.toNat, c0_i32_12.toNat, c0_i32_13.toNat, c0_i32_14.toNat]

def cc0_transform_13 (k0_off1_inb : ∀ i : grid0.Coords, ∀ (r : Fin 8), ∀ a, (k0_off1 i (BitVec.ofNat 32 r.val)) a + S1x1.size a ≤ S32x64.size a) (numel1_S1x1 : S1x1.numel = 1) (pf : pre0.Contents (Elt F)) (i : grid0.Coords) : Fin 5 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c8_i32 : BitVec 32 := 8#32
  let v2 : BitVec 32 := Scalar.divsi v1 c8_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c8_i32_10 : BitVec 32 := 8#32
  let v29 : BitVec 32 := Scalar.muli v28 c8_i32_10
  let c3_i32 : BitVec 32 := 3#32
  let v30 : BitVec 32 := Scalar.addi v29 c3_i32
  let v31 : Index := Scalar.indexCast v18
  let v32 : Index := Scalar.indexCast v30
  let v33 : BitVec 32 := pf.at 0 (Rect.unit (s := S32x64) ![v31.toNat, v32.toNat] S1x1.size (k0_off1_inb i 3)) numel1_S1x1
  let c0_i32_11 : BitVec 32 := 0#32
  let c0_i32_12 : BitVec 32 := 0#32
  let c0_i32_13 : BitVec 32 := 0#32
  let c0_i32_14 : BitVec 32 := 0#32
  let c0_i32_15 : BitVec 32 := 0#32
  ![c0_i32_11.toNat, v33.toNat, c0_i32_12.toNat, c0_i32_13.toNat, c0_i32_14.toNat]

def cc0_transform_14 (k0_off1_inb : ∀ i : grid0.Coords, ∀ (r : Fin 8), ∀ a, (k0_off1 i (BitVec.ofNat 32 r.val)) a + S1x1.size a ≤ S32x64.size a) (numel1_S1x1 : S1x1.numel = 1) (pf : pre0.Contents (Elt F)) (i : grid0.Coords) : Fin 5 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c8_i32 : BitVec 32 := 8#32
  let v2 : BitVec 32 := Scalar.divsi v1 c8_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c8_i32_10 : BitVec 32 := 8#32
  let v29 : BitVec 32 := Scalar.muli v28 c8_i32_10
  let c4_i32 : BitVec 32 := 4#32
  let v30 : BitVec 32 := Scalar.addi v29 c4_i32
  let v31 : Index := Scalar.indexCast v18
  let v32 : Index := Scalar.indexCast v30
  let v33 : BitVec 32 := pf.at 0 (Rect.unit (s := S32x64) ![v31.toNat, v32.toNat] S1x1.size (k0_off1_inb i 4)) numel1_S1x1
  let c0_i32_11 : BitVec 32 := 0#32
  let c0_i32_12 : BitVec 32 := 0#32
  let c0_i32_13 : BitVec 32 := 0#32
  let c0_i32_14 : BitVec 32 := 0#32
  let c0_i32_15 : BitVec 32 := 0#32
  ![c0_i32_11.toNat, v33.toNat, c0_i32_12.toNat, c0_i32_13.toNat, c0_i32_14.toNat]

def cc0_transform_15 (k0_off1_inb : ∀ i : grid0.Coords, ∀ (r : Fin 8), ∀ a, (k0_off1 i (BitVec.ofNat 32 r.val)) a + S1x1.size a ≤ S32x64.size a) (numel1_S1x1 : S1x1.numel = 1) (pf : pre0.Contents (Elt F)) (i : grid0.Coords) : Fin 5 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c8_i32 : BitVec 32 := 8#32
  let v2 : BitVec 32 := Scalar.divsi v1 c8_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c8_i32_10 : BitVec 32 := 8#32
  let v29 : BitVec 32 := Scalar.muli v28 c8_i32_10
  let c5_i32 : BitVec 32 := 5#32
  let v30 : BitVec 32 := Scalar.addi v29 c5_i32
  let v31 : Index := Scalar.indexCast v18
  let v32 : Index := Scalar.indexCast v30
  let v33 : BitVec 32 := pf.at 0 (Rect.unit (s := S32x64) ![v31.toNat, v32.toNat] S1x1.size (k0_off1_inb i 5)) numel1_S1x1
  let c0_i32_11 : BitVec 32 := 0#32
  let c0_i32_12 : BitVec 32 := 0#32
  let c0_i32_13 : BitVec 32 := 0#32
  let c0_i32_14 : BitVec 32 := 0#32
  let c0_i32_15 : BitVec 32 := 0#32
  ![c0_i32_11.toNat, v33.toNat, c0_i32_12.toNat, c0_i32_13.toNat, c0_i32_14.toNat]

def cc0_transform_16 (k0_off1_inb : ∀ i : grid0.Coords, ∀ (r : Fin 8), ∀ a, (k0_off1 i (BitVec.ofNat 32 r.val)) a + S1x1.size a ≤ S32x64.size a) (numel1_S1x1 : S1x1.numel = 1) (pf : pre0.Contents (Elt F)) (i : grid0.Coords) : Fin 5 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c8_i32 : BitVec 32 := 8#32
  let v2 : BitVec 32 := Scalar.divsi v1 c8_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c8_i32_10 : BitVec 32 := 8#32
  let v29 : BitVec 32 := Scalar.muli v28 c8_i32_10
  let c6_i32 : BitVec 32 := 6#32
  let v30 : BitVec 32 := Scalar.addi v29 c6_i32
  let v31 : Index := Scalar.indexCast v18
  let v32 : Index := Scalar.indexCast v30
  let v33 : BitVec 32 := pf.at 0 (Rect.unit (s := S32x64) ![v31.toNat, v32.toNat] S1x1.size (k0_off1_inb i 6)) numel1_S1x1
  let c0_i32_11 : BitVec 32 := 0#32
  let c0_i32_12 : BitVec 32 := 0#32
  let c0_i32_13 : BitVec 32 := 0#32
  let c0_i32_14 : BitVec 32 := 0#32
  let c0_i32_15 : BitVec 32 := 0#32
  ![c0_i32_11.toNat, v33.toNat, c0_i32_12.toNat, c0_i32_13.toNat, c0_i32_14.toNat]

def cc0_transform_17 (k0_off1_inb : ∀ i : grid0.Coords, ∀ (r : Fin 8), ∀ a, (k0_off1 i (BitVec.ofNat 32 r.val)) a + S1x1.size a ≤ S32x64.size a) (numel1_S1x1 : S1x1.numel = 1) (pf : pre0.Contents (Elt F)) (i : grid0.Coords) : Fin 5 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c8_i32 : BitVec 32 := 8#32
  let v2 : BitVec 32 := Scalar.divsi v1 c8_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c8_i32_10 : BitVec 32 := 8#32
  let v29 : BitVec 32 := Scalar.muli v28 c8_i32_10
  let c7_i32 : BitVec 32 := 7#32
  let v30 : BitVec 32 := Scalar.addi v29 c7_i32
  let v31 : Index := Scalar.indexCast v18
  let v32 : Index := Scalar.indexCast v30
  let v33 : BitVec 32 := pf.at 0 (Rect.unit (s := S32x64) ![v31.toNat, v32.toNat] S1x1.size (k0_off1_inb i 7)) numel1_S1x1
  let c0_i32_11 : BitVec 32 := 0#32
  let c0_i32_12 : BitVec 32 := 0#32
  let c0_i32_13 : BitVec 32 := 0#32
  let c0_i32_14 : BitVec 32 := 0#32
  let c0_i32_15 : BitVec 32 := 0#32
  ![c0_i32_11.toNat, v33.toNat, c0_i32_12.toNat, c0_i32_13.toNat, c0_i32_14.toNat]

def cc0_transform_18 (k0_off1_inb : ∀ i : grid0.Coords, ∀ (r : Fin 8), ∀ a, (k0_off1 i (BitVec.ofNat 32 r.val)) a + S1x1.size a ≤ S32x64.size a) (numel1_S1x1 : S1x1.numel = 1) (pf : pre0.Contents (Elt F)) (i : grid0.Coords) : Fin 5 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c8_i32 : BitVec 32 := 8#32
  let v2 : BitVec 32 := Scalar.divsi v1 c8_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c8_i32_10 : BitVec 32 := 8#32
  let v29 : BitVec 32 := Scalar.muli v28 c8_i32_10
  let c0_i32_11 : BitVec 32 := 0#32
  let v30 : BitVec 32 := Scalar.addi v29 c0_i32_11
  let v31 : Index := Scalar.indexCast v18
  let v32 : Index := Scalar.indexCast v30
  let v33 : BitVec 32 := pf.at 0 (Rect.unit (s := S32x64) ![v31.toNat, v32.toNat] S1x1.size (k0_off1_inb i 0)) numel1_S1x1
  let c0_i32_12 : BitVec 32 := 0#32
  let c0_i32_13 : BitVec 32 := 0#32
  let c0_i32_14 : BitVec 32 := 0#32
  let c0_i32_15 : BitVec 32 := 0#32
  let c0_i32_16 : BitVec 32 := 0#32
  ![c0_i32_12.toNat, v33.toNat, c0_i32_13.toNat, c0_i32_14.toNat, c0_i32_15.toNat]

def cc0_transform_19 (k0_off1_inb : ∀ i : grid0.Coords, ∀ (r : Fin 8), ∀ a, (k0_off1 i (BitVec.ofNat 32 r.val)) a + S1x1.size a ≤ S32x64.size a) (numel1_S1x1 : S1x1.numel = 1) (pf : pre0.Contents (Elt F)) (i : grid0.Coords) : Fin 5 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c8_i32 : BitVec 32 := 8#32
  let v2 : BitVec 32 := Scalar.divsi v1 c8_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c8_i32_10 : BitVec 32 := 8#32
  let v29 : BitVec 32 := Scalar.muli v28 c8_i32_10
  let c1_i32_11 : BitVec 32 := 1#32
  let v30 : BitVec 32 := Scalar.addi v29 c1_i32_11
  let v31 : Index := Scalar.indexCast v18
  let v32 : Index := Scalar.indexCast v30
  let v33 : BitVec 32 := pf.at 0 (Rect.unit (s := S32x64) ![v31.toNat, v32.toNat] S1x1.size (k0_off1_inb i 1)) numel1_S1x1
  let c0_i32_12 : BitVec 32 := 0#32
  let c0_i32_13 : BitVec 32 := 0#32
  let c0_i32_14 : BitVec 32 := 0#32
  let c0_i32_15 : BitVec 32 := 0#32
  let c0_i32_16 : BitVec 32 := 0#32
  ![c0_i32_12.toNat, v33.toNat, c0_i32_13.toNat, c0_i32_14.toNat, c0_i32_15.toNat]

def cc0_transform_20 (k0_off1_inb : ∀ i : grid0.Coords, ∀ (r : Fin 8), ∀ a, (k0_off1 i (BitVec.ofNat 32 r.val)) a + S1x1.size a ≤ S32x64.size a) (numel1_S1x1 : S1x1.numel = 1) (pf : pre0.Contents (Elt F)) (i : grid0.Coords) : Fin 5 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c8_i32 : BitVec 32 := 8#32
  let v2 : BitVec 32 := Scalar.divsi v1 c8_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c8_i32_10 : BitVec 32 := 8#32
  let v29 : BitVec 32 := Scalar.muli v28 c8_i32_10
  let c2_i32 : BitVec 32 := 2#32
  let v30 : BitVec 32 := Scalar.addi v29 c2_i32
  let v31 : Index := Scalar.indexCast v18
  let v32 : Index := Scalar.indexCast v30
  let v33 : BitVec 32 := pf.at 0 (Rect.unit (s := S32x64) ![v31.toNat, v32.toNat] S1x1.size (k0_off1_inb i 2)) numel1_S1x1
  let c0_i32_11 : BitVec 32 := 0#32
  let c0_i32_12 : BitVec 32 := 0#32
  let c0_i32_13 : BitVec 32 := 0#32
  let c0_i32_14 : BitVec 32 := 0#32
  let c0_i32_15 : BitVec 32 := 0#32
  ![c0_i32_11.toNat, v33.toNat, c0_i32_12.toNat, c0_i32_13.toNat, c0_i32_14.toNat]

def cc0_transform_21 (k0_off1_inb : ∀ i : grid0.Coords, ∀ (r : Fin 8), ∀ a, (k0_off1 i (BitVec.ofNat 32 r.val)) a + S1x1.size a ≤ S32x64.size a) (numel1_S1x1 : S1x1.numel = 1) (pf : pre0.Contents (Elt F)) (i : grid0.Coords) : Fin 5 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c8_i32 : BitVec 32 := 8#32
  let v2 : BitVec 32 := Scalar.divsi v1 c8_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c8_i32_10 : BitVec 32 := 8#32
  let v29 : BitVec 32 := Scalar.muli v28 c8_i32_10
  let c3_i32 : BitVec 32 := 3#32
  let v30 : BitVec 32 := Scalar.addi v29 c3_i32
  let v31 : Index := Scalar.indexCast v18
  let v32 : Index := Scalar.indexCast v30
  let v33 : BitVec 32 := pf.at 0 (Rect.unit (s := S32x64) ![v31.toNat, v32.toNat] S1x1.size (k0_off1_inb i 3)) numel1_S1x1
  let c0_i32_11 : BitVec 32 := 0#32
  let c0_i32_12 : BitVec 32 := 0#32
  let c0_i32_13 : BitVec 32 := 0#32
  let c0_i32_14 : BitVec 32 := 0#32
  let c0_i32_15 : BitVec 32 := 0#32
  ![c0_i32_11.toNat, v33.toNat, c0_i32_12.toNat, c0_i32_13.toNat, c0_i32_14.toNat]

def cc0_transform_22 (k0_off1_inb : ∀ i : grid0.Coords, ∀ (r : Fin 8), ∀ a, (k0_off1 i (BitVec.ofNat 32 r.val)) a + S1x1.size a ≤ S32x64.size a) (numel1_S1x1 : S1x1.numel = 1) (pf : pre0.Contents (Elt F)) (i : grid0.Coords) : Fin 5 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c8_i32 : BitVec 32 := 8#32
  let v2 : BitVec 32 := Scalar.divsi v1 c8_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c8_i32_10 : BitVec 32 := 8#32
  let v29 : BitVec 32 := Scalar.muli v28 c8_i32_10
  let c4_i32 : BitVec 32 := 4#32
  let v30 : BitVec 32 := Scalar.addi v29 c4_i32
  let v31 : Index := Scalar.indexCast v18
  let v32 : Index := Scalar.indexCast v30
  let v33 : BitVec 32 := pf.at 0 (Rect.unit (s := S32x64) ![v31.toNat, v32.toNat] S1x1.size (k0_off1_inb i 4)) numel1_S1x1
  let c0_i32_11 : BitVec 32 := 0#32
  let c0_i32_12 : BitVec 32 := 0#32
  let c0_i32_13 : BitVec 32 := 0#32
  let c0_i32_14 : BitVec 32 := 0#32
  let c0_i32_15 : BitVec 32 := 0#32
  ![c0_i32_11.toNat, v33.toNat, c0_i32_12.toNat, c0_i32_13.toNat, c0_i32_14.toNat]

def cc0_transform_23 (k0_off1_inb : ∀ i : grid0.Coords, ∀ (r : Fin 8), ∀ a, (k0_off1 i (BitVec.ofNat 32 r.val)) a + S1x1.size a ≤ S32x64.size a) (numel1_S1x1 : S1x1.numel = 1) (pf : pre0.Contents (Elt F)) (i : grid0.Coords) : Fin 5 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c8_i32 : BitVec 32 := 8#32
  let v2 : BitVec 32 := Scalar.divsi v1 c8_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c8_i32_10 : BitVec 32 := 8#32
  let v29 : BitVec 32 := Scalar.muli v28 c8_i32_10
  let c5_i32 : BitVec 32 := 5#32
  let v30 : BitVec 32 := Scalar.addi v29 c5_i32
  let v31 : Index := Scalar.indexCast v18
  let v32 : Index := Scalar.indexCast v30
  let v33 : BitVec 32 := pf.at 0 (Rect.unit (s := S32x64) ![v31.toNat, v32.toNat] S1x1.size (k0_off1_inb i 5)) numel1_S1x1
  let c0_i32_11 : BitVec 32 := 0#32
  let c0_i32_12 : BitVec 32 := 0#32
  let c0_i32_13 : BitVec 32 := 0#32
  let c0_i32_14 : BitVec 32 := 0#32
  let c0_i32_15 : BitVec 32 := 0#32
  ![c0_i32_11.toNat, v33.toNat, c0_i32_12.toNat, c0_i32_13.toNat, c0_i32_14.toNat]

def cc0_transform_24 (k0_off1_inb : ∀ i : grid0.Coords, ∀ (r : Fin 8), ∀ a, (k0_off1 i (BitVec.ofNat 32 r.val)) a + S1x1.size a ≤ S32x64.size a) (numel1_S1x1 : S1x1.numel = 1) (pf : pre0.Contents (Elt F)) (i : grid0.Coords) : Fin 5 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c8_i32 : BitVec 32 := 8#32
  let v2 : BitVec 32 := Scalar.divsi v1 c8_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c8_i32_10 : BitVec 32 := 8#32
  let v29 : BitVec 32 := Scalar.muli v28 c8_i32_10
  let c6_i32 : BitVec 32 := 6#32
  let v30 : BitVec 32 := Scalar.addi v29 c6_i32
  let v31 : Index := Scalar.indexCast v18
  let v32 : Index := Scalar.indexCast v30
  let v33 : BitVec 32 := pf.at 0 (Rect.unit (s := S32x64) ![v31.toNat, v32.toNat] S1x1.size (k0_off1_inb i 6)) numel1_S1x1
  let c0_i32_11 : BitVec 32 := 0#32
  let c0_i32_12 : BitVec 32 := 0#32
  let c0_i32_13 : BitVec 32 := 0#32
  let c0_i32_14 : BitVec 32 := 0#32
  let c0_i32_15 : BitVec 32 := 0#32
  ![c0_i32_11.toNat, v33.toNat, c0_i32_12.toNat, c0_i32_13.toNat, c0_i32_14.toNat]

def cc0_transform_25 (k0_off1_inb : ∀ i : grid0.Coords, ∀ (r : Fin 8), ∀ a, (k0_off1 i (BitVec.ofNat 32 r.val)) a + S1x1.size a ≤ S32x64.size a) (numel1_S1x1 : S1x1.numel = 1) (pf : pre0.Contents (Elt F)) (i : grid0.Coords) : Fin 5 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c8_i32 : BitVec 32 := 8#32
  let v2 : BitVec 32 := Scalar.divsi v1 c8_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c8_i32_10 : BitVec 32 := 8#32
  let v29 : BitVec 32 := Scalar.muli v28 c8_i32_10
  let c7_i32 : BitVec 32 := 7#32
  let v30 : BitVec 32 := Scalar.addi v29 c7_i32
  let v31 : Index := Scalar.indexCast v18
  let v32 : Index := Scalar.indexCast v30
  let v33 : BitVec 32 := pf.at 0 (Rect.unit (s := S32x64) ![v31.toNat, v32.toNat] S1x1.size (k0_off1_inb i 7)) numel1_S1x1
  let c0_i32_11 : BitVec 32 := 0#32
  let c0_i32_12 : BitVec 32 := 0#32
  let c0_i32_13 : BitVec 32 := 0#32
  let c0_i32_14 : BitVec 32 := 0#32
  let c0_i32_15 : BitVec 32 := 0#32
  ![c0_i32_11.toNat, v33.toNat, c0_i32_12.toNat, c0_i32_13.toNat, c0_i32_14.toNat]

def cc0_transform_26 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_27 (i : grid0.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c8_i32 : BitVec 32 := 8#32
  let v2 : BitVec 32 := Scalar.divsi v1 c8_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c0_i32_4 : BitVec 32 := 0#32
  let c0_i32_5 : BitVec 32 := 0#32
  let c0_i32_6 : BitVec 32 := 0#32
  let c0_i32_7 : BitVec 32 := 0#32
  ![v18.toNat, c0_i32_4.toNat, c0_i32_5.toNat, c0_i32_6.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S512x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x64x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x64x16 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x64x16 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x16x64x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1x16x64x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1x16x64x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1x16x64x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x1x16x64x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x1x16x64x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x1x16x64x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x1x16x64x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x1x16x64x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x1x16x64x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x1x16x64x128 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x1x16x64x128 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S1x1x16x64x128 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]

abbrev stage0_23 : Fin 2 → Memref sig .tc .vmem S1x1x16x64x128 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]

abbrev stage0_24 : Fin 2 → Memref sig .tc .vmem S1x1x16x64x128 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true, true]

abbrev stage0_25 : Fin 2 → Memref sig .tc .vmem S1x1x16x64x128 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true, true]

abbrev stage0_26 : Fin 2 → Memref sig .tc .vmem S512x2048 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true, false]

abbrev stage0_27 : Fin 2 → Memref sig .tc .vmem S1x16x64x1 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true, true]
-- ==== Reference2Ideal.lean ====
abbrev S8192x2048 : Shape := ⟨2, ![8192, 2048]⟩
abbrev S1x2048x8192 : Shape := ⟨3, ![1, 2048, 8192]⟩
abbrev S1x8192x2048 : Shape := ⟨3, ![1, 8192, 2048]⟩
abbrev S2048 : Shape := ⟨1, ![2048]⟩
abbrev S32x64 : Shape := ⟨2, ![32, 64]⟩
abbrev S32x1024 : Shape := ⟨2, ![32, 1024]⟩
abbrev S32x8192 : Shape := ⟨2, ![32, 8192]⟩
abbrev S32x128 : Shape := ⟨2, ![32, 128]⟩
abbrev S1x2560x128x16x64 : Shape := ⟨5, ![1, 2560, 128, 16, 64]⟩
abbrev S2048x8192 : Shape := ⟨2, ![2048, 8192]⟩
abbrev S8192x8192 : Shape := ⟨2, ![8192, 8192]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 39
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S1x2048x8192, .f32⟩
  | .hbm, ⟨3, _⟩ => ⟨S1x8192x2048, .f32⟩
  | .hbm, ⟨4, _⟩ => ⟨S2048, .f32⟩
  | .hbm, ⟨5, _⟩ => ⟨S32x64, .i32⟩
  | .hbm, ⟨6, _⟩ => ⟨S32x1024, .f32⟩
  | .hbm, ⟨7, _⟩ => ⟨S32x1024, .f32⟩
  | .hbm, ⟨8, _⟩ => ⟨S32x1024, .f32⟩
  | .hbm, ⟨9, _⟩ => ⟨S32x8192, .f32⟩
  | .hbm, ⟨10, _⟩ => ⟨S32x128, .f32⟩
  | .hbm, ⟨11, _⟩ => ⟨S1x2560x128x16x64, .f32⟩
  | .hbm, ⟨12, _⟩ => ⟨S1x2560x128x16x64, .f32⟩
  | .hbm, ⟨13, _⟩ => ⟨S8192x2048, .f32⟩
  | .hbm, ⟨14, _⟩ => ⟨S2048x8192, .f32⟩
  | .hbm, ⟨15, _⟩ => ⟨S8192x8192, .f32⟩
  | .hbm, ⟨16, _⟩ => ⟨S_, .f32⟩
  | .hbm, ⟨17, _⟩ => ⟨S8192x8192, .f32⟩
  | .hbm, ⟨18, _⟩ => ⟨S8192x8192, .f32⟩
  | .hbm, ⟨19, _⟩ => ⟨S8192x8192, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S_, .f32⟩
  | .hbm, ⟨25, _⟩ => ⟨S8192, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S8192x1, .f32⟩
  | .hbm, ⟨34, _⟩ => ⟨S8192x2048, .f32⟩
  | .hbm, ⟨35, _⟩ => ⟨S8192x2048, .f32⟩
  | .hbm, ⟨36, _⟩ => ⟨S1x2048, .f32⟩
  | .hbm, ⟨37, _⟩ => ⟨S8192x2048, .f32⟩
  | .hbm, ⟨38, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_call0_cst : Ref sig .tc := ⟨.hbm, 16, rfl⟩
abbrev main_call0_v0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst : Ref sig .tc := ⟨.hbm, 24, rfl⟩
abbrev main_v9 : Ref sig .tc := ⟨.hbm, 25, rfl⟩
abbrev main_v10 : Ref sig .tc := ⟨.hbm, 26, rfl⟩
abbrev main_cst_0 : Ref sig .tc := ⟨.hbm, 27, rfl⟩
abbrev main_v11 : Ref sig .tc := ⟨.hbm, 28, rfl⟩
abbrev main_v12 : Ref sig .tc := ⟨.hbm, 29, rfl⟩
abbrev main_cst_1 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩

abbrev nD : Nat := 1
abbrev τ : Topo := Topo.v7x

variable {F : FTy → Type} [FloatOps F]
-- ==== Kernel3.lean ====
abbrev S2x4096x2048 : Shape := ⟨3, ![2, 4096, 2048]⟩
abbrev S1x2048 : Shape := ⟨2, ![1, 2048]⟩
abbrev S1x2048x9296 : Shape := ⟨3, ![1, 2048, 9296]⟩
abbrev S2048x9296 : Shape := ⟨2, ![2048, 9296]⟩
abbrev S9296x2048 : Shape := ⟨2, ![9296, 2048]⟩
abbrev S8192x2048 : Shape := ⟨2, ![8192, 2048]⟩
abbrev S2048 : Shape := ⟨1, ![2048]⟩
abbrev S2x1024x4096 : Shape := ⟨3, ![2, 1024, 4096]⟩
abbrev S8192x1024 : Shape := ⟨2, ![8192, 1024]⟩
abbrev S2x16x80x4096 : Shape := ⟨4, ![2, 16, 80, 4096]⟩
abbrev S2x128x4096 : Shape := ⟨3, ![2, 128, 4096]⟩
abbrev S8192x128 : Shape := ⟨2, ![8192, 128]⟩
abbrev S512x2048 : Shape := ⟨2, ![512, 2048]⟩
abbrev S1024x2048 : Shape := ⟨2, ![1024, 2048]⟩
abbrev S128x2048 : Shape := ⟨2, ![128, 2048]⟩
abbrev S1x1024x512 : Shape := ⟨3, ![1, 1024, 512]⟩
abbrev S512x1024 : Shape := ⟨2, ![512, 1024]⟩
abbrev S1x16x80x512 : Shape := ⟨4, ![1, 16, 80, 512]⟩
abbrev S1x128x512 : Shape := ⟨3, ![1, 128, 512]⟩
abbrev S512x128 : Shape := ⟨2, ![512, 128]⟩
abbrev S512 : Shape := ⟨1, ![512]⟩
abbrev S512x1 : Shape := ⟨2, ![512, 1]⟩
abbrev S128x512 : Shape := ⟨2, ![128, 512]⟩
abbrev S1024x512 : Shape := ⟨2, ![1024, 512]⟩
abbrev S16x64x512 : Shape := ⟨3, ![16, 64, 512]⟩
abbrev S1x16x64x512 : Shape := ⟨4, ![1, 16, 64, 512]⟩
abbrev S16x16x512 : Shape := ⟨3, ![16, 16, 512]⟩
abbrev S1x16x16x512 : Shape := ⟨4, ![1, 16, 16, 512]⟩

abbrev nBuf : Space → Nat
  | .hbm => 15
  | .vmem => 19
  | .smem => 0
  | _ => 0

abbrev bufTy : (tb : Table) → Fin (tcTables nBuf tb) → BufTy
  | .hbm, ⟨0, _⟩ => ⟨S2x4096x2048, .f32⟩
  | .hbm, ⟨1, _⟩ => ⟨S1x2048, .f32⟩
  | .hbm, ⟨2, _⟩ => ⟨S1x2048x9296, .f32⟩
  | .hbm, ⟨3, _⟩ => ⟨S2048x9296, .f32⟩
  | .hbm, ⟨4, _⟩ => ⟨S9296x2048, .f32⟩
  | .hbm, ⟨5, _⟩ => ⟨S9296x2048, .bf16⟩
  | .hbm, ⟨6, _⟩ => ⟨S8192x2048, .f32⟩
  | .hbm, ⟨7, _⟩ => ⟨S2048, .f32⟩
  | .hbm, ⟨8, _⟩ => ⟨S1x2048, .f32⟩
  | .hbm, ⟨9, _⟩ => ⟨S2x1024x4096, .f32⟩
  | .hbm, ⟨10, _⟩ => ⟨S2x1024x4096, .f32⟩
  | .hbm, ⟨11, _⟩ => ⟨S8192x1024, .bf16⟩
  | .hbm, ⟨12, _⟩ => ⟨S2x16x80x4096, .bf16⟩
  | .hbm, ⟨13, _⟩ => ⟨S2x128x4096, .f32⟩
  | .hbm, ⟨14, _⟩ => ⟨S8192x128, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1024x2048, .bf16⟩
  | .local _ .vmem, ⟨4, _⟩ => ⟨S1024x2048, .bf16⟩
  | .local _ .vmem, ⟨5, _⟩ => ⟨S128x2048, .bf16⟩
  | .local _ .vmem, ⟨6, _⟩ => ⟨S1x1024x512, .f32⟩
  | .local _ .vmem, ⟨7, _⟩ => ⟨S1x1024x512, .f32⟩
  | .local _ .vmem, ⟨8, _⟩ => ⟨S1x1024x512, .f32⟩
  | .local _ .vmem, ⟨9, _⟩ => ⟨S1x1024x512, .f32⟩
  | .local _ .vmem, ⟨10, _⟩ => ⟨S512x1024, .bf16⟩
  | .local _ .vmem, ⟨11, _⟩ => ⟨S512x1024, .bf16⟩
  | .local _ .vmem, ⟨12, _⟩ => ⟨S1x16x80x512, .bf16⟩
  | .local _ .vmem, ⟨13, _⟩ => ⟨S1x16x80x512, .bf16⟩
  | .local _ .vmem, ⟨14, _⟩ => ⟨S1x128x512, .f32⟩
  | .local _ .vmem, ⟨15, _⟩ => ⟨S1x128x512, .f32⟩
  | .local _ .vmem, ⟨16, _⟩ => ⟨S512x128, .bf16⟩
  | .local _ .vmem, ⟨17, _⟩ => ⟨S512x128, .bf16⟩
  | .local _ .vmem, ⟨18, _⟩ => ⟨S512x2048, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6_0 : Ref sig .tc := ⟨.hbm, 9, rfl⟩
abbrev main_v6_1 : Ref sig .tc := ⟨.hbm, 10, rfl⟩
abbrev main_v6_2 : Ref sig .tc := ⟨.hbm, 11, rfl⟩
abbrev main_v6_3 : Ref sig .tc := ⟨.hbm, 12, rfl⟩
abbrev main_v6_4 : Ref sig .tc := ⟨.hbm, 13, rfl⟩
abbrev main_v6_5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![16, 2], ![false, false]⟩

def k0_cond2 (i : grid0.Coords) : BitVec 1 :=
  let arg1 : BitVec 32 := BitVec.ofNat 32 (i 1).val
  let c0_i32_4 : BitVec 32 := 0#32
  let v7 : BitVec 1 := Scalar.cmpi .eq arg1 c0_i32_4
  let v8 : BitVec 32 := Scalar.extui v7
  let c0_i32_5 : BitVec 32 := 0#32
  let v9 : BitVec 1 := Scalar.cmpi .ne v8 c0_i32_5
  v9

def k0_cond3 (i : grid0.Coords) : BitVec 1 :=
  let arg1 : BitVec 32 := BitVec.ofNat 32 (i 1).val
  let c1_i32 : BitVec 32 := 1#32
  let v10 : BitVec 1 := Scalar.cmpi .eq arg1 c1_i32
  let v11 : BitVec 32 := Scalar.extui v10
  let c0_i32_6 : BitVec 32 := 0#32
  let v12 : BitVec 1 := Scalar.cmpi .ne v11 c0_i32_6
  v12

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg1
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let c0_i32 : BitVec 32 := 0#32
  let c0_i32_0 : BitVec 32 := 0#32
  ![c32_i32.toNat, c0_i32.toNat]

def cc0_transform_4 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_5 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, c0_i32_11.toNat, v26.toNat]

def cc0_transform_8 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S128x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x16x80x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x128x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== Reference3Ideal.lean ====
abbrev S2x4096x2048 : Shape := ⟨3, ![2, 4096, 2048]⟩
abbrev S1x2048 : Shape := ⟨2, ![1, 2048]⟩
abbrev S1x2048x9296 : Shape := ⟨3, ![1, 2048, 9296]⟩
abbrev S2048 : Shape := ⟨1, ![2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S2048x9296 : Shape := ⟨2, ![2048, 9296]⟩
abbrev S2x4096x9296 : Shape := ⟨3, ![2, 4096, 9296]⟩
abbrev S2x4096x1024 : Shape := ⟨3, ![2, 4096, 1024]⟩
abbrev S2x4096x128 : Shape := ⟨3, ![2, 4096, 128]⟩
abbrev S2x1024x4096 : Shape := ⟨3, ![2, 1024, 4096]⟩
abbrev S2x128x4096 : Shape := ⟨3, ![2, 128, 4096]⟩

abbrev nBuf : Space → Nat
  | .hbm => 28
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S1x2048, .f32⟩
  | .hbm, ⟨2, _⟩ => ⟨S1x2048x9296, .f32⟩
  | .hbm, ⟨3, _⟩ => ⟨S2048, .f32⟩
  | .hbm, ⟨4, _⟩ => ⟨S2x4096x2048, .f32⟩
  | .hbm, ⟨5, _⟩ => ⟨S_, .f32⟩
  | .hbm, ⟨6, _⟩ => ⟨S2x4096, .f32⟩
  | .hbm, ⟨7, _⟩ => ⟨S2x4096x1, .f32⟩
  | .hbm, ⟨8, _⟩ => ⟨S_, .f32⟩
  | .hbm, ⟨9, _⟩ => ⟨S2x4096x1, .f32⟩
  | .hbm, ⟨10, _⟩ => ⟨S2x4096x1, .f32⟩
  | .hbm, ⟨11, _⟩ => ⟨S_, .f32⟩
  | .hbm, ⟨12, _⟩ => ⟨S2x4096x1, .f32⟩
  | .hbm, ⟨13, _⟩ => ⟨S2x4096x1, .f32⟩
  | .hbm, ⟨14, _⟩ => ⟨S2x4096x1, .f32⟩
  | .hbm, ⟨15, _⟩ => ⟨S2x4096x2048, .f32⟩
  | .hbm, ⟨16, _⟩ => ⟨S2x4096x2048, .f32⟩
  | .hbm, ⟨17, _⟩ => ⟨S1x1x2048, .f32⟩
  | .hbm, ⟨18, _⟩ => ⟨S2x4096x2048, .f32⟩
  | .hbm, ⟨19, _⟩ => ⟨S2x4096x2048, .f32⟩
  | .hbm, ⟨20, _⟩ => ⟨S2048x9296, .f32⟩
  | .hbm, ⟨21, _⟩ => ⟨S2x4096x9296, .f32⟩
  | .hbm, ⟨22, _⟩ => ⟨S2x4096x1024, .f32⟩
  | .hbm, ⟨23, _⟩ => ⟨S2x4096x1024, .f32⟩
  | .hbm, ⟨24, _⟩ => ⟨S2x4096x128, .f32⟩
  | .hbm, ⟨25, _⟩ => ⟨S2x1024x4096, .f32⟩
  | .hbm, ⟨26, _⟩ => ⟨S2x1024x4096, .f32⟩
  | .hbm, ⟨27, _⟩ => ⟨S2x128x4096, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩

abbrev nD : Nat := 1
abbrev τ : Topo := Topo.v7x

variable {F : FTy → Type} [FloatOps F]
-- ==== Kernel4.lean ====
abbrev S2x4096x2048 : Shape := ⟨3, ![2, 4096, 2048]⟩
abbrev S1x2048 : Shape := ⟨2, ![1, 2048]⟩
abbrev S1x2048x9296 : Shape := ⟨3, ![1, 2048, 9296]⟩
abbrev S2048x9296 : Shape := ⟨2, ![2048, 9296]⟩
abbrev S9296x2048 : Shape := ⟨2, ![9296, 2048]⟩
abbrev S8192x2048 : Shape := ⟨2, ![8192, 2048]⟩
abbrev S2048 : Shape := ⟨1, ![2048]⟩
abbrev S2x2x1024x4096 : Shape := ⟨4, ![2, 2, 1024, 4096]⟩
abbrev S1024x2048 : Shape := ⟨2, ![1024, 2048]⟩
abbrev S1x1x1024x1024 : Shape := ⟨4, ![1, 1, 1024, 1024]⟩
abbrev S1024 : Shape := ⟨1, ![1024]⟩
abbrev S1024x1 : Shape := ⟨2, ![1024, 1]⟩
abbrev S1024x1024 : Shape := ⟨2, ![1024, 1024]⟩

abbrev nBuf : Space → Nat
  | .hbm => 10
  | .vmem => 8
  | .smem => 0
  | _ => 0

abbrev bufTy : (tb : Table) → Fin (tcTables nBuf tb) → BufTy
  | .hbm, ⟨0, _⟩ => ⟨S2x4096x2048, .f32⟩
  | .hbm, ⟨1, _⟩ => ⟨S1x2048, .f32⟩
  | .hbm, ⟨2, _⟩ => ⟨S1x2048x9296, .f32⟩
  | .hbm, ⟨3, _⟩ => ⟨S2048x9296, .f32⟩
  | .hbm, ⟨4, _⟩ => ⟨S9296x2048, .f32⟩
  | .hbm, ⟨5, _⟩ => ⟨S9296x2048, .bf16⟩
  | .hbm, ⟨6, _⟩ => ⟨S8192x2048, .f32⟩
  | .hbm, ⟨7, _⟩ => ⟨S2048, .f32⟩
  | .hbm, ⟨8, _⟩ => ⟨S1x2048, .f32⟩
  | .hbm, ⟨9, _⟩ => ⟨S2x2x1024x4096, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1024x2048, .bf16⟩
  | .local _ .vmem, ⟨4, _⟩ => ⟨S1024x2048, .bf16⟩
  | .local _ .vmem, ⟨5, _⟩ => ⟨S1x1x1024x1024, .bf16⟩
  | .local _ .vmem, ⟨6, _⟩ => ⟨S1x1x1024x1024, .bf16⟩
  | .local _ .vmem, ⟨7, _⟩ => ⟨S1024x2048, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli c3_i32 arg1
  let c0_i32 : BitVec 32 := 0#32
  let c0_i32_0 : BitVec 32 := 0#32
  ![v0.toNat, c0_i32.toNat]

def cc0_transform_3 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![arg1.toNat, v16.toNat, c0_i32_10.toNat, v26.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S2x4096x2048 : Shape := ⟨3, ![2, 4096, 2048]⟩
abbrev S1x2048 : Shape := ⟨2, ![1, 2048]⟩
abbrev S1x2048x9296 : Shape := ⟨3, ![1, 2048, 9296]⟩
abbrev S2048 : Shape := ⟨1, ![2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S2048x9296 : Shape := ⟨2, ![2048, 9296]⟩
abbrev S2x4096x9296 : Shape := ⟨3, ![2, 4096, 9296]⟩
abbrev S2x4096x1024 : Shape := ⟨3, ![2, 4096, 1024]⟩
abbrev S1x2x4096x1024 : Shape := ⟨4, ![1, 2, 4096, 1024]⟩
abbrev S2x2x4096x1024 : Shape := ⟨4, ![2, 2, 4096, 1024]⟩
abbrev S2x2x1024x4096 : Shape := ⟨4, ![2, 2, 1024, 4096]⟩

abbrev nBuf : Space → Nat
  | .hbm => 32
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S1x2048, .f32⟩
  | .hbm, ⟨2, _⟩ => ⟨S1x2048x9296, .f32⟩
  | .hbm, ⟨3, _⟩ => ⟨S2048, .f32⟩
  | .hbm, ⟨4, _⟩ => ⟨S2x4096x2048, .f32⟩
  | .hbm, ⟨5, _⟩ => ⟨S_, .f32⟩
  | .hbm, ⟨6, _⟩ => ⟨S2x4096, .f32⟩
  | .hbm, ⟨7, _⟩ => ⟨S2x4096x1, .f32⟩
  | .hbm, ⟨8, _⟩ => ⟨S_, .f32⟩
  | .hbm, ⟨9, _⟩ => ⟨S2x4096x1, .f32⟩
  | .hbm, ⟨10, _⟩ => ⟨S2x4096x1, .f32⟩
  | .hbm, ⟨11, _⟩ => ⟨S_, .f32⟩
  | .hbm, ⟨12, _⟩ => ⟨S2x4096x1, .f32⟩
  | .hbm, ⟨13, _⟩ => ⟨S2x4096x1, .f32⟩
  | .hbm, ⟨14, _⟩ => ⟨S2x4096x1, .f32⟩
  | .hbm, ⟨15, _⟩ => ⟨S2x4096x2048, .f32⟩
  | .hbm, ⟨16, _⟩ => ⟨S2x4096x2048, .f32⟩
  | .hbm, ⟨17, _⟩ => ⟨S1x1x2048, .f32⟩
  | .hbm, ⟨18, _⟩ => ⟨S2x4096x2048, .f32⟩
  | .hbm, ⟨19, _⟩ => ⟨S2x4096x2048, .f32⟩
  | .hbm, ⟨20, _⟩ => ⟨S2048x9296, .f32⟩
  | .hbm, ⟨21, _⟩ => ⟨S2x4096x9296, .f32⟩
  | .hbm, ⟨22, _⟩ => ⟨S2x4096x1024, .f32⟩
  | .hbm, ⟨23, _⟩ => ⟨S_, .f32⟩
  | .hbm, ⟨24, _⟩ => ⟨S2x4096x1024, .f32⟩
  | .hbm, ⟨25, _⟩ => ⟨S2x4096x1024, .f32⟩
  | .hbm, ⟨26, _⟩ => ⟨S2x4096x1024, .f32⟩
  | .hbm, ⟨27, _⟩ => ⟨S1x2x4096x1024, .f32⟩
  | .hbm, ⟨28, _⟩ => ⟨S1x2x4096x1024, .f32⟩
  | .hbm, ⟨29, _⟩ => ⟨S2x2x4096x1024, .f32⟩
  | .hbm, ⟨30, _⟩ => ⟨S2x2x1024x4096, .f32⟩
  | .hbm, ⟨31, _⟩ => ⟨S2x2x1024x4096, .bf16⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩

abbrev nD : Nat := 1
abbrev τ : Topo := Topo.v7x

variable {F : FTy → Type} [FloatOps F]
-- ==== Kernel5.lean ====
abbrev S32x1x2048 : Shape := ⟨3, ![32, 1, 2048]⟩
abbrev S1x2048 : Shape := ⟨2, ![1, 2048]⟩
abbrev S1x2048x9296 : Shape := ⟨3, ![1, 2048, 9296]⟩
abbrev S2048x9296 : Shape := ⟨2, ![2048, 9296]⟩
abbrev S9296x2048 : Shape := ⟨2, ![9296, 2048]⟩
abbrev S32x2048 : Shape := ⟨2, ![32, 2048]⟩
abbrev S2048 : Shape := ⟨1, ![2048]⟩
abbrev S32x4224 : Shape := ⟨2, ![32, 4224]⟩
abbrev S384x2048 : Shape := ⟨2, ![384, 2048]⟩
abbrev S32x384 : Shape := ⟨2, ![32, 384]⟩
abbrev S32 : Shape := ⟨1, ![32]⟩
abbrev S32x1 : Shape := ⟨2, ![32, 1]⟩

abbrev nBuf : Space → Nat
  | .hbm => 10
  | .vmem => 7
  | .smem => 0
  | _ => 0

abbrev bufTy : (tb : Table) → Fin (tcTables nBuf tb) → BufTy
  | .hbm, ⟨0, _⟩ => ⟨S32x1x2048, .f32⟩
  | .hbm, ⟨1, _⟩ => ⟨S1x2048, .f32⟩
  | .hbm, ⟨2, _⟩ => ⟨S1x2048x9296, .f32⟩
  | .hbm, ⟨3, _⟩ => ⟨S2048x9296, .f32⟩
  | .hbm, ⟨4, _⟩ => ⟨S9296x2048, .f32⟩
  | .hbm, ⟨5, _⟩ => ⟨S9296x2048, .bf16⟩
  | .hbm, ⟨6, _⟩ => ⟨S32x2048, .f32⟩
  | .hbm, ⟨7, _⟩ => ⟨S2048, .f32⟩
  | .hbm, ⟨8, _⟩ => ⟨S1x2048, .f32⟩
  | .hbm, ⟨9, _⟩ => ⟨S32x4224, .f32⟩
  | .local _ .vmem, ⟨0, _⟩ => ⟨S32x2048, .f32⟩
  | .local _ .vmem, ⟨1, _⟩ => ⟨S1x2048, .f32⟩
  | .local _ .vmem, ⟨2, _⟩ => ⟨S384x2048, .bf16⟩
  | .local _ .vmem, ⟨3, _⟩ => ⟨S384x2048, .bf16⟩
  | .local _ .vmem, ⟨4, _⟩ => ⟨S32x384, .f32⟩
  | .local _ .vmem, ⟨5, _⟩ => ⟨S32x384, .f32⟩
  | .local _ .vmem, ⟨6, _⟩ => ⟨S32x2048, .bf16⟩
  | _, _ => ⟨S32x1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 11], ![false, false]⟩

def k0_mult1 (i : grid0.Coords) : BitVec 32 :=
  let c0_i32 : BitVec 32 := 0#32
  let arg1 : BitVec 32 := BitVec.ofNat 32 (i 1).val
  let c384_i32 : BitVec 32 := 384#32
  let v0 : BitVec 32 := Scalar.muli arg1 c384_i32
  let v1 : BitVec 32 := Scalar.addi c0_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c384_i32 : BitVec 32 := 384#32
  let v0 : BitVec 32 := Scalar.muli arg1 c384_i32
  let c0_i32 : BitVec 32 := 0#32
  let v1 : BitVec 32 := Scalar.addi c0_i32 v0
  let v2 : BitVec 32 := v1
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c11_i32 : BitVec 32 := 11#32
  let c0_i32_0 : BitVec 32 := 0#32
  let v1 : BitVec 1 := Scalar.cmpi .eq c11_i32 c0_i32_0
  let c1_i32 : BitVec 32 := 1#32
  let v2 : BitVec 32 := Scalar.select v1 c1_i32 c11_i32
  let v3 : BitVec 32 := Scalar.remsi v0 v2
  let c0_i32_1 : BitVec 32 := 0#32
  let v4 : BitVec 1 := Scalar.cmpi .ne v3 c0_i32_1
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let v8 : BitVec 1 := Scalar.andi v7 v4
  let v9 : BitVec 32 := Scalar.addi v3 v2
  let v10 : BitVec 32 := Scalar.select v8 v9 v3
  let c0_i32_4 : BitVec 32 := 0#32
  ![arg0.toNat, v10.toNat]

abbrev stage0_0 : Fin 1 → Memref sig .tc .vmem S32x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S384x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S32x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S32x1x2048 : Shape := ⟨3, ![32, 1, 2048]⟩
abbrev S1x2048 : Shape := ⟨2, ![1, 2048]⟩
abbrev S1x2048x9296 : Shape := ⟨3, ![1, 2048, 9296]⟩
abbrev S2048 : Shape := ⟨1, ![2048]⟩
abbrev S_ : Shape := ⟨0, ![]⟩
abbrev S32x1 : Shape := ⟨2, ![32, 1]⟩
abbrev S32x1x1 : Shape := ⟨3, ![32, 1, 1]⟩
abbrev S1x1x2048 : Shape := ⟨3, ![1, 1, 2048]⟩
abbrev S2048x9296 : Shape := ⟨2, ![2048, 9296]⟩
abbrev S32x1x9296 : Shape := ⟨3, ![32, 1, 9296]⟩
abbrev S32x1x4224 : Shape := ⟨3, ![32, 1, 4224]⟩
abbrev S32x4224 : Shape := ⟨2, ![32, 4224]⟩

abbrev nBuf : Space → Nat
  | .hbm => 24
  | .vmem => 0
  | .smem => 0
  | _ => 0

abbrev bufTy : (tb : Table) → Fin (tcTables nBuf tb) → BufTy
  | .hbm, ⟨0, _⟩ => ⟨S32x1x2048, .f32⟩
  | .hbm, ⟨1, _⟩ => ⟨S1x2048, .f32⟩
  | .hbm, ⟨2, _⟩ => ⟨S1x2048x9296, .f32⟩
  | .hbm, ⟨3, _⟩ => ⟨S2048, .f32⟩
  | .hbm, ⟨4, _⟩ => ⟨S32x1x2048, .f32⟩
  | .hbm, ⟨5, _⟩ => ⟨S_, .f32⟩
  | .hbm, ⟨6, _⟩ => ⟨S32x1, .f32⟩
  | .hbm, ⟨7, _⟩ => ⟨S32x1x1, .f32⟩
  | .hbm, ⟨8, _⟩ => ⟨S_, .f32⟩
  | .hbm, ⟨9, _⟩ => ⟨S32x1x1, .f32⟩
  | .hbm, ⟨10, _⟩ => ⟨S32x1x1, .f32⟩
  | .hbm, ⟨11, _⟩ => ⟨S_, .f32⟩
  | .hbm, ⟨12, _⟩ => ⟨S32x1x1, .f32⟩
  | .hbm, ⟨13, _⟩ => ⟨S32x1x1, .f32⟩
  | .hbm, ⟨14, _⟩ => ⟨S32x1x1, .f32⟩
  | .hbm, ⟨15, _⟩ => ⟨S32x1x2048, .f32⟩
  | .hbm, ⟨16, _⟩ => ⟨S32x1x2048, .f32⟩
  | .hbm, ⟨17, _⟩ => ⟨S1x1x2048, .f32⟩
  | .hbm, ⟨18, _⟩ => ⟨S32x1x2048, .f32⟩
  | .hbm, ⟨19, _⟩ => ⟨S32x1x2048, .f32⟩
  | .hbm, ⟨20, _⟩ => ⟨S2048x9296, .f32⟩
  | .hbm, ⟨21, _⟩ => ⟨S32x1x9296, .f32⟩
  | .hbm, ⟨22, _⟩ => ⟨S32x1x4224, .f32⟩
  | .hbm, ⟨23, _⟩ => ⟨S32x4224, .f32⟩
  | _, _ => ⟨S32x1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Kernel6.lean ====
abbrev S32x1x2048 : Shape := ⟨3, ![32, 1, 2048]⟩
abbrev S1x2048 : Shape := ⟨2, ![1, 2048]⟩
abbrev S1x2048x9296 : Shape := ⟨3, ![1, 2048, 9296]⟩
abbrev S2048x9296 : Shape := ⟨2, ![2048, 9296]⟩
abbrev S9296x2048 : Shape := ⟨2, ![9296, 2048]⟩
abbrev S32x2048 : Shape := ⟨2, ![32, 2048]⟩
abbrev S2048 : Shape := ⟨1, ![2048]⟩
abbrev S32x5120 : Shape := ⟨2, ![32, 5120]⟩
abbrev S1024x2048 : Shape := ⟨2, ![1024, 2048]⟩
abbrev S32x1024 : Shape := ⟨2, ![32, 1024]⟩
abbrev S32 : Shape := ⟨1, ![32]⟩
abbrev S32x1 : Shape := ⟨2, ![32, 1]⟩

abbrev nBuf : Space → Nat
  | .hbm => 10
  | .vmem => 7
  | .smem => 0
  | _ => 0

abbrev bufTy : (tb : Table) → Fin (tcTables nBuf tb) → BufTy
  | .hbm, ⟨0, _⟩ => ⟨S32x1x2048, .f32⟩
  | .hbm, ⟨1, _⟩ => ⟨S1x2048, .f32⟩
  | .hbm, ⟨2, _⟩ => ⟨S1x2048x9296, .f32⟩
  | .hbm, ⟨3, _⟩ => ⟨S2048x9296, .f32⟩
  | .hbm, ⟨4, _⟩ => ⟨S9296x2048, .f32⟩
  | .hbm, ⟨5, _⟩ => ⟨S9296x2048, .bf16⟩
  | .hbm, ⟨6, _⟩ => ⟨S32x2048, .f32⟩
  | .hbm, ⟨7, _⟩ => ⟨S2048, .f32⟩
  | .hbm, ⟨8, _⟩ => ⟨S1x2048, .f32⟩
  | .hbm, ⟨9, _⟩ => ⟨S32x5120, .f32⟩
  | .local _ .vmem, ⟨0, _⟩ => ⟨S32x2048, .f32⟩
  | .local _ .vmem, ⟨1, _⟩ => ⟨S1x2048, .f32⟩
  | .local _ .vmem, ⟨2, _⟩ => ⟨S1024x2048, .bf16⟩
  | .local _ .vmem, ⟨3, _⟩ => ⟨S1024x2048, .bf16⟩
  | .local _ .vmem, ⟨4, _⟩ => ⟨S32x1024, .f32⟩
  | .local _ .vmem, ⟨5, _⟩ => ⟨S32x1024, .f32⟩
  | .local _ .vmem, ⟨6, _⟩ => ⟨S32x2048, .bf16⟩
  | _, _ => ⟨S32x1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 5], ![false, false]⟩

def k0_mult1 (i : grid0.Coords) : BitVec 32 :=
  let c4176_i32 : BitVec 32 := 4176#32
  let arg1 : BitVec 32 := BitVec.ofNat 32 (i 1).val
  let c1024_i32 : BitVec 32 := 1024#32
  let v0 : BitVec 32 := Scalar.muli arg1 c1024_i32
  let v1 : BitVec 32 := Scalar.addi c4176_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c1024_i32 : BitVec 32 := 1024#32
  let v0 : BitVec 32 := Scalar.muli arg1 c1024_i32
  let c4176_i32 : BitVec 32 := 4176#32
  let v1 : BitVec 32 := Scalar.addi c4176_i32 v0
  let v2 : BitVec 32 := v1
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c5_i32 : BitVec 32 := 5#32
  let c0_i32 : BitVec 32 := 0#32
  let v1 : BitVec 1 := Scalar.cmpi .eq c5_i32 c0_i32
  let c1_i32 : BitVec 32 := 1#32
  let v2 : BitVec 32 := Scalar.select v1 c1_i32 c5_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  ![arg0.toNat, v10.toNat]

abbrev stage0_0 : Fin 1 → Memref sig .tc .vmem S32x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference6Ideal.lean ====
abbrev S32x1x2048 : Shape := ⟨3, ![32, 1, 2048]⟩
abbrev S1x2048 : Shape := ⟨2, ![1, 2048]⟩
abbrev S1x2048x9296 : Shape := ⟨3, ![1, 2048, 9296]⟩
abbrev S2048 : Shape := ⟨1, ![2048]⟩
abbrev S_ : Shape := ⟨0, ![]⟩
abbrev S32x1 : Shape := ⟨2, ![32, 1]⟩
abbrev S32x1x1 : Shape := ⟨3, ![32, 1, 1]⟩
abbrev S1x1x2048 : Shape := ⟨3, ![1, 1, 2048]⟩
abbrev S2048x9296 : Shape := ⟨2, ![2048, 9296]⟩
abbrev S32x1x9296 : Shape := ⟨3, ![32, 1, 9296]⟩
abbrev S32x1x1024 : Shape := ⟨3, ![32, 1, 1024]⟩
abbrev S32x1024 : Shape := ⟨2, ![32, 1024]⟩
abbrev S32x2048 : Shape := ⟨2, ![32, 2048]⟩
abbrev S32x5120 : Shape := ⟨2, ![32, 5120]⟩

abbrev nBuf : Space → Nat
  | .hbm => 29
  | .vmem => 0
  | .smem => 0
  | _ => 0

abbrev bufTy : (tb : Table) → Fin (tcTables nBuf tb) → BufTy
  | .hbm, ⟨0, _⟩ => ⟨S32x1x2048, .f32⟩
  | .hbm, ⟨1, _⟩ => ⟨S1x2048, .f32⟩
  | .hbm, ⟨2, _⟩ => ⟨S1x2048x9296, .f32⟩
  | .hbm, ⟨3, _⟩ => ⟨S2048, .f32⟩
  | .hbm, ⟨4, _⟩ => ⟨S32x1x2048, .f32⟩
  | .hbm, ⟨5, _⟩ => ⟨S_, .f32⟩
  | .hbm, ⟨6, _⟩ => ⟨S32x1, .f32⟩
  | .hbm, ⟨7, _⟩ => ⟨S32x1x1, .f32⟩
  | .hbm, ⟨8, _⟩ => ⟨S_, .f32⟩
  | .hbm, ⟨9, _⟩ => ⟨S32x1x1, .f32⟩
  | .hbm, ⟨10, _⟩ => ⟨S32x1x1, .f32⟩
  | .hbm, ⟨11, _⟩ => ⟨S_, .f32⟩
  | .hbm, ⟨12, _⟩ => ⟨S32x1x1, .f32⟩
  | .hbm, ⟨13, _⟩ => ⟨S32x1x1, .f32⟩
  | .hbm, ⟨14, _⟩ => ⟨S32x1x1, .f32⟩
  | .hbm, ⟨15, _⟩ => ⟨S32x1x2048, .f32⟩
  | .hbm, ⟨16, _⟩ => ⟨S32x1x2048, .f32⟩
  | .hbm, ⟨17, _⟩ => ⟨S1x1x2048, .f32⟩
  | .hbm, ⟨18, _⟩ => ⟨S32x1x2048, .f32⟩
  | .hbm, ⟨19, _⟩ => ⟨S32x1x2048, .f32⟩
  | .hbm, ⟨20, _⟩ => ⟨S2048x9296, .f32⟩
  | .hbm, ⟨21, _⟩ => ⟨S32x1x9296, .f32⟩
  | .hbm, ⟨22, _⟩ => ⟨S32x1x1024, .f32⟩
  | .hbm, ⟨23, _⟩ => ⟨S32x1024, .f32⟩
  | .hbm, ⟨24, _⟩ => ⟨S32x1x2048, .f32⟩
  | .hbm, ⟨25, _⟩ => ⟨S32x2048, .f32⟩
  | .hbm, ⟨26, _⟩ => ⟨S32x1x2048, .f32⟩
  | .hbm, ⟨27, _⟩ => ⟨S32x2048, .f32⟩
  | .hbm, ⟨28, _⟩ => ⟨S32x5120, .f32⟩
  | _, _ => ⟨S32x1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩

abbrev nD : Nat := 1
abbrev τ : Topo := Topo.v7x

variable {F : FTy → Type} [FloatOps F]
-- ==== Kernel7.lean ====
abbrev S32x2048 : Shape := ⟨2, ![32, 2048]⟩
abbrev S1x2048x8192 : Shape := ⟨3, ![1, 2048, 8192]⟩
abbrev S1x8192x2048 : Shape := ⟨3, ![1, 8192, 2048]⟩
abbrev S2048 : Shape := ⟨1, ![2048]⟩
abbrev S2048x8192 : Shape := ⟨2, ![2048, 8192]⟩
abbrev S8192x2048 : Shape := ⟨2, ![8192, 2048]⟩
abbrev S1x2048 : Shape := ⟨2, ![1, 2048]⟩
abbrev S2048x512 : Shape := ⟨2, ![2048, 512]⟩
abbrev S512x2048 : Shape := ⟨2, ![512, 2048]⟩
abbrev S32x512 : Shape := ⟨2, ![32, 512]⟩
abbrev S32 : Shape := ⟨1, ![32]⟩
abbrev S32x1 : Shape := ⟨2, ![32, 1]⟩

abbrev nBuf : Space → Nat
  | .hbm => 11
  | .vmem => 9
  | .smem => 0
  | _ => 0

abbrev bufTy : (tb : Table) → Fin (tcTables nBuf tb) → BufTy
  | .hbm, ⟨0, _⟩ => ⟨S32x2048, .bf16⟩
  | .hbm, ⟨1, _⟩ => ⟨S32x2048, .f32⟩
  | .hbm, ⟨2, _⟩ => ⟨S1x2048x8192, .f32⟩
  | .hbm, ⟨3, _⟩ => ⟨S1x8192x2048, .f32⟩
  | .hbm, ⟨4, _⟩ => ⟨S2048, .f32⟩
  | .hbm, ⟨5, _⟩ => ⟨S2048x8192, .f32⟩
  | .hbm, ⟨6, _⟩ => ⟨S2048x8192, .bf16⟩
  | .hbm, ⟨7, _⟩ => ⟨S8192x2048, .f32⟩
  | .hbm, ⟨8, _⟩ => ⟨S8192x2048, .bf16⟩
  | .hbm, ⟨9, _⟩ => ⟨S1x2048, .f32⟩
  | .hbm, ⟨10, _⟩ => ⟨S32x2048, .f32⟩
  | .local _ .vmem, ⟨0, _⟩ => ⟨S32x2048, .bf16⟩
  | .local _ .vmem, ⟨1, _⟩ => ⟨S32x2048, .f32⟩
  | .local _ .vmem, ⟨2, _⟩ => ⟨S2048x512, .bf16⟩
  | .local _ .vmem, ⟨3, _⟩ => ⟨S2048x512, .bf16⟩
  | .local _ .vmem, ⟨4, _⟩ => ⟨S512x2048, .bf16⟩
  | .local _ .vmem, ⟨5, _⟩ => ⟨S512x2048, .bf16⟩
  | .local _ .vmem, ⟨6, _⟩ => ⟨S1x2048, .f32⟩
  | .local _ .vmem, ⟨7, _⟩ => ⟨S32x2048, .f32⟩
  | .local _ .vmem, ⟨8, _⟩ => ⟨S32x2048, .f32⟩
  | _, _ => ⟨S32x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7

abbrev nD : Nat := 1
abbrev τ : Topo := Topo.v7x

variable {F : FTy → Type} [FloatOps F]

abbrev grid0 : Pipeline.Grid := ⟨2, ![1, 16], ![false, false]⟩

def k0_cond2 (i : grid0.Coords) : BitVec 1 :=
  let arg1 : BitVec 32 := BitVec.ofNat 32 (i 1).val
  let c15_i32 : BitVec 32 := 15#32
  let v19 : BitVec 1 := Scalar.cmpi .eq arg1 c15_i32
  let v20 : BitVec 32 := Scalar.extui v19
  let c0_i32_12 : BitVec 32 := 0#32
  let v21 : BitVec 1 := Scalar.cmpi .ne v20 c0_i32_12
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S32x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S32x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S32x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]
-- ==== Reference7Ideal.lean ====
abbrev S32x2048 : Shape := ⟨2, ![32, 2048]⟩
abbrev S1x2048x8192 : Shape := ⟨3, ![1, 2048, 8192]⟩
abbrev S1x8192x2048 : Shape := ⟨3, ![1, 8192, 2048]⟩
abbrev S2048 : Shape := ⟨1, ![2048]⟩
abbrev S2048x8192 : Shape := ⟨2, ![2048, 8192]⟩
abbrev S32x8192 : Shape := ⟨2, ![32, 8192]⟩
abbrev S_ : Shape := ⟨0, ![]⟩
abbrev S8192x2048 : Shape := ⟨2, ![8192, 2048]⟩
abbrev S32 : Shape := ⟨1, ![32]⟩
abbrev S32x1 : Shape := ⟨2, ![32, 1]⟩
abbrev S1x2048 : Shape := ⟨2, ![1, 2048]⟩

abbrev nBuf : Space → Nat
  | .hbm => 31
  | .vmem => 0
  | .smem => 0
  | _ => 0

abbrev bufTy : (tb : Table) → Fin (tcTables nBuf tb) → BufTy
  | .hbm, ⟨0, _⟩ => ⟨S32x2048, .bf16⟩
  | .hbm, ⟨1, _⟩ => ⟨S32x2048, .f32⟩
  | .hbm, ⟨2, _⟩ => ⟨S1x2048x8192, .f32⟩
  | .hbm, ⟨3, _⟩ => ⟨S1x8192x2048, .f32⟩
  | .hbm, ⟨4, _⟩ => ⟨S2048, .f32⟩
  | .hbm, ⟨5, _⟩ => ⟨S32x2048, .f32⟩
  | .hbm, ⟨6, _⟩ => ⟨S2048x8192, .f32⟩
  | .hbm, ⟨7, _⟩ => ⟨S32x8192, .f32⟩
  | .hbm, ⟨8, _⟩ => ⟨S_, .f32⟩
  | .hbm, ⟨9, _⟩ => ⟨S32x8192, .f32⟩
  | .hbm, ⟨10, _⟩ => ⟨S32x8192, .f32⟩
  | .hbm, ⟨11, _⟩ => ⟨S32x8192, .f32⟩
  | .hbm, ⟨12, _⟩ => ⟨S8192x2048, .f32⟩
  | .hbm, ⟨13, _⟩ => ⟨S32x2048, .f32⟩
  | .hbm, ⟨14, _⟩ => ⟨S32x2048, .f32⟩
  | .hbm, ⟨15, _⟩ => ⟨S32x2048, .f32⟩
  | .hbm, ⟨16, _⟩ => ⟨S_, .f32⟩
  | .hbm, ⟨17, _⟩ => ⟨S32, .f32⟩
  | .hbm, ⟨18, _⟩ => ⟨S32x1, .f32⟩
  | .hbm, ⟨19, _⟩ => ⟨S_, .f32⟩
  | .hbm, ⟨20, _⟩ => ⟨S32x1, .f32⟩
  | .hbm, ⟨21, _⟩ => ⟨S32x1, .f32⟩
  | .hbm, ⟨22, _⟩ => ⟨S_, .f32⟩
  | .hbm, ⟨23, _⟩ => ⟨S32x1, .f32⟩
  | .hbm, ⟨24, _⟩ => ⟨S32x1, .f32⟩
  | .hbm, ⟨25, _⟩ => ⟨S32x1, .f32⟩
  | .hbm, ⟨26, _⟩ => ⟨S32x2048, .f32⟩
  | .hbm, ⟨27, _⟩ => ⟨S32x2048, .f32⟩
  | .hbm, ⟨28, _⟩ => ⟨S1x2048, .f32⟩
  | .hbm, ⟨29, _⟩ => ⟨S32x2048, .f32⟩
  | .hbm, ⟨30, _⟩ => ⟨S32x2048, .f32⟩
  | _, _ => ⟨S32x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_cst : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩

abbrev nD : Nat := 1
abbrev τ : Topo := Topo.v7x

variable {F : FTy → Type} [FloatOps F]
-- ==== Proof.Rows.lean ====
/- The normalized rows and the projection that the kernels and the references of this directory compute, over the extended reals. -/
module

public import Idealize.ShloMosaic.Lib.Pointwise

@[expose] public section

noncomputable section

namespace Cert.Proof.Rows

open Idealize.ShloMosaic

/-- One entry of a row scaled to unit mean square: `x`, the row's entry; `ss`, the row's sum of squares; `g`, the column's gain. -/
def normed (x ss g : EReal) : EReal :=
  x * Ideal.rsqrt (Ideal.div ss (Ideal.ofBits .f32 0x45000000#32) + Ideal.ofBits .f32 0x358637BD#32) * g

/-- The normalized row's product with a column `w`. -/
def projected {K : ℕ} (x g w : Fin K → EReal) : EReal :=
  ∑ k, normed (x k) (∑ q, x q * x q) (g k) * w k

theorem projected_congr {K : ℕ} {x x' g g' w w' : Fin K → EReal} (hx : ∀ k, x k = x' k) (hg : ∀ k, g k = g' k)
    (hw : ∀ k, w k = w' k) : projected x g w = projected x' g' w' := by
  rw [funext hx, funext hg, funext hw]

/-- The column of the weights that column `n` of a tail projection's result is of: the gates' columns come first. -/
def col (n : ℕ) : ℕ := if n < 4096 then 5200 + n else n + 80

theorem col_lt {n : ℕ} (h : n < 5120) : col n < 9296 := by unfold col; split <;> omega

theorem zeros2 : (![0, 0] : Fin 2 → Nat) = fun _ => 0 := funext fun a => by fin_cases a <;> rfl

end Cert.Proof.Rows

end
-- ==== Proof.TailKernel.lean ====
/- What the projection of the prompt's gates and pooled vectors leaves in its result array, read at an index. -/
module

public import proofs.«01_k».proof.Proof.Gen.KernelIdeal.Value
public import proofs.«01_k».proof.Proof.Rows
public import Idealize.ShloMosaic.Lib.StableHlo.ReadAt

@[expose] public section

noncomputable section

namespace Cert.Proof.Tail

open Idealize.ShloMosaic Idealize.ShloMosaic.TcCoe Idealize.SL.Sem Cert.KernelIdeal Cert.KernelIdeal.Gen Cert.Proof.Rows

/-! ## One point's block -/

/-- The stored rows, read at an index. -/
theorem rows_apply (x : Vec Ideal S1024x2048 .f32) (g : Vec Ideal S1x2048 .f32) (r : Fin 1024) (k : Fin 2048) :
    k0_pay1 x g (ix2 r k) = normed (x (ix2 r k)) (∑ q : Fin 2048, x (ix2 r q) * x (ix2 r q)) (g (ix2 0 k)) := by
  pointwise [k0_pay1]; rfl

/-- The stored product, read at an index: row `r` of the rows against row `q` of the weights. -/
theorem prod_apply (z w : Vec Ideal S1024x2048 .bf16) (r q : Fin 1024) :
    k0_pay2 z w (ix2 r q) = ∑ k : Fin 2048, z (ix2 r k) * w (ix2 q k) := by
  pointwise [k0_pay2]

section Found
variable (c : Dev nD) (i : grid0.Coords) (a2 : Memref sig .tc .vmem S1024x2048 .f32) (h2 : a2.IsWhole)
  (a3 : Memref sig .tc .vmem S1x2048 .f32) (h3 : a3.IsWhole) (a4 : Memref sig .tc .vmem S1024x2048 .bf16) (h4 : a4.IsWhole)
  (a5 : Memref sig .tc .vmem S1024x1024 .f32) (h5 : a5.IsWhole) (a6 : Memref sig .tc .vmem S1024x2048 .bf16) (h6 : a6.IsWhole)
  (x : Vec Ideal S1024x2048 .f32) (g : Vec Ideal S1x2048 .f32) (w z : Vec Ideal S1024x2048 .bf16)

/-- A row tile's first point leaves its normalized rows in the scratch. -/
theorem scratch_first (hc : cond0_0 i) :
    sout0_A_0 c i a2 h2 a3 h3 a4 h4 a5 h5 a6 h6 hc x g w = k0_pay1 x g := by
  unfold sout0_A_0
  rw [View.read_writes_eq_canon _ _ _ (scover0_A_0 c i a2 h2 a3 h3 a4 h4 a5 h5 a6 h6 hc x g w)]
  unfold kernelRun0_A
  dsimp only
  sl_unfold_words
  rw [View.canon_unit_zero zeros2]
  simp only [View.readAt_eq_ld, h2.read_unread, h3.read_unread, View.ld_unit_zero (S := S1024x2048) zeros2, View.ld_unit_zero (S := S1x2048) zeros2]

/-- That point's block of the result is the product of those rows. -/
theorem block_first (hc : cond0_0 i) :
    out0_A_3 c i a2 h2 a3 h3 a4 h4 a5 h5 a6 h6 hc x g w = k0_pay2 (k0_pay1 x g) w := by
  unfold out0_A_3
  rw [View.read_writes_eq_canon _ _ _ (cover0_A_3 c i a2 h2 a3 h3 a4 h4 a5 h5 a6 h6 hc x g w)]
  unfold kernelRun0_A
  dsimp only
  sl_unfold_words
  rw [View.canon_unit_zero zeros2]
  simp only [View.readCov_unit_zero (S := S1024x2048) _ zeros2, View.readAt_eq_ld, h2.read_unread, h3.read_unread, h4.read_unread, View.ld_unit_zero (S := S1024x2048) zeros2, View.ld_unit_zero (S := S1x2048) zeros2]

/-- A later point's block of the result is the product of the rows the scratch holds. -/
theorem block_later (hc : ¬cond0_0 i) :
    out0_B_3 c i a2 h2 a3 h3 a4 h4 a5 h5 a6 h6 hc x g w z = k0_pay2 z w := by
  unfold out0_B_3
  rw [View.read_writes_eq_canon _ _ _ (cover0_B_3 c i a2 h2 a3 h3 a4 h4 a5 h5 a6 h6 hc x g w z)]
  unfold kernelRun0_B
  dsimp only
  try sl_unfold_words
  rw [View.canon_unit_zero zeros2]
  simp only [View.readAt_eq_ld, h4.read_unread, h6.read_unread, View.ld_unit_zero (S := S1024x2048) zeros2]

end Found

/-! ## The blocks the windows read -/

variable (m : (ℓ : Loc nD τ sig) → Buf (Elt Ideal) ℓ)

theorem index0 : ∀ t : Fin cfg0.N, win0_0.index t 0 = t.val / 5 ∧ win0_0.index t 1 = 0 :=
  (by decide +kernel : ∀ t : Fin grid0.N, win0_0.index t 0 = t.val / 5 ∧ win0_0.index t 1 = 0)
theorem index1 : ∀ t : Fin cfg0.N, win0_1.index t 0 = 0 ∧ win0_1.index t 1 = 0 :=
  (by decide +kernel : ∀ t : Fin grid0.N, win0_1.index t 0 = 0 ∧ win0_1.index t 1 = 0)
theorem index2 : ∀ t : Fin cfg0.N, win0_2.index t 0 = 4176 + t.val % 5 * 1024 ∧ win0_2.index t 1 = 0 :=
  (by decide +kernel : ∀ t : Fin grid0.N, win0_2.index t 0 = 4176 + t.val % 5 * 1024 ∧ win0_2.index t 1 = 0)
theorem index3 : ∀ t : Fin cfg0.N, win0_3.index t 0 = t.val / 5 ∧ win0_3.index t 1 = (t.val % 5 + 4) % 5 :=
  (by decide +kernel : ∀ t : Fin grid0.N, win0_3.index t 0 = t.val / 5 ∧ win0_3.index t 1 = (t.val % 5 + 4) % 5)

theorem lt40 (t : Fin cfg0.N) : t.val < 40 := lt_of_lt_of_eq t.isLt N_0

/-- The first argument's rows, as one array of 8192 rows. -/
def xAt (c : Dev nD) (r : ℕ) (hr : r < 8192) (k : Fin 2048) : EReal :=
  (m ((c : Thread nD τ).loc main_arg0) : S2x4096x2048.Idx → EReal) (ix3 ⟨r / 4096, by omega⟩ ⟨r % 4096, by omega⟩ k)
def gAt (c : Dev nD) (k : Fin 2048) : EReal := (m ((c : Thread nD τ).loc main_arg1) : S1x2048.Idx → EReal) (ix2 0 k)
def wAt (c : Dev nD) (k : Fin 2048) (n : ℕ) (hn : n < 9296) : EReal :=
  (m ((c : Thread nD τ).loc main_arg2) : S1x2048x9296.Idx → EReal) (ix3 0 k ⟨n, hn⟩)

theorem xAt_congr (c : Dev nD) {r r' : ℕ} {hr : r < 8192} {hr' : r' < 8192} (h : r = r') (k : Fin 2048) : xAt m c r hr k = xAt m c r' hr' k := by
  subst h; rfl
theorem wAt_congr (c : Dev nD) (k : Fin 2048) {n n' : ℕ} {hn : n < 9296} {hn' : n' < 9296} (h : n = n') : wAt m c k n hn = wAt m c k n' hn' := by
  subst h; rfl

theorem V5_apply (c : Dev nD) (j : S8192x2048.Idx) :
    (V m c main_v5 : S8192x2048.Idx → EReal) j = xAt m c (j 0).val (j 0).isLt (j 1) := by
  unfold V
  after_reads_at
  rfl
theorem V4_apply (c : Dev nD) (j : S1x2048.Idx) :
    (V m c main_v4 : S1x2048.Idx → EReal) j = gAt m c (j 1) := by
  unfold V
  after_reads_at
  rfl
theorem V2_apply (c : Dev nD) (j : S9296x2048.Idx) :
    (V m c main_v2 : S9296x2048.Idx → EReal) j = wAt m c (j 1) (j 0).val (j 0).isLt := by
  unfold V
  after_reads_at
  rfl

theorem x_block (c : Dev nD) (t : Fin cfg0.N) (r : Fin 1024) (k : Fin 2048) :
    (iblk m c 0 t : S1024x2048.Idx → EReal) (ix2 r k) = xAt m c (t.val / 5 * 1024 + r.val) (by have := lt40 t; omega) k := by
  unfold iblk
  rw [View.read_apply]
  show (V m c main_v5 : S8192x2048.Idx → EReal) ((win0_0.rect t).emb (ix2 r k)) = _
  rw [V5_apply]
  have h0 : ((win0_0.rect t).emb (ix2 r k) 0 : Nat) = t.val / 5 * 1024 + r.val := by
    rw [win0_0.rect_emb_val t (ix2 r k) 0, (index0 t).1]; rfl
  have h1 : (win0_0.rect t).emb (ix2 r k) 1 = k := Fin.ext (win0_0.rect_emb_val_of_index_zero t 1 (index0 t).2 (ix2 r k))
  unfold xAt
  simp only [h0, h1]

theorem g_block (c : Dev nD) (t : Fin cfg0.N) (k : Fin 2048) :
    (iblk m c 1 t : S1x2048.Idx → EReal) (ix2 0 k) = gAt m c k := by
  unfold iblk
  rw [View.read_apply]
  show (V m c main_v4 : S1x2048.Idx → EReal) ((win0_1.rect t).emb (ix2 0 k)) = _
  rw [V4_apply]
  exact congrArg (gAt m c) (Fin.ext (win0_1.rect_emb_val_of_index_zero t 1 (index1 t).2 (ix2 0 k)))

theorem w_block (c : Dev nD) (t : Fin cfg0.N) (q : Fin 1024) (k : Fin 2048) :
    (iblk m c 2 t : S1024x2048.Idx → EReal) (ix2 q k)
      = wAt m c k (4176 + t.val % 5 * 1024 + q.val) (by omega) := by
  unfold iblk
  rw [View.read_apply]
  show (V m c main_v2 : S9296x2048.Idx → EReal) ((win0_2.rect t).emb (ix2 q k)) = _
  rw [V2_apply]
  have h0 : ((win0_2.rect t).emb (ix2 q k) 0 : Nat) = 4176 + t.val % 5 * 1024 + q.val := by
    rw [win0_2.rect_emb_val_off t (ix2 q k) 0, (index2 t).1]; rfl
  have h1 : (win0_2.rect t).emb (ix2 q k) 1 = k := Fin.ext (win0_2.rect_emb_val_of_index_zero t 1 (index2 t).2 (ix2 q k))
  simp only [h0, h1]

/-! ## The scratch and the result's blocks at any point -/

theorem step_first (c : Dev nD) (t : Fin cfg0.N) (h0 : t.val % 5 = 0) :
    outsAt0 m c t.val t.isLt = (k0_pay2 (k0_pay1 (iblk m c 0 t) (iblk m c 1 t)) (iblk m c 2 t), k0_pay1 (iblk m c 0 t) (iblk m c 1 t)) := by
  rw [outsAt0_A m c t h0, scratch_first, block_first]

theorem step_later (c : Dev nD) (t : Fin cfg0.N) (h0 : ¬t.val % 5 = 0) (h : t.val - 1 < cfg0.N) :
    outsAt0 m c t.val t.isLt = (k0_pay2 (outsAt0 m c (t.val - 1) h).2 (iblk m c 2 t), (outsAt0 m c (t.val - 1) h).2) := by
  rw [outsAt0_B m c t h0, block_later]; rfl

/-- The normalized rows, as one array of 8192 rows. -/
def rowAt (c : Dev nD) (r : ℕ) (hr : r < 8192) (k : Fin 2048) : EReal :=
  normed (xAt m c r hr k) (∑ q : Fin 2048, xAt m c r hr q * xAt m c r hr q) (gAt m c k)

theorem rows_block (c : Dev nD) (t : Fin cfg0.N) (r : Fin 1024) (k : Fin 2048) :
    k0_pay1 (iblk m c 0 t) (iblk m c 1 t) (ix2 r k) = rowAt m c (t.val / 5 * 1024 + r.val) (by have := lt40 t; omega) k := by
  refine (rows_apply _ _ r k).trans ?_
  simp only [x_block, g_block, rowAt]

/-- After any point the scratch holds the normalized rows of the point's row tile. -/
theorem scratch_at (c : Dev nD) : ∀ (n : ℕ) (h : n < cfg0.N) (hr : n < 40) (r : Fin 1024) (k : Fin 2048),
    (outsAt0 m c n h).2 (ix2 r k) = rowAt m c (n / 5 * 1024 + r.val) (by omega) k := by
  intro n
  induction n with
  | zero =>
    intro h hr r k
    exact (congrFun (congrArg Prod.snd (step_first m c ⟨0, h⟩ (Nat.zero_mod 5))) (ix2 r k)).trans (rows_block m c ⟨0, h⟩ r k)
  | succ n ih =>
    intro h hr r k
    by_cases h0 : (n + 1) % 5 = 0
    · exact (congrFun (congrArg Prod.snd (step_first m c ⟨n + 1, h⟩ h0)) (ix2 r k)).trans (rows_block m c ⟨n + 1, h⟩ r k)
    · refine (congrFun (congrArg Prod.snd (step_later m c ⟨n + 1, h⟩ h0 (Nat.lt_of_succ_lt h))) (ix2 r k)).trans
        ((ih (Nat.lt_of_succ_lt h) (by omega) r k).trans ?_)
      simp only [show (n + 1) / 5 = n / 5 by omega]

/-- What a point leaves in its block of the result: the product of the rows the scratch then holds. -/
theorem step_prod (c : Dev nD) (t : Fin cfg0.N) :
    (outsAt0 m c t.val t.isLt).1 = k0_pay2 (outsAt0 m c t.val t.isLt).2 (iblk m c 2 t) := by
  by_cases h0 : t.val % 5 = 0
  · rw [step_first m c t h0]
  · rw [step_later m c t h0 (Nat.lt_of_le_of_lt (Nat.sub_le _ _) t.isLt)]

theorem block_at (c : Dev nD) (t : Fin cfg0.N) (r q : Fin 1024) :
    (outsAt0 m c t.val t.isLt).1 (ix2 r q)
      = projected (xAt m c (t.val / 5 * 1024 + r.val) (by have := lt40 t; omega)) (gAt m c)
          (fun k => wAt m c k (4176 + t.val % 5 * 1024 + q.val) (by omega)) := by
  refine (congrFun (step_prod m c t) (ix2 r q)).trans ((prod_apply _ _ r q).trans (Finset.sum_congr rfl fun k _ => ?_))
  exact congrArg₂ (fun a b : EReal => a * b) (scratch_at m c t.val t.isLt (lt40 t) r k) (w_block m c t q k)

/-! ## The result array -/

/-- The result array: each row's normalization against each of the weights' columns. -/
def result (c : Dev nD) : S8192x5120.Idx → EReal := fun i =>
  projected (xAt m c (i 0).val (i 0).isLt) (gAt m c) (fun k => wAt m c k (col (i 1).val) (col_lt (i 1).isLt))

theorem flushed_eq (c : Dev nD) (t : Fin cfg0.N) :
    (dats m 0 c).flushed 3 t = ((cfg0.win 3).blk t).view.read (Elt Ideal) (result m c) := by
  rw [Value.flushed3]
  refine funext fun (y : S1024x1024.Idx) => ?_
  obtain ⟨r, q, rfl⟩ : ∃ (r q : Fin 1024), y = ix2 r q := ⟨y 0, y 1, eq_ix2 y⟩
  rw [View.read_apply]
  show (outsAt0 m c t.val t.isLt).1 (ix2 r q) = result m c ((win0_3.rect t).emb (ix2 r q))
  rw [block_at]
  have ht := lt40 t
  have h0 : ((win0_3.rect t).emb (ix2 r q) 0 : Nat) = t.val / 5 * 1024 + r.val := by
    rw [win0_3.rect_emb_val t (ix2 r q) 0, (index3 t).1]; rfl
  have h1 : ((win0_3.rect t).emb (ix2 r q) 1 : Nat) = (t.val % 5 + 4) % 5 * 1024 + q.val := by
    rw [win0_3.rect_emb_val t (ix2 r q) 1, (index3 t).2]; rfl
  have hc : col ((win0_3.rect t).emb (ix2 r q) 1 : Nat) = 4176 + t.val % 5 * 1024 + q.val := by
    rw [h1]; unfold col; split <;> omega
  refine projected_congr (fun k => ?_) (fun _ => rfl) (fun k => ?_)
  · exact xAt_congr m c h0.symm k
  · exact wAt_congr m c k hc.symm

theorem mem_block (t : Fin cfg0.N) (i : S8192x5120.Idx) :
    i ∈ ((cfg0.win 3).blk t).view.set ↔ ∀ a : Fin 2, win0_3.index t a * win0_3.size a ≤ (i a : Nat) ∧ (i a : Nat) < win0_3.index t a * win0_3.size a + win0_3.xsize (grid0.coords t) a := by
  show i ∈ ((View.whole main_v6).slice (win0_3.rect t)).set ↔ _
  rw [View.set_slice_whole, Rect.mem_set_unit]
  exact Iff.rfl

theorem flush_all : ∀ t : Fin cfg0.N, (cfg0.win 3).flush t = true :=
  (by decide +kernel : ∀ t : Fin grid0.N, win0_3.flush t = true)

theorem final (c : Dev nD) : (dats m 0 c).arrAt 3 cfg0.N = result m c :=
  (dats m 0 c).arrAt_eq_of_cover 3 (result m c) (fun t _ => flushed_eq m c t) fun (i : S8192x5120.Idx) => by
    have h0 : (i 0).val < 8192 := (i 0).isLt
    have h1 : (i 1).val < 5120 := (i 1).isLt
    have hN : cfg0.N = 40 := N_0
    let t : Fin cfg0.N := ⟨(i 0).val / 1024 * 5 + ((i 1).val / 1024 + 1) % 5, by omega⟩
    refine ⟨t, flush_all t, ?_⟩
    rw [mem_block]
    have hv : t.val = (i 0).val / 1024 * 5 + ((i 1).val / 1024 + 1) % 5 := rfl
    intro a
    match a with
    | ⟨0, _⟩ =>
      show win0_3.index t 0 * 1024 ≤ (i 0).val ∧ (i 0).val < win0_3.index t 0 * 1024 + 1024
      rw [(index3 t).1]; omega
    | ⟨1, _⟩ =>
      show win0_3.index t 1 * 1024 ≤ (i 1).val ∧ (i 1).val < win0_3.index t 1 * 1024 + 1024
      rw [(index3 t).2]; omega

/-- The run: the result array read, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v6) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (Value.run_blocks m ρ)

end Cert.Proof.Tail

end
-- ==== Proof.TailReference.lean ====
/- The reference of the projection of the prompt's gates and pooled vectors, read at an index: it ends where the kernel does. -/
module

public import proofs.«01_k».proof.Proof.Gen.ReferenceIdeal.Read
public import proofs.«01_k».proof.Proof.TailKernel

@[expose] public section

noncomputable section

namespace Cert.Proof.Tail.Ref

open Idealize.ShloMosaic Idealize.ShloMosaic.TcCoe Idealize.SL.Sem Cert.ReferenceIdeal Cert.ReferenceIdeal.Gen Cert.ReferenceIdeal.Read Cert.Proof.Rows

variable (x0 : S2x4096x2048.Idx → EReal) (x1 : S1x2048.Idx → EReal) (x2 : S1x2048x9296.Idx → EReal)

/-- The projection of all the columns, read at an index. -/
theorem proj_apply (b : Fin 2) (s : Fin 4096) (n : Fin 9296) :
    val_main_v15 (F := Ideal) x0 x1 x2 (ix3 b s n)
      = projected (fun k => x0 (ix3 b s k)) (fun k => x1 (ix2 0 k)) (fun k => x2 (ix3 0 k n)) := by
  rw [val_main_v15_apply]
  refine Finset.sum_congr rfl fun k _ => ?_
  pointwise [val_main_v13, val_main_v10, val_main_v9, val_main_v8, val_main_v7, val_main_v5, val_main_v3, val_main_v2, val_main_v1, val_main_cst, val_main_v4, val_main_cst_0, val_main_v6, val_main_cst_1, val_main_v12, val_main_v11, val_main_v0, val_main_v14]
  have e1 : lidx_main_v15 (ix3 b s n) k = ix3 b s k := funext fun a => by fin_cases a <;> rfl
  rw [e1]; rfl

/-- The reference's result, read at an index: the kernel's column order, the rows of the two sequences one after the other. -/
theorem result_apply (r : Fin 8192) (n : Fin 5120) :
    val_main_v20 (F := Ideal) x0 x1 x2 (ix2 r n)
      = projected (fun k => x0 (ix3 ⟨r.val / 4096, by omega⟩ ⟨r.val % 4096, by omega⟩ k)) (fun k => x1 (ix2 0 k))
          (fun k => x2 (ix3 0 k ⟨col n.val, col_lt n.isLt⟩)) := by
  pointwise [val_main_v20, val_main_v19, val_main_v18, val_main_v17, val_main_v16]
  have hn := n.isLt
  split_ifs with h h' <;> rw [proj_apply] <;>
    exact projected_congr (fun _ => rfl) (fun _ => rfl) fun k => congrArg (fun q => x2 (ix3 0 k q)) (Fin.ext (by
      show _ = col n.val
      unfold col; split <;> dsimp only <;> omega))

/-- The reference's run from a memory that holds the kernel's arguments: its result is the kernel's. -/
theorem run (m : (ℓ : Loc Cert.KernelIdeal.nD Cert.KernelIdeal.τ Cert.KernelIdeal.sig) → Buf (Elt Ideal) ℓ)
    (m' : (ℓ : Loc nD τ sig) → Buf (Elt Ideal) ℓ) (ρ : Dev nD → PrngReg)
    (h : ∀ c : Dev nD, m' ((c : Thread nD τ).loc main_arg0) = m ((c.tc : Thread Cert.KernelIdeal.nD Cert.KernelIdeal.τ).loc Cert.KernelIdeal.main_arg0)
      ∧ m' ((c : Thread nD τ).loc main_arg1) = m ((c.tc : Thread Cert.KernelIdeal.nD Cert.KernelIdeal.τ).loc Cert.KernelIdeal.main_arg1)
      ∧ m' ((c : Thread nD τ).loc main_arg2) = m ((c.tc : Thread Cert.KernelIdeal.nD Cert.KernelIdeal.τ).loc Cert.KernelIdeal.main_arg2)) :
    θ_run defs (onTc (τ := τ) (main (F := Ideal))) ⟨m', fun _ => 0, ρ⟩ fun r => ∀ c : Dev nD,
      r.2.mem ((c : Thread nD τ).loc main_v20) = Tail.result m c
      ∧ r.2.mem ((c : Thread nD τ).loc main_arg0) = m' ((c : Thread nD τ).loc main_arg0)
      ∧ r.2.mem ((c : Thread nD τ).loc main_arg1) = m' ((c : Thread nD τ).loc main_arg1)
      ∧ r.2.mem ((c : Thread nD τ).loc main_arg2) = m' ((c : Thread nD τ).loc main_arg2) := by
  refine (θ_run defs _ _).mono (fun _ hr c => ⟨((hr c).1.trans (val_main_v20_eq ..)).trans ?_, (hr c).2⟩) (Value.run m' ρ)
  rw [(h c).1, (h c).2.1, (h c).2.2]
  refine funext fun (i : S8192x5120.Idx) => ?_
  obtain ⟨r, n, rfl⟩ : ∃ (r : Fin 8192) (n : Fin 5120), i = ix2 r n := ⟨i 0, i 1, eq_ix2 i⟩
  exact result_apply _ _ _ r n

end Cert.Proof.Tail.Ref

end
-- ==== Proof.FfnBody.lean ====
/- The body of the call that runs the prompt rows' feed-forward with the sampled rows' attention beside it, at one
   point of its grid. The block of rows it returns is followed exactly: the residual rows enter it at the first
   slice of the hidden width, every slice adds its product, the last one normalises it. The attention's running
   maximum, sum and weighted values and its own result are only known to hold something. -/
module

public import proofs.«01_k».proof.Proof.Gen.Kernel2Ideal.Frame.Runs
public import Idealize.ShloMosaic.Lib.Pipeline.Value

@[expose] public section

set_option maxRecDepth 16384

noncomputable section

namespace Cert.Proof.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The block of returned rows once a slice of the hidden width has been added to it: `z` the normalised rows, `up`
    and `down` the slice's columns and rows of the two weight matrices. -/
def added (z : Vec F S512x2048 .bf16) (up : Vec F S2048x512 .bf16) (down : Vec F S512x2048 .bf16)
    (y : Vec F S512x2048 .f32) : Vec F S512x2048 .f32 :=
  k0_pay62 z up y down

open Classical in
/-- The block of returned rows after a point, `y` being the block the point found. -/
def stepped (i : grid0.Coords) (z : Vec F S512x2048 .bf16) (h : Vec F S512x2048 .f32) (up : Vec F S2048x512 .bf16)
    (down : Vec F S512x2048 .bf16) (g : Vec F S1x2048 .f32) (y : Vec F S512x2048 .f32) : Vec F S512x2048 .f32 :=
  if cond0_2 i then k0_pay3 (added z up down (if cond0_0 i then h else y)) g
  else added z up down (if cond0_0 i then h else y)

/-- The two zeros of a whole rectangle's corner. -/
theorem zeros2 : (![0, 0] : Fin 2 → ℕ) = fun _ => 0 := by decide

/-- Reading a buffer back after a store over all of it gives what was stored. -/
theorem read_stored {κ : Kind} {sp : Space} {S : Shape} {e : EltTy} (v : View sig κ sp S e) (f : v.ty.Contents (Elt F))
    {off : Fin S.rank → ℕ} (h : off = fun _ => 0) (inb : ∀ a, off a + S.size a ≤ S.size a) (x : S.Idx → Elt F e)
    (L : List (View.Piece (Elt F) S e)) :
    v.read (Elt F) (v.writes (Elt F) f ((⟨Rect.unit off S.size inb, x⟩ : View.Piece (Elt F) S e) :: L)) = x :=
  (View.read_writes_eq_canon _ _ _ fun y => ⟨_, List.mem_cons_self, View.mem_set_unit_zero h inb y⟩).trans
    (View.canon_cons_unit_zero h inb x L)

/-- A whole buffer held at `x` is its cells held at the contents that read `x`, -/
theorem take (c : Dev nD) {s : Shape} {e : EltTy} {a : Memref sig .tc .vmem s e} (w : a.IsWhole) (x : s.Idx → Elt F e) :
    owns (c : Thread nD τ) a fullShare x ⊢ ((a.view.loc (c : Thread nD τ) ↦[a.view.set]{fullShare} w.unread x) : sProp 𝕄) := by
  unfold owns
  iintro ⟨%f, %h, H⟩
  obtain rfl := w.eq_unread h
  iexact H

/-- and back. -/
theorem give (c : Dev nD) {s : Shape} {e : EltTy} {a : Memref sig .tc .vmem s e} (w : a.IsWhole) (x : s.Idx → Elt F e) :
    ((a.view.loc (c : Thread nD τ) ↦[a.view.set]{fullShare} w.unread x) : sProp 𝕄) ⊢ owns (c : Thread nD τ) a fullShare x := by
  unfold owns
  iintro H
  iexists _; isplitr
  · ipureintro; exact w.read_unread _
  iexact H

set_option maxHeartbeats 4000000 in
/-- The body at one point, over the buffers' cells. -/
theorem cells_run (c : Dev nD) (i : grid0.Coords)
    (a3 : Memref sig .tc .vmem S512x2048 .bf16) (w3 : a3.IsWhole)
    (a4 : Memref sig .tc .vmem S512x2048 .f32) (w4 : a4.IsWhole)
    (a5 : Memref sig .tc .vmem S2048x512 .bf16) (w5 : a5.IsWhole)
    (a6 : Memref sig .tc .vmem S512x2048 .bf16) (w6 : a6.IsWhole)
    (a7 : Memref sig .tc .vmem S1x2048 .f32) (w7 : a7.IsWhole)
    (a8 : Memref sig .tc .vmem S1x64x16 .f32) (w8 : a8.IsWhole)
    (a9 : Memref sig .tc .vmem S1x64x16 .f32) (w9 : a9.IsWhole)
    (a10 : Memref sig .tc .vmem S1x64x16 .f32) (w10 : a10.IsWhole)
    (a11 : Memref sig .tc .vmem S1x1x1024 .f32) (w11 : a11.IsWhole)
    (a12 : Memref sig .tc .vmem S1x1x128 .f32) (w12 : a12.IsWhole)
    (a13 : Memref sig .tc .vmem S1x1x16x64x128 .f32) (w13 : a13.IsWhole)
    (a14 : Memref sig .tc .vmem S1x1x16x64x128 .f32) (w14 : a14.IsWhole)
    (a15 : Memref sig .tc .vmem S1x1x16x64x128 .f32) (w15 : a15.IsWhole)
    (a16 : Memref sig .tc .vmem S1x1x16x64x128 .f32) (w16 : a16.IsWhole)
    (a17 : Memref sig .tc .vmem S1x1x16x64x128 .f32) (w17 : a17.IsWhole)
    (a18 : Memref sig .tc .vmem S1x1x16x64x128 .f32) (w18 : a18.IsWhole)
    (a19 : Memref sig .tc .vmem S1x1x16x64x128 .f32) (w19 : a19.IsWhole)
    (a20 : Memref sig .tc .vmem S1x1x16x64x128 .f32) (w20 : a20.IsWhole)
    (a21 : Memref sig .tc .vmem S1x1x16x64x128 .f32) (w21 : a21.IsWhole)
    (a22 : Memref sig .tc .vmem S1x1x16x64x128 .f32) (w22 : a22.IsWhole)
    (a23 : Memref sig .tc .vmem S1x1x16x64x128 .f32) (w23 : a23.IsWhole)
    (a24 : Memref sig .tc .vmem S1x1x16x64x128 .f32) (w24 : a24.IsWhole)
    (a25 : Memref sig .tc .vmem S1x1x16x64x128 .f32) (w25 : a25.IsWhole)
    (a26 : Memref sig .tc .vmem S1x1x16x64x128 .f32) (w26 : a26.IsWhole)
    (a27 : Memref sig .tc .vmem S1x1x16x64x128 .f32) (w27 : a27.IsWhole)
    (a28 : Memref sig .tc .vmem S1x1x16x64x128 .f32) (w28 : a28.IsWhole)
    (a29 : Memref sig .tc .vmem S512x2048 .f32) (w29 : a29.IsWhole)
    (a30 : Memref sig .tc .vmem S1x16x64x1 .f32) (w30 : a30.IsWhole)
    (a31 : Memref sig .tc .vmem S16x1x128 .f32) (w31 : a31.IsWhole)
    (a32 : Memref sig .tc .vmem S16x1x128 .f32) (w32 : a32.IsWhole)
    (a33 : Memref sig .tc .vmem S16x64x128 .f32) (w33 : a33.IsWhole)
    (x3 : Vec F S512x2048 .bf16)
    (x4 : Vec F S512x2048 .f32)
    (x5 : Vec F S2048x512 .bf16)
    (x6 : Vec F S512x2048 .bf16)
    (x7 : Vec F S1x2048 .f32)
    (x8 : Vec F S1x64x16 .f32)
    (x9 : Vec F S1x64x16 .f32)
    (x10 : Vec F S1x64x16 .f32)
    (x11 : Vec F S1x1x1024 .f32)
    (x12 : Vec F S1x1x128 .f32)
    (x13 : Vec F S1x1x16x64x128 .f32)
    (x14 : Vec F S1x1x16x64x128 .f32)
    (x15 : Vec F S1x1x16x64x128 .f32)
    (x16 : Vec F S1x1x16x64x128 .f32)
    (x17 : Vec F S1x1x16x64x128 .f32)
    (x18 : Vec F S1x1x16x64x128 .f32)
    (x19 : Vec F S1x1x16x64x128 .f32)
    (x20 : Vec F S1x1x16x64x128 .f32)
    (x21 : Vec F S1x1x16x64x128 .f32)
    (x22 : Vec F S1x1x16x64x128 .f32)
    (x23 : Vec F S1x1x16x64x128 .f32)
    (x24 : Vec F S1x1x16x64x128 .f32)
    (x25 : Vec F S1x1x16x64x128 .f32)
    (x26 : Vec F S1x1x16x64x128 .f32)
    (x27 : Vec F S1x1x16x64x128 .f32)
    (x28 : Vec F S1x1x16x64x128 .f32)
    (y : Vec F S512x2048 .f32) (tab : TbBuf0 (F := F) c tbM0_0)
    (E : Set ℕ) (K : PUnit → sProp 𝕄) :
    iprop((a3.view.loc (c : Thread nD τ) ↦[a3.view.set]{fullShare} w3.unread x3) ∗ (a4.view.loc (c : Thread nD τ) ↦[a4.view.set]{fullShare} w4.unread x4) ∗ (a5.view.loc (c : Thread nD τ) ↦[a5.view.set]{fullShare} w5.unread x5) ∗ (a6.view.loc (c : Thread nD τ) ↦[a6.view.set]{fullShare} w6.unread x6) ∗ (a7.view.loc (c : Thread nD τ) ↦[a7.view.set]{fullShare} w7.unread x7) ∗ (a8.view.loc (c : Thread nD τ) ↦[a8.view.set]{fullShare} w8.unread x8) ∗ (a9.view.loc (c : Thread nD τ) ↦[a9.view.set]{fullShare} w9.unread x9) ∗ (a10.view.loc (c : Thread nD τ) ↦[a10.view.set]{fullShare} w10.unread x10) ∗ (a11.view.loc (c : Thread nD τ) ↦[a11.view.set]{fullShare} w11.unread x11) ∗ (a12.view.loc (c : Thread nD τ) ↦[a12.view.set]{fullShare} w12.unread x12) ∗ (a13.view.loc (c : Thread nD τ) ↦[a13.view.set]{fullShare} w13.unread x13) ∗ (a14.view.loc (c : Thread nD τ) ↦[a14.view.set]{fullShare} w14.unread x14) ∗ (a15.view.loc (c : Thread nD τ) ↦[a15.view.set]{fullShare} w15.unread x15) ∗ (a16.view.loc (c : Thread nD τ) ↦[a16.view.set]{fullShare} w16.unread x16) ∗ (a17.view.loc (c : Thread nD τ) ↦[a17.view.set]{fullShare} w17.unread x17) ∗ (a18.view.loc (c : Thread nD τ) ↦[a18.view.set]{fullShare} w18.unread x18) ∗ (a19.view.loc (c : Thread nD τ) ↦[a19.view.set]{fullShare} w19.unread x19) ∗ (a20.view.loc (c : Thread nD τ) ↦[a20.view.set]{fullShare} w20.unread x20) ∗ (a21.view.loc (c : Thread nD τ) ↦[a21.view.set]{fullShare} w21.unread x21) ∗ (a22.view.loc (c : Thread nD τ) ↦[a22.view.set]{fullShare} w22.unread x22) ∗ (a23.view.loc (c : Thread nD τ) ↦[a23.view.set]{fullShare} w23.unread x23) ∗ (a24.view.loc (c : Thread nD τ) ↦[a24.view.set]{fullShare} w24.unread x24) ∗ (a25.view.loc (c : Thread nD τ) ↦[a25.view.set]{fullShare} w25.unread x25) ∗ (a26.view.loc (c : Thread nD τ) ↦[a26.view.set]{fullShare} w26.unread x26) ∗ (a27.view.loc (c : Thread nD τ) ↦[a27.view.set]{fullShare} w27.unread x27) ∗ (a28.view.loc (c : Thread nD τ) ↦[a28.view.set]{fullShare} w28.unread x28)
        ∗ (a29.view.loc (c : Thread nD τ) ↦[a29.view.set]{fullShare} w29.unread y) ∗ (∃ f, a30.view.loc (c : Thread nD τ) ↦[a30.view.set]{fullShare} f) ∗ (∃ f, a31.view.loc (c : Thread nD τ) ↦[a31.view.set]{fullShare} f) ∗ (∃ f, a32.view.loc (c : Thread nD τ) ↦[a32.view.set]{fullShare} f) ∗ (∃ f, a33.view.loc (c : Thread nD τ) ↦[a33.view.set]{fullShare} f) ∗ tbPt0 c tbM0_0 tab
        ∗ (iprop((a3.view.loc (c : Thread nD τ) ↦[a3.view.set]{fullShare} w3.unread x3) ∗ (a4.view.loc (c : Thread nD τ) ↦[a4.view.set]{fullShare} w4.unread x4) ∗ (a5.view.loc (c : Thread nD τ) ↦[a5.view.set]{fullShare} w5.unread x5) ∗ (a6.view.loc (c : Thread nD τ) ↦[a6.view.set]{fullShare} w6.unread x6) ∗ (a7.view.loc (c : Thread nD τ) ↦[a7.view.set]{fullShare} w7.unread x7) ∗ (a8.view.loc (c : Thread nD τ) ↦[a8.view.set]{fullShare} w8.unread x8) ∗ (a9.view.loc (c : Thread nD τ) ↦[a9.view.set]{fullShare} w9.unread x9) ∗ (a10.view.loc (c : Thread nD τ) ↦[a10.view.set]{fullShare} w10.unread x10) ∗ (a11.view.loc (c : Thread nD τ) ↦[a11.view.set]{fullShare} w11.unread x11) ∗ (a12.view.loc (c : Thread nD τ) ↦[a12.view.set]{fullShare} w12.unread x12) ∗ (a13.view.loc (c : Thread nD τ) ↦[a13.view.set]{fullShare} w13.unread x13) ∗ (a14.view.loc (c : Thread nD τ) ↦[a14.view.set]{fullShare} w14.unread x14) ∗ (a15.view.loc (c : Thread nD τ) ↦[a15.view.set]{fullShare} w15.unread x15) ∗ (a16.view.loc (c : Thread nD τ) ↦[a16.view.set]{fullShare} w16.unread x16) ∗ (a17.view.loc (c : Thread nD τ) ↦[a17.view.set]{fullShare} w17.unread x17) ∗ (a18.view.loc (c : Thread nD τ) ↦[a18.view.set]{fullShare} w18.unread x18) ∗ (a19.view.loc (c : Thread nD τ) ↦[a19.view.set]{fullShare} w19.unread x19) ∗ (a20.view.loc (c : Thread nD τ) ↦[a20.view.set]{fullShare} w20.unread x20) ∗ (a21.view.loc (c : Thread nD τ) ↦[a21.view.set]{fullShare} w21.unread x21) ∗ (a22.view.loc (c : Thread nD τ) ↦[a22.view.set]{fullShare} w22.unread x22) ∗ (a23.view.loc (c : Thread nD τ) ↦[a23.view.set]{fullShare} w23.unread x23) ∗ (a24.view.loc (c : Thread nD τ) ↦[a24.view.set]{fullShare} w24.unread x24) ∗ (a25.view.loc (c : Thread nD τ) ↦[a25.view.set]{fullShare} w25.unread x25) ∗ (a26.view.loc (c : Thread nD τ) ↦[a26.view.set]{fullShare} w26.unread x26) ∗ (a27.view.loc (c : Thread nD τ) ↦[a27.view.set]{fullShare} w27.unread x27) ∗ (a28.view.loc (c : Thread nD τ) ↦[a28.view.set]{fullShare} w28.unread x28)
            ∗ owns (c : Thread nD τ) a29 fullShare (stepped i x3 x4 x5 x6 x7 y) ∗ (∃ f, a30.view.loc (c : Thread nD τ) ↦[a30.view.set]{fullShare} f) ∗ (∃ f, a31.view.loc (c : Thread nD τ) ↦[a31.view.set]{fullShare} f) ∗ (∃ f, a32.view.loc (c : Thread nD τ) ↦[a32.view.set]{fullShare} f) ∗ (∃ f, a33.view.loc (c : Thread nD τ) ↦[a33.view.set]{fullShare} f) ∗ tbPt0 c tbM0_0 tab) -∗ K ⟨⟩))
      ⊢ wp frame (wpE (defs₀ (F := F)) Variants.none c none) E
        (cc0_ffn_with_paged_attend i tbM0_0 htbM0_0 a3 w3 a4 w4 a5 w5 a6 w6 a7 w7 a8 w8 a9 w9 a10 w10 a11 w11 a12 w12 a13 w13 a14 w14 a15 w15 a16 w16 a17 w17 a18 w18 a19 w19 a20 w20 a21 w21 a22 w22 a23 w23 a24 w24 a25 w25 a26 w26 a27 w27 a28 w28 a29 w29 a30 w30 a31 w31 a32 w32 a33 w33) K := by
  simp only [cc0_ffn_with_paged_attend_eq_skeleton]; unfold cc0_ffn_with_paged_attend_skel
  simp only [k0_part6_eq_skeleton, k0_part7_eq_skeleton, k0_part8_eq_skeleton, k0_part9_eq_skeleton,
    k0_part10_eq_skeleton, k0_part11_eq_skeleton, k0_part12_eq_skeleton]
  iintro ⟨H3, H4, H5, H6, H7, H8, H9, H10, H11, H12, H13, H14, H15, H16, H17, H18, H19, H20, H21, H22, H23, H24, H25, H26, H27, H28, H29, ⟨%f30, H30⟩, ⟨%f31, H31⟩, ⟨%f32, H32⟩, ⟨%f33, H33⟩, HT, Hk⟩
  sl_exec_parts
  sl_step
  iapply Hk
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]
  · unfold owns; iexists _; isplitr
    swap; · iexact H29
    ipureintro
    unfold stepped added
    sl_unfold_run_names
    by_cases h2 : cond0_2 i <;> by_cases h0 : cond0_0 i <;>
      (first | rw [if_pos h2] | rw [if_neg h2]) <;> (first | rw [if_pos h0] | rw [if_neg h0]) <;>
      simp only [h2, h0, ↓reduceDIte, ↓reduceIte, read_stored (S := S512x2048) _ _ zeros2, View.readAt_eq_ld,
        w3.read_unread, w4.read_unread, w5.read_unread, w6.read_unread, w7.read_unread, w29.read_unread,
        View.readCov_unit_zero (S := S512x2048) _ zeros2, View.ld_unit_zero (S := S512x2048) zeros2,
        View.ld_unit_zero (S := S2048x512) zeros2, View.ld_unit_zero (S := S1x2048) zeros2]
  isplitl [H30]; · iexists _; iexact H30
  isplitl [H31]; · iexists _; iexact H31
  isplitl [H32]; · iexists _; iexact H32
  isplitl [H33]; · iexists _; iexact H33
  iexact HT

set_option maxHeartbeats 4000000 in
/-- The body at one point, over the windows. -/
theorem body_run (c : Dev nD) (i : grid0.Coords)
    (a3 : Memref sig .tc .vmem S512x2048 .bf16) (w3 : a3.IsWhole)
    (a4 : Memref sig .tc .vmem S512x2048 .f32) (w4 : a4.IsWhole)
    (a5 : Memref sig .tc .vmem S2048x512 .bf16) (w5 : a5.IsWhole)
    (a6 : Memref sig .tc .vmem S512x2048 .bf16) (w6 : a6.IsWhole)
    (a7 : Memref sig .tc .vmem S1x2048 .f32) (w7 : a7.IsWhole)
    (a8 : Memref sig .tc .vmem S1x64x16 .f32) (w8 : a8.IsWhole)
    (a9 : Memref sig .tc .vmem S1x64x16 .f32) (w9 : a9.IsWhole)
    (a10 : Memref sig .tc .vmem S1x64x16 .f32) (w10 : a10.IsWhole)
    (a11 : Memref sig .tc .vmem S1x1x1024 .f32) (w11 : a11.IsWhole)
    (a12 : Memref sig .tc .vmem S1x1x128 .f32) (w12 : a12.IsWhole)
    (a13 : Memref sig .tc .vmem S1x1x16x64x128 .f32) (w13 : a13.IsWhole)
    (a14 : Memref sig .tc .vmem S1x1x16x64x128 .f32) (w14 : a14.IsWhole)
    (a15 : Memref sig .tc .vmem S1x1x16x64x128 .f32) (w15 : a15.IsWhole)
    (a16 : Memref sig .tc .vmem S1x1x16x64x128 .f32) (w16 : a16.IsWhole)
    (a17 : Memref sig .tc .vmem S1x1x16x64x128 .f32) (w17 : a17.IsWhole)
    (a18 : Memref sig .tc .vmem S1x1x16x64x128 .f32) (w18 : a18.IsWhole)
    (a19 : Memref sig .tc .vmem S1x1x16x64x128 .f32) (w19 : a19.IsWhole)
    (a20 : Memref sig .tc .vmem S1x1x16x64x128 .f32) (w20 : a20.IsWhole)
    (a21 : Memref sig .tc .vmem S1x1x16x64x128 .f32) (w21 : a21.IsWhole)
    (a22 : Memref sig .tc .vmem S1x1x16x64x128 .f32) (w22 : a22.IsWhole)
    (a23 : Memref sig .tc .vmem S1x1x16x64x128 .f32) (w23 : a23.IsWhole)
    (a24 : Memref sig .tc .vmem S1x1x16x64x128 .f32) (w24 : a24.IsWhole)
    (a25 : Memref sig .tc .vmem S1x1x16x64x128 .f32) (w25 : a25.IsWhole)
    (a26 : Memref sig .tc .vmem S1x1x16x64x128 .f32) (w26 : a26.IsWhole)
    (a27 : Memref sig .tc .vmem S1x1x16x64x128 .f32) (w27 : a27.IsWhole)
    (a28 : Memref sig .tc .vmem S1x1x16x64x128 .f32) (w28 : a28.IsWhole)
    (a29 : Memref sig .tc .vmem S512x2048 .f32) (w29 : a29.IsWhole)
    (a30 : Memref sig .tc .vmem S1x16x64x1 .f32) (w30 : a30.IsWhole)
    (a31 : Memref sig .tc .vmem S16x1x128 .f32) (w31 : a31.IsWhole)
    (a32 : Memref sig .tc .vmem S16x1x128 .f32) (w32 : a32.IsWhole)
    (a33 : Memref sig .tc .vmem S16x64x128 .f32) (w33 : a33.IsWhole)
    (x3 : Vec F S512x2048 .bf16)
    (x4 : Vec F S512x2048 .f32)
    (x5 : Vec F S2048x512 .bf16)
    (x6 : Vec F S512x2048 .bf16)
    (x7 : Vec F S1x2048 .f32)
    (x8 : Vec F S1x64x16 .f32)
    (x9 : Vec F S1x64x16 .f32)
    (x10 : Vec F S1x64x16 .f32)
    (x11 : Vec F S1x1x1024 .f32)
    (x12 : Vec F S1x1x128 .f32)
    (x13 : Vec F S1x1x16x64x128 .f32)
    (x14 : Vec F S1x1x16x64x128 .f32)
    (x15 : Vec F S1x1x16x64x128 .f32)
    (x16 : Vec F S1x1x16x64x128 .f32)
    (x17 : Vec F S1x1x16x64x128 .f32)
    (x18 : Vec F S1x1x16x64x128 .f32)
    (x19 : Vec F S1x1x16x64x128 .f32)
    (x20 : Vec F S1x1x16x64x128 .f32)
    (x21 : Vec F S1x1x16x64x128 .f32)
    (x22 : Vec F S1x1x16x64x128 .f32)
    (x23 : Vec F S1x1x16x64x128 .f32)
    (x24 : Vec F S1x1x16x64x128 .f32)
    (x25 : Vec F S1x1x16x64x128 .f32)
    (x26 : Vec F S1x1x16x64x128 .f32)
    (x27 : Vec F S1x1x16x64x128 .f32)
    (x28 : Vec F S1x1x16x64x128 .f32)
    (y : Vec F S512x2048 .f32) (tab : TbBuf0 (F := F) c tbM0_0)
    (E : Set ℕ) (K : PUnit → sProp 𝕄) :
    iprop(owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare x13 ∗ owns (c : Thread nD τ) a14 fullShare x14 ∗ owns (c : Thread nD τ) a15 fullShare x15 ∗ owns (c : Thread nD τ) a16 fullShare x16 ∗ owns (c : Thread nD τ) a17 fullShare x17 ∗ owns (c : Thread nD τ) a18 fullShare x18 ∗ owns (c : Thread nD τ) a19 fullShare x19 ∗ owns (c : Thread nD τ) a20 fullShare x20 ∗ owns (c : Thread nD τ) a21 fullShare x21 ∗ owns (c : Thread nD τ) a22 fullShare x22 ∗ owns (c : Thread nD τ) a23 fullShare x23 ∗ owns (c : Thread nD τ) a24 fullShare x24 ∗ owns (c : Thread nD τ) a25 fullShare x25 ∗ owns (c : Thread nD τ) a26 fullShare x26 ∗ owns (c : Thread nD τ) a27 fullShare x27 ∗ owns (c : Thread nD τ) a28 fullShare x28
        ∗ owns (c : Thread nD τ) a29 fullShare y ∗ (∃ d, owns (c : Thread nD τ) a30 fullShare d) ∗ (∃ d, owns (c : Thread nD τ) a31 fullShare d) ∗ (∃ d, owns (c : Thread nD τ) a32 fullShare d) ∗ (∃ d, owns (c : Thread nD τ) a33 fullShare d) ∗ tbPt0 c tbM0_0 tab
        ∗ (iprop(owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare x13 ∗ owns (c : Thread nD τ) a14 fullShare x14 ∗ owns (c : Thread nD τ) a15 fullShare x15 ∗ owns (c : Thread nD τ) a16 fullShare x16 ∗ owns (c : Thread nD τ) a17 fullShare x17 ∗ owns (c : Thread nD τ) a18 fullShare x18 ∗ owns (c : Thread nD τ) a19 fullShare x19 ∗ owns (c : Thread nD τ) a20 fullShare x20 ∗ owns (c : Thread nD τ) a21 fullShare x21 ∗ owns (c : Thread nD τ) a22 fullShare x22 ∗ owns (c : Thread nD τ) a23 fullShare x23 ∗ owns (c : Thread nD τ) a24 fullShare x24 ∗ owns (c : Thread nD τ) a25 fullShare x25 ∗ owns (c : Thread nD τ) a26 fullShare x26 ∗ owns (c : Thread nD τ) a27 fullShare x27 ∗ owns (c : Thread nD τ) a28 fullShare x28
            ∗ owns (c : Thread nD τ) a29 fullShare (stepped i x3 x4 x5 x6 x7 y) ∗ (∃ d, owns (c : Thread nD τ) a30 fullShare d) ∗ (∃ d, owns (c : Thread nD τ) a31 fullShare d) ∗ (∃ d, owns (c : Thread nD τ) a32 fullShare d) ∗ (∃ d, owns (c : Thread nD τ) a33 fullShare d) ∗ tbPt0 c tbM0_0 tab) -∗ K ⟨⟩))
      ⊢ wp frame (wpE (defs₀ (F := F)) Variants.none c none) E
        (cc0_ffn_with_paged_attend i tbM0_0 htbM0_0 a3 w3 a4 w4 a5 w5 a6 w6 a7 w7 a8 w8 a9 w9 a10 w10 a11 w11 a12 w12 a13 w13 a14 w14 a15 w15 a16 w16 a17 w17 a18 w18 a19 w19 a20 w20 a21 w21 a22 w22 a23 w23 a24 w24 a25 w25 a26 w26 a27 w27 a28 w28 a29 w29 a30 w30 a31 w31 a32 w32 a33 w33) K := by
  iintro ⟨H3, H4, H5, H6, H7, H8, H9, H10, H11, H12, H13, H14, H15, H16, H17, H18, H19, H20, H21, H22, H23, H24, H25, H26, H27, H28, H29, ⟨%d30, H30⟩, ⟨%d31, H31⟩, ⟨%d32, H32⟩, ⟨%d33, H33⟩, HT, Hk⟩
  iapply (cells_run c i a3 w3 a4 w4 a5 w5 a6 w6 a7 w7 a8 w8 a9 w9 a10 w10 a11 w11 a12 w12 a13 w13 a14 w14 a15 w15 a16 w16 a17 w17 a18 w18 a19 w19 a20 w20 a21 w21 a22 w22 a23 w23 a24 w24 a25 w25 a26 w26 a27 w27 a28 w28 a29 w29 a30 w30 a31 w31 a32 w32 a33 w33 x3 x4 x5 x6 x7 x8 x9 x10 x11 x12 x13 x14 x15 x16 x17 x18 x19 x20 x21 x22 x23 x24 x25 x26 x27 x28 y tab E K)
  isplitl [H3]; · iapply (take c w3 _); iexact H3
  isplitl [H4]; · iapply (take c w4 _); iexact H4
  isplitl [H5]; · iapply (take c w5 _); iexact H5
  isplitl [H6]; · iapply (take c w6 _); iexact H6
  isplitl [H7]; · iapply (take c w7 _); iexact H7
  isplitl [H8]; · iapply (take c w8 _); iexact H8
  isplitl [H9]; · iapply (take c w9 _); iexact H9
  isplitl [H10]; · iapply (take c w10 _); iexact H10
  isplitl [H11]; · iapply (take c w11 _); iexact H11
  isplitl [H12]; · iapply (take c w12 _); iexact H12
  isplitl [H13]; · iapply (take c w13 _); iexact H13
  isplitl [H14]; · iapply (take c w14 _); iexact H14
  isplitl [H15]; · iapply (take c w15 _); iexact H15
  isplitl [H16]; · iapply (take c w16 _); iexact H16
  isplitl [H17]; · iapply (take c w17 _); iexact H17
  isplitl [H18]; · iapply (take c w18 _); iexact H18
  isplitl [H19]; · iapply (take c w19 _); iexact H19
  isplitl [H20]; · iapply (take c w20 _); iexact H20
  isplitl [H21]; · iapply (take c w21 _); iexact H21
  isplitl [H22]; · iapply (take c w22 _); iexact H22
  isplitl [H23]; · iapply (take c w23 _); iexact H23
  isplitl [H24]; · iapply (take c w24 _); iexact H24
  isplitl [H25]; · iapply (take c w25 _); iexact H25
  isplitl [H26]; · iapply (take c w26 _); iexact H26
  isplitl [H27]; · iapply (take c w27 _); iexact H27
  isplitl [H28]; · iapply (take c w28 _); iexact H28
  isplitl [H29]; · iapply (take c w29 _); iexact H29
  isplitl [H30]; · iexists _; iapply (take c w30 _); iexact H30
  isplitl [H31]; · iexists _; iapply (take c w31 _); iexact H31
  isplitl [H32]; · iexists _; iapply (take c w32 _); iexact H32
  isplitl [H33]; · iexists _; iapply (take c w33 _); iexact H33
  isplitl [HT]; · iexact HT
  iintro ⟨H3, H4, H5, H6, H7, H8, H9, H10, H11, H12, H13, H14, H15, H16, H17, H18, H19, H20, H21, H22, H23, H24, H25, H26, H27, H28, H29, ⟨%e30, H30⟩, ⟨%e31, H31⟩, ⟨%e32, H32⟩, ⟨%e33, H33⟩, HT⟩
  iapply Hk
  isplitl [H3]; · iapply (give c w3 _); iexact H3
  isplitl [H4]; · iapply (give c w4 _); iexact H4
  isplitl [H5]; · iapply (give c w5 _); iexact H5
  isplitl [H6]; · iapply (give c w6 _); iexact H6
  isplitl [H7]; · iapply (give c w7 _); iexact H7
  isplitl [H8]; · iapply (give c w8 _); iexact H8
  isplitl [H9]; · iapply (give c w9 _); iexact H9
  isplitl [H10]; · iapply (give c w10 _); iexact H10
  isplitl [H11]; · iapply (give c w11 _); iexact H11
  isplitl [H12]; · iapply (give c w12 _); iexact H12
  isplitl [H13]; · iapply (give c w13 _); iexact H13
  isplitl [H14]; · iapply (give c w14 _); iexact H14
  isplitl [H15]; · iapply (give c w15 _); iexact H15
  isplitl [H16]; · iapply (give c w16 _); iexact H16
  isplitl [H17]; · iapply (give c w17 _); iexact H17
  isplitl [H18]; · iapply (give c w18 _); iexact H18
  isplitl [H19]; · iapply (give c w19 _); iexact H19
  isplitl [H20]; · iapply (give c w20 _); iexact H20
  isplitl [H21]; · iapply (give c w21 _); iexact H21
  isplitl [H22]; · iapply (give c w22 _); iexact H22
  isplitl [H23]; · iapply (give c w23 _); iexact H23
  isplitl [H24]; · iapply (give c w24 _); iexact H24
  isplitl [H25]; · iapply (give c w25 _); iexact H25
  isplitl [H26]; · iapply (give c w26 _); iexact H26
  isplitl [H27]; · iapply (give c w27 _); iexact H27
  isplitl [H28]; · iapply (give c w28 _); iexact H28
  isplitl [H29]; · iexact H29
  isplitl [H30]; · iexists _; unfold owns; iexists _; isplitr; swap; iexact H30; ipureintro; rfl
  isplitl [H31]; · iexists _; unfold owns; iexists _; isplitr; swap; iexact H31; ipureintro; rfl
  isplitl [H32]; · iexists _; unfold owns; iexists _; isplitr; swap; iexact H32; ipureintro; rfl
  isplitl [H33]; · iexists _; unfold owns; iexists _; isplitr; swap; iexact H33; ipureintro; rfl
  iexact HT

end Cert.Proof.Ffn

end

end
-- ==== Proof.FfnRun.lean ====
/- The run of the call that does the prompt rows' feed-forward, for any element values: the block of rows every point
   leaves, the launch, the returned rows' array block by block, and the unchanged arguments. -/
module

public import proofs.«01_k».proof.Proof.FfnBody

@[expose] public section

set_option maxRecDepth 16384

noncomputable section

namespace Cert.Proof.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The block of returned rows after point `t`, from the block the point found. -/
def next (hO : Ok m) (c : Dev nD) (t : Fin (cfgM m hO).N) (y : Vec F S512x2048 .f32) : Vec F S512x2048 .f32 :=
  stepped (grid0.coords t) (iblk m hO c 0 t) (iblk m hO c 1 t) (iblk m hO c 2 t) (iblk m hO c 3 t) (iblk m hO c 4 t) y

/-- The block of returned rows after point `n`. -/
def block (hO : Ok m) (c : Dev nD) : (n : ℕ) → n < (cfgM m hO).N → Vec F S512x2048 .f32
  | 0, h => next m hO c ⟨0, h⟩ (iblk m hO c 1 ⟨0, h⟩)
  | n + 1, h => next m hO c ⟨n + 1, h⟩ (block hO c n (Nat.lt_of_succ_lt h))

/-- The first slice starts from the residual rows. -/
theorem stepped_first (i : grid0.Coords) (hc : cond0_0 i) (z : Vec F S512x2048 .bf16) (h : Vec F S512x2048 .f32)
    (up : Vec F S2048x512 .bf16) (down : Vec F S512x2048 .bf16) (g : Vec F S1x2048 .f32) (y y' : Vec F S512x2048 .f32) :
    stepped i z h up down g y = stepped i z h up down g y' := by
  unfold stepped
  rw [if_pos hc, if_pos hc]

/-- At the first slice what the point found does not matter. -/
theorem next_first (hO : Ok m) (c : Dev nD) (t : Fin (cfgM m hO).N) (h : t.val % 16 = 0) (y y' : Vec F S512x2048 .f32) :
    next m hO c t y = next m hO c t y' := by
  exact stepped_first _ ((hcond0_0 t).mpr h) _ _ _ _ _ _ _

/-- At a later slice the point found what the point before left. -/
theorem block_pos (hO : Ok m) (c : Dev nD) (t : Fin (cfgM m hO).N) (h : t.val ≠ 0) :
    block m hO c t.val t.isLt
      = next m hO c t (block m hO c (t.val - 1) (Nat.lt_of_le_of_lt (Nat.sub_le _ _) t.isLt)) := by
  obtain ⟨n, hn⟩ := t
  cases n with
  | zero => exact absurd rfl h
  | succ n => rfl

/-- At the first slice the block is made from anything. -/
theorem block_first (hO : Ok m) (c : Dev nD) (t : Fin (cfgM m hO).N) (h : t.val % 16 = 0) (y : Vec F S512x2048 .f32) :
    block m hO c t.val t.isLt = next m hO c t y := by
  by_cases hz : t.val = 0
  · obtain ⟨n, hn⟩ := t
    cases n with
    | zero => exact next_first m hO c _ h _ _
    | succ n => exact absurd hz (Nat.succ_ne_zero n)
  · rw [block_pos m hO c t hz]; exact next_first m hO c t h _ _

/-- Nothing is said of the attention's own result. -/
def forgets : Fin 28 → Bool := fun w => w.val == 27

/-- What the arrays hold and what every point leaves in its windows. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => iblk m hO c 8 t
    | ⟨9, _⟩ => iblk m hO c 9 t
    | ⟨10, _⟩ => iblk m hO c 10 t
    | ⟨11, _⟩ => iblk m hO c 11 t
    | ⟨12, _⟩ => iblk m hO c 12 t
    | ⟨13, _⟩ => iblk m hO c 13 t
    | ⟨14, _⟩ => iblk m hO c 14 t
    | ⟨15, _⟩ => iblk m hO c 15 t
    | ⟨16, _⟩ => iblk m hO c 16 t
    | ⟨17, _⟩ => iblk m hO c 17 t
    | ⟨18, _⟩ => iblk m hO c 18 t
    | ⟨19, _⟩ => iblk m hO c 19 t
    | ⟨20, _⟩ => iblk m hO c 20 t
    | ⟨21, _⟩ => iblk m hO c 21 t
    | ⟨22, _⟩ => iblk m hO c 22 t
    | ⟨23, _⟩ => iblk m hO c 23 t
    | ⟨24, _⟩ => iblk m hO c 24 t
    | ⟨25, _⟩ => iblk m hO c 25 t
    | ⟨26, _⟩ => block m hO c t.val t.isLt
    | ⟨27, h⟩ => Pipeline.Dat.unnamed (cfg := cfgM m hO) ⟨27, h⟩ t
    | ⟨_ + 28, h⟩ => absurd h (Nat.not_lt.2 (Nat.le_add_left _ _))
  Φ _ := iprop(Pipeline.ΦA spec0 c ∗ Pipeline.ΦT pre0 (tbl m) c)
  q w := Pipeline.shareOf spec0 w
  owed _ := 0

theorem arrays (hO : Ok m) (c : Dev nD) (w : Fin (cfgM m hO).W) :
    (dats m hO 0 c).A w = V m c (Pipeline.arrRef spec0 w) := by
  dsimp only [dats]

/-- The returned rows' window at a point holds something the point turns into its block. -/
theorem next_before (hO : Ok m) (c : Dev nD) (t : Fin (cfgM m hO).N) (d) :
    next m hO c t ((dats m hO 0 c).before 26 t d) = block m hO c t.val t.isLt := by
  have hN : t.val < 256 := lt_of_lt_of_eq t.isLt (show (cfgM m hO).N = 256 from N_0)
  by_cases h : t.val % 16 = 0
  · exact (block_first m hO c t h _).symm
  · rw [Dat.before_out_kept _ 26 rfl t (by omega)
      (Bool.eq_false_iff.mpr fun e => by have := (flush0_26 (adm m hO) _).mp e; dsimp only at this; omega)
      (fun _ => rfl) (fun _ _ => rfl)]
    exact (block_pos m hO c t (by omega)).symm

/-- What the body is given at point `t`. -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare ((dats m hO 0 c).before 8 t d))
    ∗ (∃ d, owns (c : Thread nD τ) (ms0_9 m hO t) fullShare ((dats m hO 0 c).before 9 t d))
    ∗ (∃ d, owns (c : Thread nD τ) (ms0_10 m hO t) fullShare ((dats m hO 0 c).before 10 t d))
    ∗ (∃ d, owns (c : Thread nD τ) (ms0_11 m hO t) fullShare ((dats m hO 0 c).before 11 t d))
    ∗ (∃ d, owns (c : Thread nD τ) (ms0_12 m hO t) fullShare ((dats m hO 0 c).before 12 t d))
    ∗ (∃ d, owns (c : Thread nD τ) (ms0_13 m hO t) fullShare ((dats m hO 0 c).before 13 t d))
    ∗ (∃ d, owns (c : Thread nD τ) (ms0_14 m hO t) fullShare ((dats m hO 0 c).before 14 t d))
    ∗ (∃ d, owns (c : Thread nD τ) (ms0_15 m hO t) fullShare ((dats m hO 0 c).before 15 t d))
    ∗ (∃ d, owns (c : Thread nD τ) (ms0_16 m hO t) fullShare ((dats m hO 0 c).before 16 t d))
    ∗ (∃ d, owns (c : Thread nD τ) (ms0_17 m hO t) fullShare ((dats m hO 0 c).before 17 t d))
    ∗ (∃ d, owns (c : Thread nD τ) (ms0_18 m hO t) fullShare ((dats m hO 0 c).before 18 t d))
    ∗ (∃ d, owns (c : Thread nD τ) (ms0_19 m hO t) fullShare ((dats m hO 0 c).before 19 t d))
    ∗ (∃ d, owns (c : Thread nD τ) (ms0_20 m hO t) fullShare ((dats m hO 0 c).before 20 t d))
    ∗ (∃ d, owns (c : Thread nD τ) (ms0_21 m hO t) fullShare ((dats m hO 0 c).before 21 t d))
    ∗ (∃ d, owns (c : Thread nD τ) (ms0_22 m hO t) fullShare ((dats m hO 0 c).before 22 t d))
    ∗ (∃ d, owns (c : Thread nD τ) (ms0_23 m hO t) fullShare ((dats m hO 0 c).before 23 t d))
    ∗ (∃ d, owns (c : Thread nD τ) (ms0_24 m hO t) fullShare ((dats m hO 0 c).before 24 t d))
    ∗ (∃ d, owns (c : Thread nD τ) (ms0_25 m hO t) fullShare ((dats m hO 0 c).before 25 t d))
    ∗ (∃ d, owns (c : Thread nD τ) (ms0_26 m hO t) fullShare ((dats m hO 0 c).before 26 t d))
    ∗ (∃ d, owns (c : Thread nD τ) (ms0_27 m hO t) fullShare d))

/-- What it gives back. -/
def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t
    ∗ (dats m hO 0 c).leavesExact 5 t
    ∗ (dats m hO 0 c).leavesExact 6 t
    ∗ (dats m hO 0 c).leavesExact 7 t
    ∗ (dats m hO 0 c).leavesExact 8 t
    ∗ (dats m hO 0 c).leavesExact 9 t
    ∗ (dats m hO 0 c).leavesExact 10 t
    ∗ (dats m hO 0 c).leavesExact 11 t
    ∗ (dats m hO 0 c).leavesExact 12 t
    ∗ (dats m hO 0 c).leavesExact 13 t
    ∗ (dats m hO 0 c).leavesExact 14 t
    ∗ (dats m hO 0 c).leavesExact 15 t
    ∗ (dats m hO 0 c).leavesExact 16 t
    ∗ (dats m hO 0 c).leavesExact 17 t
    ∗ (dats m hO 0 c).leavesExact 18 t
    ∗ (dats m hO 0 c).leavesExact 19 t
    ∗ (dats m hO 0 c).leavesExact 20 t
    ∗ (dats m hO 0 c).leavesExact 21 t
    ∗ (dats m hO 0 c).leavesExact 22 t
    ∗ (dats m hO 0 c).leavesExact 23 t
    ∗ (dats m hO 0 c).leavesExact 24 t
    ∗ (dats m hO 0 c).leavesExact 25 t
    ∗ (dats m hO 0 c).leavesExact 26 t
    ∗ (∃ d, owns (c : Thread nD τ) (ms0_27 m hO t) fullShare d))

set_option maxHeartbeats 4000000 in
/-- The body at every point of the grid. -/
theorem sound_body (hO : Ok m) (c : Dev nD) (t : Fin (cfgM m hO).N) :
    bodyPre m hO c t ⊢ wp frame (wpE (defs₀ (F := F)) Variants.none c none) Set.univ (bodyAt0 (adm m hO) t)
      (fun _ => bodyPost m hO c t) := by
  unfold bodyPre bodyPost bodyAt0
  simp only [before0_0_of m hO (dats m hO 0 c) (arrays m hO c 0) (fun _ => by dsimp only [dats]; try rfl) t]
  simp only [before0_1_of m hO (dats m hO 0 c) (arrays m hO c 1) (fun _ => by dsimp only [dats]; try rfl) t]
  simp only [before0_2_of m hO (dats m hO 0 c) (arrays m hO c 2) (fun _ => by dsimp only [dats]; try rfl) t]
  simp only [before0_3_of m hO (dats m hO 0 c) (arrays m hO c 3) (fun _ => by dsimp only [dats]; try rfl) t]
  simp only [before0_4_of m hO (dats m hO 0 c) (arrays m hO c 4) (fun _ => by dsimp only [dats]; try rfl) t]
  simp only [before0_5_of m hO (dats m hO 0 c) (arrays m hO c 5) (fun _ => by dsimp only [dats]; try rfl) t]
  simp only [before0_6_of m hO (dats m hO 0 c) (arrays m hO c 6) (fun _ => by dsimp only [dats]; try rfl) t]
  simp only [before0_7_of m hO (dats m hO 0 c) (arrays m hO c 7) (fun _ => by dsimp only [dats]; try rfl) t]
  simp only [before0_8_of m hO (dats m hO 0 c) (arrays m hO c 8) (fun _ => by dsimp only [dats]; try rfl) t]
  simp only [before0_9_of m hO (dats m hO 0 c) (arrays m hO c 9) (fun _ => by dsimp only [dats]; try rfl) t]
  simp only [before0_10_of m hO (dats m hO 0 c) (arrays m hO c 10) (fun _ => by dsimp only [dats]; try rfl) t]
  simp only [before0_11_of m hO (dats m hO 0 c) (arrays m hO c 11) (fun _ => by dsimp only [dats]; try rfl) t]
  simp only [before0_12_of m hO (dats m hO 0 c) (arrays m hO c 12) (fun _ => by dsimp only [dats]; try rfl) t]
  simp only [before0_13_of m hO (dats m hO 0 c) (arrays m hO c 13) (fun _ => by dsimp only [dats]; try rfl) t]
  simp only [before0_14_of m hO (dats m hO 0 c) (arrays m hO c 14) (fun _ => by dsimp only [dats]; try rfl) t]
  simp only [before0_15_of m hO (dats m hO 0 c) (arrays m hO c 15) (fun _ => by dsimp only [dats]; try rfl) t]
  simp only [before0_16_of m hO (dats m hO 0 c) (arrays m hO c 16) (fun _ => by dsimp only [dats]; try rfl) t]
  simp only [before0_17_of m hO (dats m hO 0 c) (arrays m hO c 17) (fun _ => by dsimp only [dats]; try rfl) t]
  simp only [before0_18_of m hO (dats m hO 0 c) (arrays m hO c 18) (fun _ => by dsimp only [dats]; try rfl) t]
  simp only [before0_19_of m hO (dats m hO 0 c) (arrays m hO c 19) (fun _ => by dsimp only [dats]; try rfl) t]
  simp only [before0_20_of m hO (dats m hO 0 c) (arrays m hO c 20) (fun _ => by dsimp only [dats]; try rfl) t]
  simp only [before0_21_of m hO (dats m hO 0 c) (arrays m hO c 21) (fun _ => by dsimp only [dats]; try rfl) t]
  simp only [before0_22_of m hO (dats m hO 0 c) (arrays m hO c 22) (fun _ => by dsimp only [dats]; try rfl) t]
  simp only [before0_23_of m hO (dats m hO 0 c) (arrays m hO c 23) (fun _ => by dsimp only [dats]; try rfl) t]
  simp only [before0_24_of m hO (dats m hO 0 c) (arrays m hO c 24) (fun _ => by dsimp only [dats]; try rfl) t]
  simp only [before0_25_of m hO (dats m hO 0 c) (arrays m hO c 25) (fun _ => by dsimp only [dats]; try rfl) t]
  rw [show (dats m hO 0 c).owesAt () t.succ = (dats m hO 0 c).owesAt () t.castSucc from rfl,
    show (dats m hO 0 c).Φ t.succ = iprop(Pipeline.ΦA spec0 c ∗ Pipeline.ΦT pre0 (tbl m) c) from rfl,
    show (dats m hO 0 c).Φ t.castSucc = iprop(Pipeline.ΦA spec0 c ∗ Pipeline.ΦT pre0 (tbl m) c) from rfl, PhiT0_eq, PhiA0_eq]
  rw [show (dats m hO 0 c).leavesExact 0 t = owns (c : Thread nD τ) (ms0_0 m hO t) fullShare (iblk m hO c 0 t) from by
    unfold Dat.leavesExact; rw [liveAt0_0 m hO t]; rfl]
  rw [show (dats m hO 0 c).leavesExact 1 t = owns (c : Thread nD τ) (ms0_1 m hO t) fullShare (iblk m hO c 1 t) from by
    unfold Dat.leavesExact; rw [liveAt0_1 m hO t]; rfl]
  rw [show (dats m hO 0 c).leavesExact 2 t = owns (c : Thread nD τ) (ms0_2 m hO t) fullShare (iblk m hO c 2 t) from by
    unfold Dat.leavesExact; rw [liveAt0_2 m hO t]; rfl]
  rw [show (dats m hO 0 c).leavesExact 3 t = owns (c : Thread nD τ) (ms0_3 m hO t) fullShare (iblk m hO c 3 t) from by
    unfold Dat.leavesExact; rw [liveAt0_3 m hO t]; rfl]
  rw [show (dats m hO 0 c).leavesExact 4 t = owns (c : Thread nD τ) (ms0_4 m hO t) fullShare (iblk m hO c 4 t) from by
    unfold Dat.leavesExact; rw [liveAt0_4 m hO t]; rfl]
  rw [show (dats m hO 0 c).leavesExact 5 t = owns (c : Thread nD τ) (ms0_5 m hO t) fullShare (iblk m hO c 5 t) from by
    unfold Dat.leavesExact; rw [liveAt0_5 m hO t]; rfl]
  rw [show (dats m hO 0 c).leavesExact 6 t = owns (c : Thread nD τ) (ms0_6 m hO t) fullShare (iblk m hO c 6 t) from by
    unfold Dat.leavesExact; rw [liveAt0_6 m hO t]; rfl]
  rw [show (dats m hO 0 c).leavesExact 7 t = owns (c : Thread nD τ) (ms0_7 m hO t) fullShare (iblk m hO c 7 t) from by
    unfold Dat.leavesExact; rw [liveAt0_7 m hO t]; rfl]
  rw [show (dats m hO 0 c).leavesExact 8 t = owns (c : Thread nD τ) (ms0_8 m hO t) fullShare (iblk m hO c 8 t) from by
    unfold Dat.leavesExact; rw [liveAt0_8 m hO t]; rfl]
  rw [show (dats m hO 0 c).leavesExact 9 t = owns (c : Thread nD τ) (ms0_9 m hO t) fullShare (iblk m hO c 9 t) from by
    unfold Dat.leavesExact; rw [liveAt0_9 m hO t]; rfl]
  rw [show (dats m hO 0 c).leavesExact 10 t = owns (c : Thread nD τ) (ms0_10 m hO t) fullShare (iblk m hO c 10 t) from by
    unfold Dat.leavesExact; rw [liveAt0_10 m hO t]; rfl]
  rw [show (dats m hO 0 c).leavesExact 11 t = owns (c : Thread nD τ) (ms0_11 m hO t) fullShare (iblk m hO c 11 t) from by
    unfold Dat.leavesExact; rw [liveAt0_11 m hO t]; rfl]
  rw [show (dats m hO 0 c).leavesExact 12 t = owns (c : Thread nD τ) (ms0_12 m hO t) fullShare (iblk m hO c 12 t) from by
    unfold Dat.leavesExact; rw [liveAt0_12 m hO t]; rfl]
  rw [show (dats m hO 0 c).leavesExact 13 t = owns (c : Thread nD τ) (ms0_13 m hO t) fullShare (iblk m hO c 13 t) from by
    unfold Dat.leavesExact; rw [liveAt0_13 m hO t]; rfl]
  rw [show (dats m hO 0 c).leavesExact 14 t = owns (c : Thread nD τ) (ms0_14 m hO t) fullShare (iblk m hO c 14 t) from by
    unfold Dat.leavesExact; rw [liveAt0_14 m hO t]; rfl]
  rw [show (dats m hO 0 c).leavesExact 15 t = owns (c : Thread nD τ) (ms0_15 m hO t) fullShare (iblk m hO c 15 t) from by
    unfold Dat.leavesExact; rw [liveAt0_15 m hO t]; rfl]
  rw [show (dats m hO 0 c).leavesExact 16 t = owns (c : Thread nD τ) (ms0_16 m hO t) fullShare (iblk m hO c 16 t) from by
    unfold Dat.leavesExact; rw [liveAt0_16 m hO t]; rfl]
  rw [show (dats m hO 0 c).leavesExact 17 t = owns (c : Thread nD τ) (ms0_17 m hO t) fullShare (iblk m hO c 17 t) from by
    unfold Dat.leavesExact; rw [liveAt0_17 m hO t]; rfl]
  rw [show (dats m hO 0 c).leavesExact 18 t = owns (c : Thread nD τ) (ms0_18 m hO t) fullShare (iblk m hO c 18 t) from by
    unfold Dat.leavesExact; rw [liveAt0_18 m hO t]; rfl]
  rw [show (dats m hO 0 c).leavesExact 19 t = owns (c : Thread nD τ) (ms0_19 m hO t) fullShare (iblk m hO c 19 t) from by
    unfold Dat.leavesExact; rw [liveAt0_19 m hO t]; rfl]
  rw [show (dats m hO 0 c).leavesExact 20 t = owns (c : Thread nD τ) (ms0_20 m hO t) fullShare (iblk m hO c 20 t) from by
    unfold Dat.leavesExact; rw [liveAt0_20 m hO t]; rfl]
  rw [show (dats m hO 0 c).leavesExact 21 t = owns (c : Thread nD τ) (ms0_21 m hO t) fullShare (iblk m hO c 21 t) from by
    unfold Dat.leavesExact; rw [liveAt0_21 m hO t]; rfl]
  rw [show (dats m hO 0 c).leavesExact 22 t = owns (c : Thread nD τ) (ms0_22 m hO t) fullShare (iblk m hO c 22 t) from by
    unfold Dat.leavesExact; rw [liveAt0_22 m hO t]; rfl]
  rw [show (dats m hO 0 c).leavesExact 23 t = owns (c : Thread nD τ) (ms0_23 m hO t) fullShare (iblk m hO c 23 t) from by
    unfold Dat.leavesExact; rw [liveAt0_23 m hO t]; rfl]
  rw [show (dats m hO 0 c).leavesExact 24 t = owns (c : Thread nD τ) (ms0_24 m hO t) fullShare (iblk m hO c 24 t) from by
    unfold Dat.leavesExact; rw [liveAt0_24 m hO t]; rfl]
  rw [show (dats m hO 0 c).leavesExact 25 t = owns (c : Thread nD τ) (ms0_25 m hO t) fullShare (iblk m hO c 25 t) from by
    unfold Dat.leavesExact; rw [liveAt0_25 m hO t]; rfl]
  rw [show (dats m hO 0 c).leavesExact 26 t = owns (c : Thread nD τ) (ms0_26 m hO t) fullShare (block m hO c t.val t.isLt) from by
    unfold Dat.leavesExact; rw [liveAt0_26 m hO t]; rfl]
  iintro ⟨⟨⟨⟨HS0, HS1, HS2⟩, Hg⟩, HT⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, H27⟩
  iapply (body_run c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t) (iblk m hO c 20 t) (iblk m hO c 21 t) (iblk m hO c 22 t) (iblk m hO c 23 t) (iblk m hO c 24 t) (iblk m hO c 25 t) ((dats m hO 0 c).before 26 t d26) (tbl m 0) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [HS0]; · iexact HS0
  isplitl [HS1]; · iexact HS1
  isplitl [HS2]; · iexact HS2
  isplitl [HT]; · iexact HT
  iintro ⟨H0, H1, H2, H3, H4, H5, H6, H7, H8, H9, H10, H11, H12, H13, H14, H15, H16, H17, H18, H19, H20, H21, H22, H23, H24, H25, H26, H27, HS0, HS1, HS2, HT⟩
  isplitl [HS0 HS1 HS2 Hg HT]
  · isplitl [HS0 HS1 HS2 Hg]
    · isplitl [HS0 HS1 HS2]
      · isplitl [HS0]; · iexact HS0
        isplitl [HS1]; · iexact HS1
        iexact HS2
      iexact Hg
    iexact HT
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · rw [← next_before m hO c t d26]; iexact H26
  iexact H27

set_option maxHeartbeats 4000000 in
theorem body_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

set_option maxHeartbeats 4000000 in
theorem obligation (hO : Ok m) (c : Dev nD) :
    BodyObligation (dats (F := F) m hO 0 c) (defs₀ (F := F)) Variants.none () Set.univ forgets := fun t => by
  rw [bigSep_W0, bigSep_W0, body_row m hO]
  exact triple_restated (sound_body m hO c t) rfl .rfl fun _ => .rfl

theorem enter (hO : Ok m) (c : Dev nD) :
    iprop(Pipeline.ΦA spec0 c ∗ Pipeline.ΦT pre0 (tbl m) c) ⊢ (dats m hO 0 c).Φ 0 :=
  Idealize.SL.BI.Entails.refl _

theorem leave (hO : Ok m) (c : Dev nD) : (dats m hO 0 c).Φ (Fin.last (cfgM m hO).N) ⊢ Pipeline.ΦA spec0 c := by
  rw [show (dats m hO 0 c).Φ (Fin.last (cfgM m hO).N) = iprop(Pipeline.ΦA spec0 c ∗ Pipeline.ΦT pre0 (tbl m) c) from rfl]
  iintro ⟨H, -⟩
  iexact H

set_option backward.isDefEq.respectTransparency.types false in
/-- The launch: the staged arrays end as the points leave them, the other arrays as the call found them, and no
    semaphore is left raised. -/
theorem launched (hO : Ok m) :
    θ_run defs (onTc (τ := τ) (main (F := F))) (s₀ m ρ) (fun r =>
      (Pipeline.RDat.FramePost ((Pipeline.pin pcfgs fun _ => adm m hO) 0) (fun c => (dats m hO 0 c).toRForget forgets) (V m)) r
        ∧ r.2.sem = fun _ => 0) :=
  Pipeline.θ_run_frameP_track_forget_shared (Q' := _) pcfgs (fun _ => adm m hO) (dats m hO) (0 : Fin 1) launch₀0 defs₀
    Variants.none forgets m ρ main (hbody := fun c => (obligation m hO c).loose) (hq := fun _ _ _ => rfl)
    (howed := fun _ _ => rfl) (V := V m) (hmain := hmain m Variants.none) (hA := arrays m hO) (hpf := V_pre m)
    (hin := enter m hO) (hout := leave m hO)

set_option maxHeartbeats 4000000 in
/-- What the run leaves: the arguments as they were, no semaphore raised, and the returned rows' array as the points
    leave it. -/
theorem run (hO : Ok m) :
    θ_run defs (onTc (τ := τ) (main (F := F))) ⟨m, fun _ => 0, ρ⟩ (fun r => ((∀ c : Dev nD,
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0)
      ∧ ∀ c : Dev nD, r.2.mem ((c.tc : Thread nD τ).loc main_v15_0) = (dats m hO 0 c).arrAt 26 (Fin.last (cfgM m hO).N)) :=
  (θ_run defs _ _).mono (fun r h => ⟨⟨fun c => ⟨
      ((Dat.toRForget_arrAt_iff (dat := dats m hO 0 c) (fgt := forgets) (w := 0) rfl _ _).mp ((h.1 c).1 0)).trans
        (((dats m hO 0 c).arrAt_in 0 rfl _).trans ((arrays m hO c 0).trans (V_main_arg0 m c))),
      ((Dat.toRForget_arrAt_iff (dat := dats m hO 0 c) (fgt := forgets) (w := 1) rfl _ _).mp ((h.1 c).1 1)).trans
        (((dats m hO 0 c).arrAt_in 1 rfl _).trans ((arrays m hO c 1).trans (V_main_arg1 m c))),
      ((h.1 c).2 main_arg2 (by decide : main_arg2 ∈ Pipeline.restRefs sig spec0)).trans (V_main_arg2 m c),
      ((h.1 c).2 main_arg3 (by decide : main_arg3 ∈ Pipeline.restRefs sig spec0)).trans (V_main_arg3 m c),
      ((h.1 c).2 main_arg4 (by decide : main_arg4 ∈ Pipeline.restRefs sig spec0)).trans (V_main_arg4 m c),
      ((h.1 c).2 main_arg5 (by decide : main_arg5 ∈ Pipeline.restRefs sig spec0)).trans (V_main_arg5 m c),
      ((h.1 c).2 main_arg6 (by decide : main_arg6 ∈ Pipeline.restRefs sig spec0)).trans (V_main_arg6 m c),
      ((h.1 c).2 main_arg7 (by decide : main_arg7 ∈ Pipeline.restRefs sig spec0)).trans (V_main_arg7 m c),
      ((h.1 c).2 main_arg8 (by decide : main_arg8 ∈ Pipeline.restRefs sig spec0)).trans (V_main_arg8 m c),
      ((h.1 c).2 main_arg9 (by decide : main_arg9 ∈ Pipeline.restRefs sig spec0)).trans (V_main_arg9 m c),
      ((h.1 c).2 main_arg10 (by decide : main_arg10 ∈ Pipeline.restRefs sig spec0)).trans (V_main_arg10 m c),
      ((h.1 c).2 main_arg11 (by decide : main_arg11 ∈ Pipeline.restRefs sig spec0)).trans (V_main_arg11 m c),
      ((h.1 c).2 main_arg12 (by decide : main_arg12 ∈ Pipeline.restRefs sig spec0)).trans (V_main_arg12 m c)⟩, h.2⟩, fun c =>
      (Dat.toRForget_arrAt_iff (dat := dats m hO 0 c) (fgt := forgets) (w := 26) rfl _ _).mp ((h.1 c).1 26)⟩) (launched m ρ hO)

end Cert.Proof.Ffn

end

end
-- ==== Proof.Hidden.lean ====
/- The hidden columns of a feed-forward: one column's part of an entry, and the sum of the first of them. -/
module

public import Idealize.ShloMosaic.PureOps.Ideal

@[expose] public section

noncomputable section

namespace Cert.Proof.Hidden

/-- The square of the positive part. -/
def act (s : EReal) : EReal := max s 0 * max s 0

/-- One hidden column's part of an entry: the row against its column of the first weights, times its weight in the second. -/
def term {K : ℕ} (z up : Fin K → EReal) (down : EReal) : EReal := act (∑ k, z k * up k) * down

/-- The first `n` parts of an entry of `N` parts, with the entry's residual. -/
def upto {N : ℕ} (h : EReal) (f : Fin N → EReal) (n : ℕ) : EReal :=
  h + ∑ k ∈ Finset.range n, if hk : k < N then f ⟨k, hk⟩ else 0

theorem upto_zero {N : ℕ} (h : EReal) (f : Fin N → EReal) : upto h f 0 = h := by
  rw [upto, Finset.range_zero, Finset.sum_empty, add_zero]

/-- `S` parts more. -/
theorem upto_slice {N S : ℕ} (h : EReal) (f : Fin N → EReal) (s : ℕ) (hs : (s + 1) * S ≤ N) :
    upto h f ((s + 1) * S) = upto h f (s * S) + ∑ q : Fin S, f ⟨s * S + q.val, by have := q.isLt; rw [Nat.succ_mul] at hs; omega⟩ := by
  unfold upto
  rw [Nat.succ_mul, Finset.sum_range_add, add_assoc, Finset.sum_range (n := S)]
  refine congrArg _ (congrArg _ (Finset.sum_congr rfl fun q _ => dif_pos ?_))
  have := q.isLt
  rw [Nat.succ_mul] at hs
  omega

/-- All the parts at once. -/
theorem upto_all {N : ℕ} (h : EReal) (f : Fin N → EReal) : upto h f N = h + ∑ k, f k := by
  unfold upto
  rw [Finset.sum_range (n := N)]
  exact congrArg _ (Finset.sum_congr rfl fun k _ => dif_pos k.isLt)

end Cert.Proof.Hidden

end
-- ==== Proof.FfnKernel.lean ====
/- What the call that does the prompt rows' feed-forward leaves in the returned rows' array, read at an index. -/
module

public import proofs.«01_k».proof.Proof.FfnRun
public import proofs.«01_k».proof.Proof.Rows
public import proofs.«01_k».proof.Proof.Hidden
public import Idealize.ShloMosaic.Lib.StableHlo.ReadAt

@[expose] public section

set_option maxRecDepth 16384

noncomputable section

namespace Cert.Proof.Ffn

open Idealize.ShloMosaic Idealize.ShloMosaic.TcCoe Idealize.SL.Sem Cert.Kernel2Ideal Cert.Kernel2Ideal.Gen
open Cert.Proof.Rows (normed)
open Cert.Proof.Hidden (act term)

/-! ## One point's block -/

/-- The rows after a slice of hidden columns, read at an index. -/
theorem added_apply (z : Vec Ideal S512x2048 .bf16) (up : Vec Ideal S2048x512 .bf16) (down y) (r : Fin 512) (d : Fin 2048) :
    added z up down y (ix2 r d)
      = y (ix2 r d) + ∑ q : Fin 512, term (fun k : Fin 2048 => z (ix2 r k)) (fun k => up (ix2 k q)) (down (ix2 q d)) := by
  unfold added term act
  pointwise [k0_pay62]

/-- The normalized rows, read at an index. -/
theorem normed_apply (y : Vec Ideal S512x2048 .f32) (g : Vec Ideal S1x2048 .f32) (r : Fin 512) (d : Fin 2048) :
    k0_pay3 y g (ix2 r d) = normed (y (ix2 r d)) (∑ q : Fin 2048, y (ix2 r q) * y (ix2 r q)) (g (ix2 0 d)) := by
  pointwise [k0_pay3]; rfl

variable (m : (ℓ : Loc nD τ sig) → Buf (Elt Ideal) ℓ) (hO : Ok m)

theorem index0 : ∀ t : Fin (cfgM m hO).N, ((cfgM m hO).win 0).index t (0 : Fin 2) = t.val / 16 ∧ ((cfgM m hO).win 0).index t (1 : Fin 2) = 0 :=
  (by decide +kernel : ∀ t : Fin grid0.N, cc0_transform_0 (grid0.coords t) 0 = t.val / 16 ∧ cc0_transform_0 (grid0.coords t) 1 = 0)
theorem index1 : ∀ t : Fin (cfgM m hO).N, ((cfgM m hO).win 1).index t (0 : Fin 2) = t.val / 16 ∧ ((cfgM m hO).win 1).index t (1 : Fin 2) = 0 :=
  (by decide +kernel : ∀ t : Fin grid0.N, cc0_transform_1 (grid0.coords t) 0 = t.val / 16 ∧ cc0_transform_1 (grid0.coords t) 1 = 0)
theorem index2 : ∀ t : Fin (cfgM m hO).N, ((cfgM m hO).win 2).index t (0 : Fin 2) = 0 ∧ ((cfgM m hO).win 2).index t (1 : Fin 2) = t.val % 16 :=
  (by decide +kernel : ∀ t : Fin grid0.N, cc0_transform_2 (grid0.coords t) 0 = 0 ∧ cc0_transform_2 (grid0.coords t) 1 = t.val % 16)
theorem index3 : ∀ t : Fin (cfgM m hO).N, ((cfgM m hO).win 3).index t (0 : Fin 2) = t.val % 16 ∧ ((cfgM m hO).win 3).index t (1 : Fin 2) = 0 :=
  (by decide +kernel : ∀ t : Fin grid0.N, cc0_transform_3 (grid0.coords t) 0 = t.val % 16 ∧ cc0_transform_3 (grid0.coords t) 1 = 0)
theorem index4 : ∀ t : Fin (cfgM m hO).N, ((cfgM m hO).win 4).index t (0 : Fin 2) = 0 ∧ ((cfgM m hO).win 4).index t (1 : Fin 2) = 0 :=
  (by decide +kernel : ∀ t : Fin grid0.N, cc0_transform_4 (grid0.coords t) 0 = 0 ∧ cc0_transform_4 (grid0.coords t) 1 = 0)
theorem index26 : ∀ t : Fin (cfgM m hO).N, ((cfgM m hO).win 26).index t (0 : Fin 2) = t.val / 16 ∧ ((cfgM m hO).win 26).index t (1 : Fin 2) = 0 :=
  (by decide +kernel : ∀ t : Fin grid0.N, cc0_transform_26 (grid0.coords t) 0 = t.val / 16 ∧ cc0_transform_26 (grid0.coords t) 1 = 0)

theorem lt256 (t : Fin (cfgM m hO).N) : t.val < 256 := lt_of_lt_of_eq t.isLt (show (cfgM m hO).N = 256 from N_0)

/-! ## The blocks the windows read -/

def zAt (c : Dev nD) (r : ℕ) (hr : r < 8192) (k : Fin 2048) : EReal :=
  (m ((c : Thread nD τ).loc main_arg0) : S8192x2048.Idx → EReal) (ix2 ⟨r, hr⟩ k)
def hAt (c : Dev nD) (r : ℕ) (hr : r < 8192) (d : Fin 2048) : EReal :=
  (m ((c : Thread nD τ).loc main_arg1) : S8192x2048.Idx → EReal) (ix2 ⟨r, hr⟩ d)
def upAt (c : Dev nD) (k : Fin 2048) (n : ℕ) (hn : n < 8192) : EReal :=
  (m ((c : Thread nD τ).loc main_arg2) : S1x2048x8192.Idx → EReal) (ix3 0 k ⟨n, hn⟩)
def downAt (c : Dev nD) (n : ℕ) (hn : n < 8192) (d : Fin 2048) : EReal :=
  (m ((c : Thread nD τ).loc main_arg3) : S1x8192x2048.Idx → EReal) (ix3 0 ⟨n, hn⟩ d)
def gAt (c : Dev nD) (d : Fin 2048) : EReal := (m ((c : Thread nD τ).loc main_arg4) : S2048.Idx → EReal) (ix1 d)

theorem V2_apply (c : Dev nD) (j : S2048x8192.Idx) :
    (V m c main_v2 : S2048x8192.Idx → EReal) j = upAt m c (j 0) (j 1).val (j 1).isLt := by
  unfold V
  after_reads_at
  rfl
theorem V4_apply (c : Dev nD) (j : S8192x2048.Idx) :
    (V m c main_v4 : S8192x2048.Idx → EReal) j = downAt m c (j 0).val (j 0).isLt (j 1) := by
  unfold V
  after_reads_at
  rfl
theorem V0_apply (c : Dev nD) (j : S1x2048.Idx) :
    (V m c main_v0 : S1x2048.Idx → EReal) j = gAt m c (j 1) := by
  unfold V
  after_reads_at
  rfl

/-- The array index an element of a window's block sits at. -/
theorem emb_eq {A B : ℕ} (e : (⟨2, ![A, B]⟩ : Shape).Idx) (x : Fin A) (y : Fin B) (h0 : (e 0).val = x.val) (h1 : (e 1).val = y.val) :
    e = ix2 x y :=
  funext fun a => by
    match a with
    | ⟨0, _⟩ => exact Fin.ext h0
    | ⟨1, _⟩ => exact Fin.ext h1

theorem z_block (c : Dev nD) (t : Fin (cfgM m hO).N) (r : Fin 512) (k : Fin 2048) :
    (iblk m hO c 0 t : S512x2048.Idx → EReal) (ix2 r k) = zAt m c (t.val / 16 * 512 + r.val) (by have := lt256 m hO t; omega) k := by
  show (m ((c : Thread nD τ).loc main_arg0) : S8192x2048.Idx → EReal) ((((cfgM m hO).win 0).rect t).emb (ix2 r k)) = _
  rw [emb_eq ((((cfgM m hO).win 0).rect t).emb (ix2 r k)) ⟨t.val / 16 * 512 + r.val, by have := lt256 m hO t; omega⟩ k
    (by
      have e := ((cfgM m hO).win 0).rect_emb_val t (ix2 r k) (0 : Fin 2)
      rw [(index0 m hO t).1] at e
      exact e)
    (((cfgM m hO).win 0).rect_emb_val_of_index_zero t (1 : Fin 2) (index0 m hO t).2 (ix2 r k))]
  rfl

theorem h_block (c : Dev nD) (t : Fin (cfgM m hO).N) (r : Fin 512) (k : Fin 2048) :
    (iblk m hO c 1 t : S512x2048.Idx → EReal) (ix2 r k) = hAt m c (t.val / 16 * 512 + r.val) (by have := lt256 m hO t; omega) k := by
  show (m ((c : Thread nD τ).loc main_arg1) : S8192x2048.Idx → EReal) ((((cfgM m hO).win 1).rect t).emb (ix2 r k)) = _
  rw [emb_eq ((((cfgM m hO).win 1).rect t).emb (ix2 r k)) ⟨t.val / 16 * 512 + r.val, by have := lt256 m hO t; omega⟩ k
    (by
      have e := ((cfgM m hO).win 1).rect_emb_val t (ix2 r k) (0 : Fin 2)
      rw [(index1 m hO t).1] at e
      exact e)
    (((cfgM m hO).win 1).rect_emb_val_of_index_zero t (1 : Fin 2) (index1 m hO t).2 (ix2 r k))]
  rfl

theorem up_block (c : Dev nD) (t : Fin (cfgM m hO).N) (r : Fin 2048) (k : Fin 512) :
    (iblk m hO c 2 t : S2048x512.Idx → EReal) (ix2 r k) = upAt m c r (t.val % 16 * 512 + k.val) (by have := lt256 m hO t; omega) := by
  show (V m c main_v2 : S2048x8192.Idx → EReal) ((((cfgM m hO).win 2).rect t).emb (ix2 r k)) = _
  rw [emb_eq ((((cfgM m hO).win 2).rect t).emb (ix2 r k)) r ⟨t.val % 16 * 512 + k.val, by have := lt256 m hO t; omega⟩
    (((cfgM m hO).win 2).rect_emb_val_of_index_zero t (0 : Fin 2) (index2 m hO t).1 (ix2 r k))
    (by
      have e := ((cfgM m hO).win 2).rect_emb_val t (ix2 r k) (1 : Fin 2)
      rw [(index2 m hO t).2] at e
      exact e)]
  exact V2_apply m c _

theorem down_block (c : Dev nD) (t : Fin (cfgM m hO).N) (r : Fin 512) (k : Fin 2048) :
    (iblk m hO c 3 t : S512x2048.Idx → EReal) (ix2 r k) = downAt m c (t.val % 16 * 512 + r.val) (by have := lt256 m hO t; omega) k := by
  show (V m c main_v4 : S8192x2048.Idx → EReal) ((((cfgM m hO).win 3).rect t).emb (ix2 r k)) = _
  rw [emb_eq ((((cfgM m hO).win 3).rect t).emb (ix2 r k)) ⟨t.val % 16 * 512 + r.val, by have := lt256 m hO t; omega⟩ k
    (by
      have e := ((cfgM m hO).win 3).rect_emb_val t (ix2 r k) (0 : Fin 2)
      rw [(index3 m hO t).1] at e
      exact e)
    (((cfgM m hO).win 3).rect_emb_val_of_index_zero t (1 : Fin 2) (index3 m hO t).2 (ix2 r k))]
  exact V4_apply m c _

theorem g_block (c : Dev nD) (t : Fin (cfgM m hO).N) (r : Fin 1) (k : Fin 2048) :
    (iblk m hO c 4 t : S1x2048.Idx → EReal) (ix2 r k) = gAt m c k := by
  show (V m c main_v0 : S1x2048.Idx → EReal) ((((cfgM m hO).win 4).rect t).emb (ix2 r k)) = _
  rw [emb_eq ((((cfgM m hO).win 4).rect t).emb (ix2 r k)) r k
    (((cfgM m hO).win 4).rect_emb_val_of_index_zero t (0 : Fin 2) (index4 m hO t).1 (ix2 r k))
    (((cfgM m hO).win 4).rect_emb_val_of_index_zero t (1 : Fin 2) (index4 m hO t).2 (ix2 r k))]
  exact V0_apply m c _

/-! ## The rows' sums, slice by slice -/

/-- One hidden column's part of an entry, zero past the last column. -/
def termAt (c : Dev nD) (r : ℕ) (hr : r < 8192) (d : Fin 2048) (n : ℕ) : EReal :=
  if hn : n < 8192 then term (zAt m c r hr) (fun k => upAt m c k n hn) (downAt m c n hn d) else 0

/-- The part of an entry of the hidden columns below `n`, with the entry's residual. -/
def upto (c : Dev nD) (r : ℕ) (hr : r < 8192) (d : Fin 2048) (n : ℕ) : EReal :=
  hAt m c r hr d + ∑ k ∈ Finset.range n, termAt m c r hr d k

/-- One slice more. -/
theorem upto_slice (c : Dev nD) (r : ℕ) (hr : r < 8192) (d : Fin 2048) (s : ℕ) :
    upto m c r hr d ((s + 1) * 512) = upto m c r hr d (s * 512) + ∑ q : Fin 512, termAt m c r hr d (s * 512 + q.val) := by
  unfold upto
  rw [Nat.succ_mul, Finset.sum_range_add, add_assoc, Finset.sum_range (n := 512)]

/-- The sum of a point's rows, when it starts from the slices before. -/
theorem added_at (c : Dev nD) (t : Fin (cfgM m hO).N) (y : Vec Ideal S512x2048 .f32) (r : Fin 512) (d : Fin 2048)
    (hr : t.val / 16 * 512 + r.val < 8192) (hy : y (ix2 r d) = upto m c (t.val / 16 * 512 + r.val) hr d (t.val % 16 * 512)) :
    added (iblk m hO c 0 t) (iblk m hO c 2 t) (iblk m hO c 3 t) y (ix2 r d)
      = upto m c (t.val / 16 * 512 + r.val) hr d ((t.val % 16 + 1) * 512) := by
  refine (added_apply _ _ _ _ r d).trans ?_
  rw [hy, upto_slice]
  refine congrArg _ (Finset.sum_congr rfl fun q _ => ?_)
  have hn : t.val % 16 * 512 + q.val < 8192 := by omega
  simp only [termAt, dif_pos hn, z_block, up_block, down_block]

/-- The block a point starts from. -/
theorem start_first (c : Dev nD) (t : Fin (cfgM m hO).N) (h : t.val % 16 = 0) (r : Fin 512) (d : Fin 2048)
    (hr : t.val / 16 * 512 + r.val < 8192) :
    (iblk m hO c 1 t : S512x2048.Idx → EReal) (ix2 r d) = upto m c (t.val / 16 * 512 + r.val) hr d (t.val % 16 * 512) := by
  refine (h_block m hO c t r d).trans ?_
  rw [h, upto, Nat.zero_mul, Finset.range_zero, Finset.sum_empty, add_zero]

theorem stepped_last (i : grid0.Coords) (h0 : ¬cond0_0 i) (h2 : cond0_2 i) (z h up down g) (y : Vec Ideal S512x2048 .f32) :
    stepped i z h up down g y = k0_pay3 (added z up down y) g := by
  unfold stepped; rw [if_pos h2, if_neg h0]

theorem stepped_zero (i : grid0.Coords) (h0 : cond0_0 i) (h2 : ¬cond0_2 i) (z h up down g) (y : Vec Ideal S512x2048 .f32) :
    stepped i z h up down g y = added z up down h := by
  unfold stepped; rw [if_neg h2, if_pos h0]

theorem stepped_more (i : grid0.Coords) (h0 : ¬cond0_0 i) (h2 : ¬cond0_2 i) (z h up down g) (y : Vec Ideal S512x2048 .f32) :
    stepped i z h up down g y = added z up down y := by
  unfold stepped; rw [if_neg h2, if_neg h0]

/-- Before the last slice a point's block is the sum so far. -/
theorem block_at (c : Dev nD) (r : Fin 512) (d : Fin 2048) : ∀ (n : ℕ) (h : n < (cfgM m hO).N) (_ : n % 16 ≠ 15) (hr : n / 16 * 512 + r.val < 8192),
    block m hO c n h (ix2 r d) = upto m c (n / 16 * 512 + r.val) hr d ((n % 16 + 1) * 512) := by
  intro n
  induction n with
  | zero =>
    intro h _ hr
    have e := block_first m hO c ⟨0, h⟩ (Nat.zero_mod 16) (iblk m hO c 1 ⟨0, h⟩)
    refine (congrFun e (ix2 r d)).trans ?_
    refine (congrFun (stepped_zero _ ((hcond0_0 ⟨0, h⟩).mpr (Nat.zero_mod 16)) (fun hc => absurd (show (0 : ℕ) % 16 = 15 from (hcond0_2 ⟨0, h⟩).mp hc) (by decide)) _ _ _ _ _ _) (ix2 r d)).trans ?_
    exact added_at m hO c ⟨0, h⟩ _ r d hr (start_first m hO c ⟨0, h⟩ (Nat.zero_mod 16) r d hr)
  | succ n ih =>
    intro h hl hr
    have h2 : ¬cond0_2 (grid0.coords ⟨n + 1, h⟩) := fun hc => hl ((hcond0_2 ⟨n + 1, h⟩).mp hc)
    by_cases h0 : (n + 1) % 16 = 0
    · refine (congrFun (block_first m hO c ⟨n + 1, h⟩ h0 (iblk m hO c 1 ⟨n + 1, h⟩)) (ix2 r d)).trans ?_
      refine (congrFun (stepped_zero _ ((hcond0_0 ⟨n + 1, h⟩).mpr h0) h2 _ _ _ _ _ _) (ix2 r d)).trans ?_
      exact added_at m hO c ⟨n + 1, h⟩ _ r d hr (start_first m hO c ⟨n + 1, h⟩ h0 r d hr)
    · refine (congrFun (stepped_more _ (fun hc => h0 ((hcond0_0 ⟨n + 1, h⟩).mp hc)) h2 _ _ _ _ _ _) (ix2 r d)).trans ?_
      refine added_at m hO c ⟨n + 1, h⟩ _ r d hr ((ih (Nat.lt_of_succ_lt h) (by omega) (by omega)).trans ?_)
      simp only [show n / 16 = (n + 1) / 16 by omega, show n % 16 + 1 = (n + 1) % 16 by omega]

/-- A returned row's entry: the residual with all the hidden columns, the row scaled to unit mean square. -/
def outAt (c : Dev nD) (r : ℕ) (hr : r < 8192) (d : Fin 2048) : EReal :=
  normed (upto m c r hr d 8192) (∑ q : Fin 2048, upto m c r hr q 8192 * upto m c r hr q 8192) (gAt m c d)

/-- At the last slice a point's block is the normalized rows. -/
theorem block_last (c : Dev nD) (t : Fin (cfgM m hO).N) (h : t.val % 16 = 15) (r : Fin 512) (d : Fin 2048) (hr : t.val / 16 * 512 + r.val < 8192) :
    block m hO c t.val t.isLt (ix2 r d) = outAt m c (t.val / 16 * 512 + r.val) hr d := by
  have ht : t.val - 1 < (cfgM m hO).N := Nat.lt_of_le_of_lt (Nat.sub_le _ _) t.isLt
  refine (congrFun (block_pos m hO c t (by omega)) (ix2 r d)).trans ?_
  refine (congrFun (stepped_last _ (fun hc => absurd ((hcond0_0 t).mp hc) (by omega)) ((hcond0_2 t).mpr h) _ _ _ _ _ _) (ix2 r d)).trans ?_
  have e (q : Fin 2048) : added (iblk m hO c 0 t) (iblk m hO c 2 t) (iblk m hO c 3 t) (block m hO c (t.val - 1) ht) (ix2 r q)
      = upto m c (t.val / 16 * 512 + r.val) hr q 8192 := by
    refine (added_at m hO c t _ r q hr ((block_at m hO c r q _ ht (by omega) (by omega)).trans ?_)).trans (by rw [h])
    simp only [show (t.val - 1) / 16 = t.val / 16 by omega, show (t.val - 1) % 16 + 1 = t.val % 16 by omega]
  refine (normed_apply _ _ r d).trans ?_
  unfold outAt
  rw [g_block]
  simp only [e]

/-! ## The returned rows' array -/

def result (c : Dev nD) : S8192x2048.Idx → EReal := fun i => outAt m c (i 0).val (i 0).isLt (i 1)

theorem flushed_eq (c : Dev nD) (t : Fin (cfgM m hO).N) (h : t.val % 16 = 15) :
    (dats m hO 0 c).flushed 26 t = (((cfgM m hO).win 26).blk t).view.read (Elt Ideal) (result m c) := by
  refine funext fun (y : S512x2048.Idx) => ?_
  obtain ⟨r, k, rfl⟩ : ∃ (r : Fin 512) (k : Fin 2048), y = ix2 r k := ⟨y 0, y 1, eq_ix2 y⟩
  have hr : t.val / 16 * 512 + r.val < 8192 := by have := lt256 m hO t; omega
  show block m hO c t.val t.isLt (ix2 r k) = result m c ((((cfgM m hO).win 26).rect t).emb (ix2 r k))
  rw [emb_eq ((((cfgM m hO).win 26).rect t).emb (ix2 r k)) ⟨t.val / 16 * 512 + r.val, hr⟩ k
    (by
      have e := ((cfgM m hO).win 26).rect_emb_val t (ix2 r k) (0 : Fin 2)
      rw [(index26 m hO t).1] at e
      exact e)
    (((cfgM m hO).win 26).rect_emb_val_of_index_zero t (1 : Fin 2) (index26 m hO t).2 (ix2 r k))]
  exact block_last m hO c t h r k hr

theorem mem_block (t : Fin (cfgM m hO).N) (i : S8192x2048.Idx) (h : t.val / 16 = (i 0).val / 512) :
    i ∈ (((cfgM m hO).win 26).blk t).view.set := by
  have e : (((cfgM m hO).win 26).blk t).view.set = (((cfgM m hO).win 26).rect t).set := View.set_slice_whole main_v15_0 _
  refine cast (congrArg (i ∈ ·) e.symm) (Rect.mem_set_unit.mpr fun (a : Fin 2) => ?_)
  have h1 : (i 1).val < 2048 := (i 1).isLt
  match a with
  | ⟨0, _⟩ =>
    show ((cfgM m hO).win 26).index t (0 : Fin 2) * 512 ≤ (i 0).val ∧ (i 0).val < ((cfgM m hO).win 26).index t (0 : Fin 2) * 512 + 512
    rw [(index26 m hO t).1]; omega
  | ⟨1, _⟩ =>
    show ((cfgM m hO).win 26).index t (1 : Fin 2) * 2048 ≤ (i 1).val ∧ (i 1).val < ((cfgM m hO).win 26).index t (1 : Fin 2) * 2048 + 2048
    rw [(index26 m hO t).2]; omega

theorem final (c : Dev nD) : (dats m hO 0 c).arrAt 26 (cfgM m hO).N = result m c :=
  (dats m hO 0 c).arrAt_eq_of_cover 26 (result m c) (fun t h => flushed_eq m hO c t ((flush0_26 (adm m hO) t).mp h)) fun (i : S8192x2048.Idx) => by
    have h0 : (i 0).val < 8192 := (i 0).isLt
    have hN : (cfgM m hO).N = 256 := N_0
    let t : Fin (cfgM m hO).N := ⟨(i 0).val / 512 * 16 + 15, by omega⟩
    have hv : t.val = (i 0).val / 512 * 16 + 15 := rfl
    exact ⟨t, (flush0_26 (adm m hO) t).mpr (by omega), mem_block m hO t i (by omega)⟩

end Cert.Proof.Ffn

end
-- ==== Proof.FfnReference.lean ====
/- The reference of the prompt rows' feed-forward, read at an index: it ends where the kernel does. -/
module

public import proofs.«01_k».proof.Proof.Gen.Reference2Ideal.Read
public import proofs.«01_k».proof.Proof.FfnKernel

@[expose] public section

noncomputable section

namespace Cert.Proof.Ffn.Ref

open Idealize.ShloMosaic Idealize.ShloMosaic.TcCoe Idealize.SL.Sem Cert.Reference2Ideal Cert.Reference2Ideal.Gen Cert.Reference2Ideal.Read
open Cert.Proof.Rows (normed)
open Cert.Proof.Hidden (act term)

variable (x0 x1 : S8192x2048.Idx → EReal) (x2 : S1x2048x8192.Idx → EReal) (x3 : S1x8192x2048.Idx → EReal) (x4 : S2048.Idx → EReal)

/-- The residual with the feed-forward, read at an index. -/
theorem sum_apply (r : Fin 8192) (d : Fin 2048) :
    val_main_v7 (F := Ideal) x0 x1 x2 x3 (ix2 r d)
      = x1 (ix2 r d) + ∑ n : Fin 8192, term (fun k : Fin 2048 => x0 (ix2 r k)) (fun k => x2 (ix3 0 k n)) (x3 (ix3 0 n d)) := by
  unfold term act
  pointwise [val_main_v7, val_main_v6, val_main_v5, val_main_v4, val_main_v3, val_main_call0_v0, val_main_call0_cst, val_main_v2, val_main_v1, val_main_v0]

theorem result_apply (r : Fin 8192) (d : Fin 2048) :
    val_main_v20 (F := Ideal) x0 x1 x2 x3 x4 (ix2 r d)
      = normed (val_main_v7 (F := Ideal) x0 x1 x2 x3 (ix2 r d))
          (∑ q : Fin 2048, val_main_v7 (F := Ideal) x0 x1 x2 x3 (ix2 r q) * val_main_v7 (F := Ideal) x0 x1 x2 x3 (ix2 r q)) (x4 (ix1 d)) := by
  pointwise [val_main_v20, val_main_v19, val_main_v18, val_main_v17, val_main_v16, val_main_v15, val_main_v14, val_main_v13, val_main_cst_1, val_main_v12, val_main_v11, val_main_cst_0, val_main_v10, val_main_v9, val_main_cst, val_main_v8]
  rfl

section Runs
variable (m : (ℓ : Loc Cert.Kernel2Ideal.nD Cert.Kernel2Ideal.τ Cert.Kernel2Ideal.sig) → Buf (Elt Ideal) ℓ)

/-- All the hidden columns' parts at once. -/
theorem upto_all (c : Dev nD) (r : ℕ) (hr : r < 8192) (d : Fin 2048) :
    upto m c r hr d 8192 = hAt m c r hr d + ∑ n : Fin 8192, term (zAt m c r hr) (fun k => upAt m c k n.val n.isLt) (downAt m c n.val n.isLt d) := by
  unfold upto
  rw [Finset.sum_range (n := 8192)]
  exact congrArg _ (Finset.sum_congr rfl fun n _ => by rw [termAt, dif_pos n.isLt])

/-- The reference's run from a memory that holds the kernel's arguments: its result is the kernel's. -/
theorem run (m' : (ℓ : Loc nD τ sig) → Buf (Elt Ideal) ℓ) (ρ : Dev nD → PrngReg)
    (h : ∀ c : Dev nD, m' ((c : Thread nD τ).loc main_arg0) = m ((c.tc : Thread Cert.Kernel2Ideal.nD Cert.Kernel2Ideal.τ).loc Cert.Kernel2Ideal.main_arg0)
      ∧ m' ((c : Thread nD τ).loc main_arg1) = m ((c.tc : Thread Cert.Kernel2Ideal.nD Cert.Kernel2Ideal.τ).loc Cert.Kernel2Ideal.main_arg1)
      ∧ m' ((c : Thread nD τ).loc main_arg2) = m ((c.tc : Thread Cert.Kernel2Ideal.nD Cert.Kernel2Ideal.τ).loc Cert.Kernel2Ideal.main_arg2)
      ∧ m' ((c : Thread nD τ).loc main_arg3) = m ((c.tc : Thread Cert.Kernel2Ideal.nD Cert.Kernel2Ideal.τ).loc Cert.Kernel2Ideal.main_arg3)
      ∧ m' ((c : Thread nD τ).loc main_arg4) = m ((c.tc : Thread Cert.Kernel2Ideal.nD Cert.Kernel2Ideal.τ).loc Cert.Kernel2Ideal.main_arg4)
      ∧ m' ((c : Thread nD τ).loc main_arg5) = m ((c.tc : Thread Cert.Kernel2Ideal.nD Cert.Kernel2Ideal.τ).loc Cert.Kernel2Ideal.main_arg5)
      ∧ m' ((c : Thread nD τ).loc main_arg6) = m ((c.tc : Thread Cert.Kernel2Ideal.nD Cert.Kernel2Ideal.τ).loc Cert.Kernel2Ideal.main_arg6)
      ∧ m' ((c : Thread nD τ).loc main_arg7) = m ((c.tc : Thread Cert.Kernel2Ideal.nD Cert.Kernel2Ideal.τ).loc Cert.Kernel2Ideal.main_arg7)
      ∧ m' ((c : Thread nD τ).loc main_arg8) = m ((c.tc : Thread Cert.Kernel2Ideal.nD Cert.Kernel2Ideal.τ).loc Cert.Kernel2Ideal.main_arg8)
      ∧ m' ((c : Thread nD τ).loc main_arg9) = m ((c.tc : Thread Cert.Kernel2Ideal.nD Cert.Kernel2Ideal.τ).loc Cert.Kernel2Ideal.main_arg9)
      ∧ m' ((c : Thread nD τ).loc main_arg10) = m ((c.tc : Thread Cert.Kernel2Ideal.nD Cert.Kernel2Ideal.τ).loc Cert.Kernel2Ideal.main_arg10)
      ∧ m' ((c : Thread nD τ).loc main_arg11) = m ((c.tc : Thread Cert.Kernel2Ideal.nD Cert.Kernel2Ideal.τ).loc Cert.Kernel2Ideal.main_arg11)
      ∧ m' ((c : Thread nD τ).loc main_arg12) = m ((c.tc : Thread Cert.Kernel2Ideal.nD Cert.Kernel2Ideal.τ).loc Cert.Kernel2Ideal.main_arg12)) :
    θ_run defs (onTc (τ := τ) (main (F := Ideal))) ⟨m', fun _ => 0, ρ⟩ fun r => ∀ c : Dev nD,
      r.2.mem ((c : Thread nD τ).loc main_v20) = Ffn.result m c
      ∧ r.2.mem ((c : Thread nD τ).loc main_arg0) = m' ((c : Thread nD τ).loc main_arg0)
      ∧ r.2.mem ((c : Thread nD τ).loc main_arg1) = m' ((c : Thread nD τ).loc main_arg1)
      ∧ r.2.mem ((c : Thread nD τ).loc main_arg2) = m' ((c : Thread nD τ).loc main_arg2)
      ∧ r.2.mem ((c : Thread nD τ).loc main_arg3) = m' ((c : Thread nD τ).loc main_arg3)
      ∧ r.2.mem ((c : Thread nD τ).loc main_arg4) = m' ((c : Thread nD τ).loc main_arg4)
      ∧ r.2.mem ((c : Thread nD τ).loc main_arg5) = m' ((c : Thread nD τ).loc main_arg5)
      ∧ r.2.mem ((c : Thread nD τ).loc main_arg6) = m' ((c : Thread nD τ).loc main_arg6)
      ∧ r.2.mem ((c : Thread nD τ).loc main_arg7) = m' ((c : Thread nD τ).loc main_arg7)
      ∧ r.2.mem ((c : Thread nD τ).loc main_arg8) = m' ((c : Thread nD τ).loc main_arg8)
      ∧ r.2.mem ((c : Thread nD τ).loc main_arg9) = m' ((c : Thread nD τ).loc main_arg9)
      ∧ r.2.mem ((c : Thread nD τ).loc main_arg10) = m' ((c : Thread nD τ).loc main_arg10)
      ∧ r.2.mem ((c : Thread nD τ).loc main_arg11) = m' ((c : Thread nD τ).loc main_arg11)
      ∧ r.2.mem ((c : Thread nD τ).loc main_arg12) = m' ((c : Thread nD τ).loc main_arg12) := by
  refine (θ_run defs _ _).mono (fun _ hr c => ⟨((hr c).1.trans (val_main_v20_eq ..)).trans ?_, (hr c).2⟩) (Value.run m' ρ)
  rw [(h c).1, (h c).2.1, (h c).2.2.1, (h c).2.2.2.1, (h c).2.2.2.2.1]
  refine funext fun (i : S8192x2048.Idx) => ?_
  obtain ⟨r, d, rfl⟩ : ∃ (r : Fin 8192) (d : Fin 2048), i = ix2 r d := ⟨i 0, i 1, eq_ix2 i⟩
  refine (result_apply _ _ _ _ _ r d).trans ?_
  show _ = outAt m c r.val r.isLt d
  unfold outAt
  simp only [sum_apply, upto_all]
  rfl

end Runs

end Cert.Proof.Ffn.Ref

end
-- ==== Proof.FfnPages.lean ====
/- The pages named lie in the pool, so every page the feed-forward's call fetches is inside it. -/
module

public import proofs.«01_k».proof.Defs
public import proofs.«01_k».proof.Proof.Gen.Kernel2Ideal.Frame.Runs
public import proofs.«01_k».proof.Proof.Gen.Pre_pages_in_pool

@[expose] public section

set_option maxRecDepth 16384

noncomputable section

namespace Cert.Proof.Ffn

open Idealize.ShloMosaic Idealize.ShloMosaic.TcCoe Idealize.SL.Sem Cert.Kernel2Ideal Cert.Kernel2Ideal.Gen

variable {F : FTy → Type} [FloatOps F]

/-- What the comparisons say of one page. -/
theorem page_lt (v : BitVec 32) (e : IntOp.andi (IntOp.cmpi .sge v 0#32) (IntOp.cmpi .slt v 2560#32) = 1#1) : v.toNat < 2560 := by
  have and_bits (p q : Bool) : IntOp.andi (BitVec.ofBool p) (BitVec.ofBool q) = BitVec.ofBool (p && q) := by
    cases p <;> cases q <;> decide
  have bit_one (p : Bool) : (BitVec.ofBool p = 1#1) ↔ p = true := by cases p <;> decide
  simp only [IntOp.cmpi, and_bits, bit_one, Bool.and_eq_true, BitVec.sle_eq_decide, BitVec.slt_eq_decide,
    decide_eq_true_eq, BitVec.toInt_eq_toNat_cond, BitVec.toNat_ofNat, Nat.reducePow, Nat.reduceMod] at e
  omega

/-- A page's block is inside the pool when its number is. -/
theorem block_ok (n : Fin 5 → ℕ) (h : n = ![0, n 1, 0, 0, 0]) (hn : n 1 < 2560) :
    ∃ h : (∀ a, (n a + 1) * S1x1x16x64x128.size a ≤ S1x2560x16x64x128.size a), EltTy.bits .f32 = 32 ∨ (Rect.block (s := S1x2560x16x64x128) S1x1x16x64x128.size n h).WholeWords (EltTy.packing .f32) := by
  refine ⟨fun a => ?_, .inl rfl⟩
  rw [h]
  match a with
  | ⟨0, _⟩ => show (0 + 1) * 1 ≤ 1; omega
  | ⟨1, _⟩ => show (n 1 + 1) * 1 ≤ 2560; omega
  | ⟨2, _⟩ => show (0 + 1) * 16 ≤ 16; omega
  | ⟨3, _⟩ => show (0 + 1) * 64 ≤ 64; omega
  | ⟨4, _⟩ => show (0 + 1) * 128 ≤ 128; omega

/-- Tables of pages that lie in the pool are admissible. -/
theorem ok_of_pages (pf : pre0.Contents (Elt F)) (h : ∀ j : S32x64.Idx, (pf 0 j : BitVec 32).toNat < 2560) : ok0 (F := F) pf := by
  unfold ok0
  refine ⟨?_, ?_, ?_, ?_, ?_, ?_, ?_, ?_, ?_, ?_, ?_, ?_, ?_, ?_, ?_, ?_⟩ <;>
    exact fun i => block_ok _ rfl (h _)

theorem ok_of_pre (m : (ℓ : Loc nD τ sig) → Buf (Elt Ideal) ℓ) (h : Cert.Pre_Kernel2Ideal m) : Ok (F := Ideal) m :=
  ok_of_pages _ fun j => page_lt _ (by
    have e := congrFun (h 0) j
    simp only [Cert.Pre_pages_in_pool.fn, andi, cmpi, broadcastInDim, constantI] at e
    exact e)

end Cert.Proof.Ffn

end
-- ==== Proof.KvBody.lean ====
/- The body of the call that makes the prompt rows' keys, values and side columns, at a point of its grid. A block of
   rows has two points: the first normalises the rows into the scratch, and makes the side columns and the keys; the
   second makes the values from the rows the scratch still holds. -/
module

public import proofs.«01_k».proof.Proof.Gen.Kernel3Ideal.Skeleton
public import proofs.«01_k».proof.Proof.Gen.Kernel3Ideal.Frame
public import Idealize.ShloMosaic.Lib.Pipeline.Value

@[expose] public section

set_option maxRecDepth 16384

noncomputable section

namespace Cert.Proof.Kv

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

theorem zeros2 : (![0, 0] : Fin 2 → ℕ) = fun _ => 0 := by decide

theorem zeros3 : (![0, 0, 0] : Fin 3 → ℕ) = fun _ => 0 := by decide

/-- Reading a buffer back after a store over all of it gives what was stored. -/
theorem read_stored {κ : Kind} {sp : Space} {S : Shape} {e : EltTy} (v : View sig κ sp S e) (f : v.ty.Contents (Elt F))
    {off : Fin S.rank → ℕ} (h : off = fun _ => 0) (inb : ∀ a, off a + S.size a ≤ S.size a) (x : S.Idx → Elt F e)
    (L : List (View.Piece (Elt F) S e)) :
    v.read (Elt F) (v.writes (Elt F) f ((⟨Rect.unit off S.size inb, x⟩ : View.Piece (Elt F) S e) :: L)) = x :=
  (View.read_writes_eq_canon _ _ _ fun y => ⟨_, List.mem_cons_self, View.mem_set_unit_zero h inb y⟩).trans
    (View.canon_cons_unit_zero h inb x L)

section
variable (c : Dev nD) (i : grid0.Coords)
    (a2 : Memref sig .tc .vmem S512x2048 .f32) (w2 : a2.IsWhole)
    (a3 : Memref sig .tc .vmem S1x2048 .f32) (w3 : a3.IsWhole)
    (a4 : Memref sig .tc .vmem S1024x2048 .bf16) (w4 : a4.IsWhole)
    (a5 : Memref sig .tc .vmem S128x2048 .bf16) (w5 : a5.IsWhole)
    (a6 : Memref sig .tc .vmem S1x1024x512 .f32) (w6 : a6.IsWhole)
    (a7 : Memref sig .tc .vmem S1x1024x512 .f32) (w7 : a7.IsWhole)
    (a8 : Memref sig .tc .vmem S512x1024 .bf16) (w8 : a8.IsWhole)
    (a9 : Memref sig .tc .vmem S1x16x80x512 .bf16) (w9 : a9.IsWhole)
    (a10 : Memref sig .tc .vmem S1x128x512 .f32) (w10 : a10.IsWhole)
    (a11 : Memref sig .tc .vmem S512x128 .bf16) (w11 : a11.IsWhole)
    (a12 : Memref sig .tc .vmem S512x2048 .bf16) (w12 : a12.IsWhole)

set_option maxHeartbeats 4000000 in
/-- The first point of a block of rows. -/
theorem first_run (h1 : k0_cond1 i = 1#1) (h2 : k0_cond2 i = 1#1) (h3 : ¬k0_cond3 i = 1#1)
    (x2 : Vec F S512x2048 .f32) (x3 : Vec F S1x2048 .f32) (x4 : Vec F S1024x2048 .bf16) (x5 : Vec F S128x2048 .bf16)
    (E : Set ℕ) (K : PUnit → sProp 𝕄) :
    iprop(owns (c : Thread nD τ) a2 fullShare x2 ∗ owns (c : Thread nD τ) a3 fullShare x3
        ∗ owns (c : Thread nD τ) a4 fullShare x4 ∗ owns (c : Thread nD τ) a5 fullShare x5
        ∗ (∃ d, owns (c : Thread nD τ) a6 fullShare d) ∗ (∃ d, owns (c : Thread nD τ) a8 fullShare d)
        ∗ (∃ d, owns (c : Thread nD τ) a10 fullShare d) ∗ (∃ d, owns (c : Thread nD τ) a11 fullShare d)
        ∗ (∃ d, owns (c : Thread nD τ) a12 fullShare d)
        ∗ (iprop(owns (c : Thread nD τ) a2 fullShare x2 ∗ owns (c : Thread nD τ) a3 fullShare x3
            ∗ owns (c : Thread nD τ) a4 fullShare x4 ∗ owns (c : Thread nD τ) a5 fullShare x5
            ∗ owns (c : Thread nD τ) a6 fullShare (k0_pay6 x4 (k0_pay1 x2 x3))
            ∗ (∃ d, owns (c : Thread nD τ) a8 fullShare d)
            ∗ owns (c : Thread nD τ) a10 fullShare (k0_pay3 x5 (k0_pay1 x2 x3))
            ∗ (∃ d, owns (c : Thread nD τ) a11 fullShare d)
            ∗ owns (c : Thread nD τ) a12 fullShare (k0_pay1 x2 x3)) -∗ K ⟨⟩))
      ⊢ wp frame (wpE (defs₀ (F := F)) Variants.none c none) E
        (cc0_rms_proj_k_v i a2 w2 a3 w3 a4 w4 a5 w5 a6 w6 a7 w7 a8 w8 a9 w9 a10 w10 a11 w11 a12 w12) K := by
  simp only [cc0_rms_proj_k_v_eq_skeleton]; unfold cc0_rms_proj_k_v_skel
  unfold owns
  iintro ⟨⟨%f2, %e2, H2⟩, ⟨%f3, %e3, H3⟩, ⟨%f4, %e4, H4⟩, ⟨%f5, %e5, H5⟩, ⟨%d6, %f6, -, H6⟩, ⟨%d8, %f8, -, H8⟩, ⟨%d10, %f10, -, H10⟩, ⟨%d11, %f11, -, H11⟩, ⟨%d12, %f12, -, H12⟩, Hk⟩
  obtain rfl := w2.eq_unread e2; obtain rfl := w3.eq_unread e3; obtain rfl := w4.eq_unread e4; obtain rfl := w5.eq_unread e5
  sl_exec (disch := first | sl_exact h1 | sl_exact h2 | sl_exact h3)
  sl_step
  iapply Hk
  isplitl [H2]
  · iexists _; isplitr; · ipureintro; exact w2.read_unread _
    iexact H2
  isplitl [H3]
  · iexists _; isplitr; · ipureintro; exact w3.read_unread _
    iexact H3
  isplitl [H4]
  · iexists _; isplitr; · ipureintro; exact w4.read_unread _
    iexact H4
  isplitl [H5]
  · iexists _; isplitr; · ipureintro; exact w5.read_unread _
    iexact H5
  isplitl [H6]
  · iexists _; isplitr
    swap; · iexact H6
    ipureintro
    sl_unfold_run_names
    simp only [read_stored (S := S1x1024x512) _ _ zeros3, View.readAt_eq_ld, w2.read_unread, w3.read_unread,
      w4.read_unread, View.readCov_unit_zero (S := S512x2048) _ zeros2, View.ld_unit_zero (S := S512x2048) zeros2,
      View.ld_unit_zero (S := S1024x2048) zeros2, View.ld_unit_zero (S := S1x2048) zeros2]
  isplitl [H8]; · iexists _, _; isplitr; swap; · iexact H8
                  ipureintro; rfl
  isplitl [H10]
  · iexists _; isplitr
    swap; · iexact H10
    ipureintro
    sl_unfold_run_names
    simp only [read_stored (S := S1x128x512) _ _ zeros3, View.readAt_eq_ld, w2.read_unread, w3.read_unread,
      w5.read_unread, View.readCov_unit_zero (S := S512x2048) _ zeros2, View.ld_unit_zero (S := S512x2048) zeros2,
      View.ld_unit_zero (S := S128x2048) zeros2, View.ld_unit_zero (S := S1x2048) zeros2]
  isplitl [H11]; · iexists _, _; isplitr; swap; · iexact H11
                   ipureintro; rfl
  iexists _; isplitr
  swap; · iexact H12
  ipureintro
  sl_unfold_run_names
  simp only [read_stored (S := S512x2048) _ _ zeros2, View.readAt_eq_ld, w2.read_unread, w3.read_unread,
    View.ld_unit_zero (S := S512x2048) zeros2, View.ld_unit_zero (S := S1x2048) zeros2]

set_option maxHeartbeats 4000000 in
/-- The second point of a block of rows. -/
theorem second_run (h1 : ¬k0_cond1 i = 1#1) (h2 : ¬k0_cond2 i = 1#1) (h3 : k0_cond3 i = 1#1)
    (x4 : Vec F S1024x2048 .bf16) (z : Vec F S512x2048 .bf16) (E : Set ℕ) (K : PUnit → sProp 𝕄) :
    iprop(owns (c : Thread nD τ) a4 fullShare x4 ∗ (∃ d, owns (c : Thread nD τ) a7 fullShare d)
        ∗ (∃ d, owns (c : Thread nD τ) a9 fullShare d) ∗ owns (c : Thread nD τ) a12 fullShare z
        ∗ (iprop(owns (c : Thread nD τ) a4 fullShare x4 ∗ owns (c : Thread nD τ) a7 fullShare (k0_pay8 x4 z)
            ∗ (∃ d, owns (c : Thread nD τ) a9 fullShare d) ∗ owns (c : Thread nD τ) a12 fullShare z) -∗ K ⟨⟩))
      ⊢ wp frame (wpE (defs₀ (F := F)) Variants.none c none) E
        (cc0_rms_proj_k_v i a2 w2 a3 w3 a4 w4 a5 w5 a6 w6 a7 w7 a8 w8 a9 w9 a10 w10 a11 w11 a12 w12) K := by
  simp only [cc0_rms_proj_k_v_eq_skeleton]; unfold cc0_rms_proj_k_v_skel
  unfold owns
  iintro ⟨⟨%f4, %e4, H4⟩, ⟨%d7, %f7, -, H7⟩, ⟨%d9, %f9, -, H9⟩, ⟨%f12, %e12, H12⟩, Hk⟩
  obtain rfl := w4.eq_unread e4; obtain rfl := w12.eq_unread e12
  sl_exec (disch := first | sl_exact h1 | sl_exact h2 | sl_exact h3)
  sl_step
  iapply Hk
  isplitl [H4]
  · iexists _; isplitr; · ipureintro; exact w4.read_unread _
    iexact H4
  isplitl [H7]
  · iexists _; isplitr
    swap; · iexact H7
    ipureintro
    sl_unfold_run_names
    simp only [read_stored (S := S1x1024x512) _ _ zeros3, View.readAt_eq_ld, w4.read_unread, w12.read_unread,
      View.ld_unit_zero (S := S512x2048) zeros2, View.ld_unit_zero (S := S1024x2048) zeros2]
  isplitl [H9]; · iexists _, _; isplitr; swap; · iexact H9
                  ipureintro; rfl
  iexists _; isplitr; · ipureintro; exact w12.read_unread _
  iexact H12

end

end Cert.Proof.Kv

end

end
-- ==== Proof.KvRun.lean ====
/- The run of the call that makes the prompt rows' keys, values and side columns, for any element values: what every
   point leaves, the launch, the three returned arrays block by block, and the unchanged arguments. -/
module

public import proofs.«01_k».proof.Proof.KvBody

@[expose] public section

set_option maxRecDepth 16384

noncomputable section

namespace Cert.Proof.Kv

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two points of a block of rows -/

theorem cond1_iff : ∀ t : Fin cfg0.N, k0_cond1 (grid0.coords t) = 1#1 ↔ t.val % 2 = 0 :=
  (by decide +kernel : ∀ t : Fin grid0.N, k0_cond1 (grid0.coords t) = 1#1 ↔ t.val % 2 = 0)

theorem cond2_iff : ∀ t : Fin cfg0.N, k0_cond2 (grid0.coords t) = 1#1 ↔ t.val % 2 = 0 :=
  (by decide +kernel : ∀ t : Fin grid0.N, k0_cond2 (grid0.coords t) = 1#1 ↔ t.val % 2 = 0)

theorem cond3_iff : ∀ t : Fin cfg0.N, k0_cond3 (grid0.coords t) = 1#1 ↔ t.val % 2 = 1 :=
  (by decide +kernel : ∀ t : Fin grid0.N, k0_cond3 (grid0.coords t) = 1#1 ↔ t.val % 2 = 1)

theorem idle_4 (t : Fin cfg0.N) : cfg0.idle 4 (grid0.coords t) = !(k0_cond2 (grid0.coords t) == 1#1) := rfl
theorem idle_5 (t : Fin cfg0.N) : cfg0.idle 5 (grid0.coords t) = !(k0_cond3 (grid0.coords t) == 1#1) := rfl
theorem idle_8 (t : Fin cfg0.N) : cfg0.idle 8 (grid0.coords t) = !(k0_cond1 (grid0.coords t) == 1#1) := rfl

/-- The first point of the block of rows that point `n` is of. -/
def head (n : ℕ) : Fin cfg0.N := ⟨2 * (n / 2) % 32, lt_of_lt_of_eq (Nat.mod_lt _ (by decide)) N_0.symm⟩

theorem head_even (t : Fin cfg0.N) (h : t.val % 2 = 0) : head t.val = t := by
  have hN : t.val < 32 := lt_of_lt_of_eq t.isLt N_0
  exact Fin.ext (show 2 * (t.val / 2) % 32 = t.val by omega)

theorem head_succ (n : ℕ) (h : n % 2 = 0) : head (n + 1) = head n :=
  Fin.ext (show 2 * ((n + 1) / 2) % 32 = 2 * (n / 2) % 32 by congr 2; omega)

theorem head_pred (n : ℕ) (h : n % 2 = 1) : head (n - 1) = head n := by
  have := head_succ (n - 1) (by omega)
  rw [← this]; congr 1; omega

/-- The normalised rows of the block of rows that point `n` is of. -/
def rows (c : Dev nD) (n : ℕ) : Vec F S512x2048 .bf16 := k0_pay1 (iblk m c 0 (head n)) (iblk m c 1 (head n))

/-- The scratch, as the body is handed it. -/
abbrev scratch : Memref sig .tc .vmem S512x2048 .bf16 := Memref.whole cc0_scratch0

theorem scratch_any (c : Dev nD) :
    (Pipeline.ΦA spec0 c : sProp 𝕄)
      = iprop((∃ d, owns (c : Thread nD τ) scratch fullShare d) ∗ (∃ r, prngReg c r)) := by
  unfold Pipeline.ΦA; rw [scopedRest0_eq]; simp only [scratch, owns_whole]; try rfl

/-- Before position `n`: between the two points of a block of rows the scratch holds the normalised rows. -/
def Between (c : Dev nD) (n : ℕ) : sProp 𝕄 :=
  if n % 2 = 1 then iprop(owns (c : Thread nD τ) scratch fullShare (rows m c n) ∗ (∃ r, prngReg c r))
  else Pipeline.ΦA spec0 c

theorem between_odd (c : Dev nD) (n : ℕ) (h : n % 2 = 1) :
    Between m c n = iprop(owns (c : Thread nD τ) scratch fullShare (rows m c n) ∗ (∃ r, prngReg c r)) := if_pos h

theorem between_even (c : Dev nD) (n : ℕ) (h : n % 2 = 0) :
    Between m c n = iprop((∃ d, owns (c : Thread nD τ) scratch fullShare d) ∗ (∃ r, prngReg c r)) :=
  (if_neg (by omega)).trans (scratch_any c)

/-! ## What the points leave -/

/-- Nothing is said of the results the layer does not return. -/
def forgets : Fin 10 → Bool := fun w => w.val == 6 || w.val == 7 || w.val == 9

/-- What the arrays hold and what every point leaves in its windows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => X0_2 m c t
    | ⟨3, _⟩ => X0_3 m c t
    | ⟨4, _⟩ => k0_pay6 (X0_2 m c (head t.val)) (rows m c t.val)
    | ⟨5, _⟩ => k0_pay8 (X0_2 m c t) (rows m c t.val)
    | ⟨6, h⟩ => Pipeline.Dat.unnamed (cfg := cfg0) ⟨6, h⟩ t
    | ⟨7, h⟩ => Pipeline.Dat.unnamed (cfg := cfg0) ⟨7, h⟩ t
    | ⟨8, _⟩ => k0_pay3 (X0_3 m c (head t.val)) (rows m c t.val)
    | ⟨9, h⟩ => Pipeline.Dat.unnamed (cfg := cfg0) ⟨9, h⟩ t
    | ⟨_ + 10, h⟩ => absurd h (Nat.not_lt.2 (Nat.le_add_left _ _))
  Φ t := Between m c t.val
  q w := Pipeline.shareOf spec0 w
  owed _ := 0

theorem arrays (c : Dev nD) (w : Fin cfg0.W) : (dats m 0 c).A w = V m c (Pipeline.arrRef spec0 w) := by
  dsimp only [dats]

/-- At the second point an output the first point stored holds what that point left. -/
theorem before_second (c : Dev nD) (w : Fin cfg0.W) (hw : (cfg0.win w).isOut = true) (t : Fin cfg0.N) (h : t.val % 2 = 1)
    (hfl : ∀ t : Fin cfg0.N, (cfg0.win w).flush t = true ↔ t.val % 2 = 1)
    (hlive : ∀ t : Fin cfg0.N, t.val % 2 = 0 → cfg0.idle w (grid0.coords t) = false)
    (hclip : ∀ (i : grid0.Coords) a, (cfg0.win w).clip i a = none) (d) :
    (dats m 0 c).before w t d
      = (dats m 0 c).after w ⟨t.val - 1, Nat.lt_of_le_of_lt (Nat.sub_le _ _) t.isLt⟩ := by
  rw [(dats m 0 c).before_of_pos w t (by omega) ((cfg0.win w).fetch_out hw t),
    if_neg (by rw [hfl]; show ¬(t.val - 1) % 2 = 1; omega)]
  unfold Dat.left
  rw [hlive _ (show (t.val - 1) % 2 = 0 by omega)]
  show (dats m 0 c).kept w _ d = _
  unfold Dat.kept
  rw [Pipeline.fill_of_clip_none w _ (hclip _) d ((dats m 0 c).after w _), Window.fill_cut]

theorem keys_before (c : Dev nD) (t : Fin cfg0.N) (h : t.val % 2 = 1) (d) :
    (dats m 0 c).before 4 t d = k0_pay6 (X0_2 m c (head t.val)) (rows m c t.val) := by
  rw [before_second m c 4 rfl t h flush0_4
    (fun t ht => by rw [idle_4]; simp [(cond2_iff t).mpr ht]) (fun _ _ => rfl) d]
  show k0_pay6 (X0_2 m c (head (t.val - 1))) (rows m c (t.val - 1)) = _
  unfold rows
  rw [head_pred _ h]

theorem side_before (c : Dev nD) (t : Fin cfg0.N) (h : t.val % 2 = 1) (d) :
    (dats m 0 c).before 8 t d = k0_pay3 (X0_3 m c (head t.val)) (rows m c t.val) := by
  rw [before_second m c 8 rfl t h flush0_8
    (fun t ht => by rw [idle_8]; simp [(cond1_iff t).mpr ht]) (fun _ _ => rfl) d]
  show k0_pay3 (X0_3 m c (head (t.val - 1))) (rows m c (t.val - 1)) = _
  unfold rows
  rw [head_pred _ h]

/-! ## What the points give back -/

theorem leaves_0 (c : Dev nD) (t : Fin cfg0.N) :
    (dats m 0 c).leavesExact 0 t = owns (c : Thread nD τ) (st0_0 t) fullShare (iblk m c 0 t) := rfl

theorem leaves_1 (c : Dev nD) (t : Fin cfg0.N) :
    (dats m 0 c).leavesExact 1 t = owns (c : Thread nD τ) (st0_1 t) fullShare (iblk m c 1 t) := rfl

theorem leaves_2 (c : Dev nD) (t : Fin cfg0.N) :
    (dats m 0 c).leavesExact 2 t = owns (c : Thread nD τ) (st0_2 t) fullShare (X0_2 m c t) := rfl

theorem leaves_3 (c : Dev nD) (t : Fin cfg0.N) :
    (dats m 0 c).leavesExact 3 t = owns (c : Thread nD τ) (st0_3 t) fullShare (X0_3 m c t) := rfl

/-- The keys' window is left at the keys by both points. -/
theorem leaves_4 (c : Dev nD) (t : Fin cfg0.N) :
    (dats m 0 c).leavesExact 4 t
      = owns (c : Thread nD τ) (st0_4 t) fullShare (k0_pay6 (X0_2 m c (head t.val)) (rows m c t.val)) := by
  unfold Dat.leavesExact
  rw [idle_4]
  by_cases h : t.val % 2 = 0
  · rw [(cond2_iff t).mpr h]; rfl
  · rw [(flush0_4 t).mpr (by omega), (beq_eq_false_iff_ne).mpr fun e => h ((cond2_iff t).mp e)]; rfl

/-- And the side columns' at the side columns. -/
theorem leaves_8 (c : Dev nD) (t : Fin cfg0.N) :
    (dats m 0 c).leavesExact 8 t
      = owns (c : Thread nD τ) (st0_8 t) fullShare (k0_pay3 (X0_3 m c (head t.val)) (rows m c t.val)) := by
  unfold Dat.leavesExact
  rw [idle_8]
  by_cases h : t.val % 2 = 0
  · rw [(cond1_iff t).mpr h]; rfl
  · rw [(flush0_8 t).mpr (by omega), (beq_eq_false_iff_ne).mpr fun e => h ((cond1_iff t).mp e)]; rfl

/-- The values' window is left alone by the first point, -/
theorem leaves_5_first (c : Dev nD) (t : Fin cfg0.N) (h : t.val % 2 = 0) :
    (dats m 0 c).leavesExact 5 t
      = iprop(∃ d, owns (c : Thread nD τ) (st0_5 t) fullShare ((dats m 0 c).before 5 t d)) := by
  refine Dat.leavesExact_idle _ 5 t ?_ (Bool.eq_false_iff.mpr fun e => by have := (flush0_5 t).mp e; omega)
  show cfg0.idle 5 (grid0.coords t) = true
  rw [idle_5, (beq_eq_false_iff_ne).mpr fun e => by have := (cond3_iff t).mp e; omega]; rfl

/-- and at the values by the second. -/
theorem leaves_5_second (c : Dev nD) (t : Fin cfg0.N) (h : t.val % 2 = 1) :
    (dats m 0 c).leavesExact 5 t
      = owns (c : Thread nD τ) (st0_5 t) fullShare (k0_pay8 (X0_2 m c t) (rows m c t.val)) := by
  unfold Dat.leavesExact
  rw [idle_5, (cond3_iff t).mpr h]; rfl

/-- What the body is given at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare d)
    ∗ (∃ d, owns (c : Thread nD τ) (st0_7 t) fullShare d)
    ∗ (∃ d, owns (c : Thread nD τ) (st0_8 t) fullShare ((dats m 0 c).before 8 t d))
    ∗ (∃ d, owns (c : Thread nD τ) (st0_9 t) fullShare d))

/-- What it gives back. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (∃ d, owns (c : Thread nD τ) (st0_6 t) fullShare d)
    ∗ (∃ d, owns (c : Thread nD τ) (st0_7 t) fullShare d)
    ∗ (dats m 0 c).leavesExact 8 t
    ∗ (∃ d, owns (c : Thread nD τ) (st0_9 t) fullShare d))

set_option maxHeartbeats 4000000 in
/-- The body at the first point of a block of rows. -/
theorem sound_first (c : Dev nD) (t : Fin cfg0.N) (h : t.val % 2 = 0) :
    bodyPre m c t ⊢ wp frame (wpE (defs₀ (F := F)) Variants.none c none) Set.univ (bodyAt0 t)
      (fun _ => bodyPost m c t) := by
  unfold bodyPre bodyPost bodyAt0
  simp only [before0_0_of m (dats m 0 c) (arrays m c 0) (fun _ => by dsimp only [dats]; try rfl) t]
  simp only [before0_1_of m (dats m 0 c) (arrays m c 1) (fun _ => by dsimp only [dats]; try rfl) t]
  simp only [before0_2_of m (dats m 0 c) (arrays m c 2) (fun _ => by dsimp only [dats]; try rfl) t]
  simp only [before0_3_of m (dats m 0 c) (arrays m c 3) (fun _ => by dsimp only [dats]; try rfl) t]
  rw [show (dats m 0 c).owesAt () t.succ = (dats m 0 c).owesAt () t.castSucc from rfl,
    show (dats m 0 c).Φ t.castSucc = Between m c t.val from rfl, show (dats m 0 c).Φ t.succ = Between m c (t.val + 1) from rfl,
    between_even m c _ h, between_odd m c (t.val + 1) (by omega)]
  rw [leaves_0, leaves_1, leaves_2, leaves_3, leaves_4, leaves_8, leaves_5_first m c t h]
  unfold rows
  rw [head_succ _ h, head_even t h]
  iintro ⟨⟨HS, Hg⟩, Ho, ⟨%d0, H0⟩, ⟨%d1, H1⟩, ⟨%d2, H2⟩, ⟨%d3, H3⟩, ⟨%d4, H4⟩, H5, H6, H7, ⟨%d8, H8⟩, H9⟩
  iapply (first_run c (grid0.coords t) _ _ _ _ _ _ _ _ _ _ _ _ _ _ _ _ _ _ _ _ _ _ ((cond1_iff t).mpr h)
    ((cond2_iff t).mpr h) (fun e => by have := (cond3_iff t).mp e; omega) (iblk m c 0 t) (iblk m c 1 t) (X0_2 m c t)
    (X0_3 m c t) Set.univ _)
  isplitl [H0]; · iexact H0
  isplitl [H1]; · iexact H1
  isplitl [H2]; · iexact H2
  isplitl [H3]; · iexact H3
  isplitl [H4]; · iexists _; iexact H4
  isplitl [H6]; · iexact H6
  isplitl [H8]; · iexists _; iexact H8
  isplitl [H9]; · iexact H9
  isplitl [HS]; · iexact HS
  iintro ⟨H0, H1, H2, H3, H4, H6, H8, H9, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

set_option maxHeartbeats 4000000 in
/-- The body at the second point of a block of rows. -/
theorem sound_second (c : Dev nD) (t : Fin cfg0.N) (h : t.val % 2 = 1) :
    bodyPre m c t ⊢ wp frame (wpE (defs₀ (F := F)) Variants.none c none) Set.univ (bodyAt0 t)
      (fun _ => bodyPost m c t) := by
  unfold bodyPre bodyPost bodyAt0
  simp only [before0_0_of m (dats m 0 c) (arrays m c 0) (fun _ => by dsimp only [dats]; try rfl) t]
  simp only [before0_1_of m (dats m 0 c) (arrays m c 1) (fun _ => by dsimp only [dats]; try rfl) t]
  simp only [before0_2_of m (dats m 0 c) (arrays m c 2) (fun _ => by dsimp only [dats]; try rfl) t]
  simp only [before0_3_of m (dats m 0 c) (arrays m c 3) (fun _ => by dsimp only [dats]; try rfl) t]
  simp only [keys_before m c t h, side_before m c t h]
  rw [show (dats m 0 c).owesAt () t.succ = (dats m 0 c).owesAt () t.castSucc from rfl,
    show (dats m 0 c).Φ t.castSucc = Between m c t.val from rfl, show (dats m 0 c).Φ t.succ = Between m c (t.val + 1) from rfl,
    between_odd m c _ h, between_even m c (t.val + 1) (by omega)]
  rw [leaves_0, leaves_1, leaves_2, leaves_3, leaves_4, leaves_8, leaves_5_second m c t h]
  iintro ⟨⟨HS, Hg⟩, Ho, ⟨%d0, H0⟩, ⟨%d1, H1⟩, ⟨%d2, H2⟩, ⟨%d3, H3⟩, ⟨%d4, H4⟩, ⟨%d5, H5⟩, H6, H7, ⟨%d8, H8⟩, H9⟩
  iapply (second_run c (grid0.coords t) _ _ _ _ _ _ _ _ _ _ _ _ _ _ _ _ _ _ _ _ _ _
    (fun e => by have := (cond1_iff t).mp e; omega) (fun e => by have := (cond2_iff t).mp e; omega)
    ((cond3_iff t).mpr h) (X0_2 m c t) (rows m c t.val) Set.univ _)
  isplitl [H2]; · iexact H2
  isplitl [H5]; · iexists _; iexact H5
  isplitl [H7]; · iexact H7
  isplitl [HS]; · iexact HS
  iintro ⟨H2, H5, H7, HS⟩
  isplitl [HS Hg]
  · isplitl [HS]; · iexists _; iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body at every point of the grid. -/
theorem sound_body (c : Dev nD) (t : Fin cfg0.N) :
    bodyPre m c t ⊢ wp frame (wpE (defs₀ (F := F)) Variants.none c none) Set.univ (bodyAt0 t)
      (fun _ => bodyPost m c t) := by
  rcases Nat.mod_two_eq_zero_or_one t.val with h | h
  · exact sound_first m c t h
  · exact sound_second m c t h

set_option maxHeartbeats 4000000 in
theorem obligation (c : Dev nD) :
    BodyObligation (dats (F := F) m 0 c) (defs₀ (F := F)) Variants.none () Set.univ forgets := fun t => by
  rw [bigSep_W0, bigSep_W0]
  exact triple_restated (sound_body m c t) rfl .rfl fun _ => .rfl

theorem enter (c : Dev nD) : (Pipeline.ΦA spec0 c : sProp 𝕄) ⊢ (dats m 0 c).Φ 0 :=
  Idealize.SL.BI.Entails.refl _

theorem leave (c : Dev nD) : (dats m 0 c).Φ (Fin.last cfg0.N) ⊢ (Pipeline.ΦA spec0 c : sProp 𝕄) := by
  rw [show (dats m 0 c).Φ (Fin.last cfg0.N) = Between m c cfg0.N from rfl, between_even m c _ (by rw [show cfg0.N = 32 from N_0]),
    scratch_any]

set_option backward.isDefEq.respectTransparency.types false in
/-- The launch: the staged arrays end as the points leave them, the other arrays as the call found them, and no
    semaphore is left raised. -/
theorem launched :
    θ_run defs (onTc (τ := τ) (main (F := F))) (s₀ m ρ) (fun r =>
      (Pipeline.RDat.FramePost (cfgs 0) (fun c => (dats m 0 c).toRForget forgets) (V m)) r
        ∧ r.2.sem = fun _ => 0) :=
  Pipeline.θ_run_frame_track_forget_shared (Q' := _) cfgs (dats m) (0 : Fin 1) launch₀0 defs₀
    Variants.none forgets m ρ main (hbody := fun c => (obligation m c).loose) (hq := fun _ _ _ => rfl)
    (howed := fun _ _ => rfl) (V := V m) (hmain := hmain m Variants.none) (hA := arrays m)
    (hin := enter m) (hout := leave m)

set_option maxHeartbeats 4000000 in
/-- What the run leaves: the arguments as they were, no semaphore raised, and the returned arrays as the points leave
    them. -/
theorem run :
    θ_run defs (onTc (τ := τ) (main (F := F))) ⟨m, fun _ => 0, ρ⟩ (fun r => ((∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0)
      ∧ ∀ c : Dev nD,
        r.2.mem ((c.tc : Thread nD τ).loc main_v6_0) = (dats m 0 c).arrAt 4 (Fin.last cfg0.N)
        ∧ r.2.mem ((c.tc : Thread nD τ).loc main_v6_1) = (dats m 0 c).arrAt 5 (Fin.last cfg0.N)
        ∧ r.2.mem ((c.tc : Thread nD τ).loc main_v6_4) = (dats m 0 c).arrAt 8 (Fin.last cfg0.N)) :=
  (θ_run defs _ _).mono (fun r h => ⟨⟨fun c => ⟨
      ((h.1 c).2 main_arg0 (by decide : main_arg0 ∈ Pipeline.restRefs sig spec0)).trans (V_main_arg0 m c),
      ((h.1 c).2 main_arg1 (by decide : main_arg1 ∈ Pipeline.restRefs sig spec0)).trans (V_main_arg1 m c),
      ((h.1 c).2 main_arg2 (by decide : main_arg2 ∈ Pipeline.restRefs sig spec0)).trans (V_main_arg2 m c)⟩, h.2⟩, fun c =>
      ⟨(Dat.toRForget_arrAt_iff (dat := dats m 0 c) (fgt := forgets) (w := 4) rfl _ _).mp ((h.1 c).1 4),
        (Dat.toRForget_arrAt_iff (dat := dats m 0 c) (fgt := forgets) (w := 5) rfl _ _).mp ((h.1 c).1 5),
        (Dat.toRForget_arrAt_iff (dat := dats m 0 c) (fgt := forgets) (w := 8) rfl _ _).mp ((h.1 c).1 8)⟩⟩) (launched m ρ)

end Cert.Proof.Kv

end

end
-- ==== Proof.KvKernel.lean ====
/- What the call that makes the prompt rows' keys, values and side columns leaves in the three returned arrays, read at
   an index. -/
module

public import proofs.«01_k».proof.Proof.KvRun
public import proofs.«01_k».proof.Proof.Rows
public import Idealize.ShloMosaic.Lib.StableHlo.ReadAt

@[expose] public section

set_option maxRecDepth 16384

noncomputable section

namespace Cert.Proof.Kv

open Idealize.ShloMosaic Idealize.ShloMosaic.TcCoe Idealize.SL.Sem Cert.Kernel3Ideal Cert.Kernel3Ideal.Gen
open Cert.Proof.Rows (normed projected projected_congr)

/-! ## One point's blocks -/

/-- The stored rows, read at an index. -/
theorem rows_apply (x : Vec Ideal S512x2048 .f32) (g : Vec Ideal S1x2048 .f32) (r : Fin 512) (k : Fin 2048) :
    k0_pay1 x g (ix2 r k) = normed (x (ix2 r k)) (∑ q : Fin 2048, x (ix2 r q) * x (ix2 r q)) (g (ix2 0 k)) := by
  pointwise [k0_pay1]; rfl

/-- The stored keys, read at an index: a row of the weights against a normalised row. -/
theorem keys_apply (w : Vec Ideal S1024x2048 .bf16) (z : Vec Ideal S512x2048 .bf16) (q : Fin 1024) (r : Fin 512) :
    k0_pay6 w z (ix3 0 q r) = ∑ k : Fin 2048, w (ix2 q k) * z (ix2 r k) := by
  pointwise [k0_pay6, k0_pay5]

/-- The stored values are made in the same way, -/
theorem values_apply (w : Vec Ideal S1024x2048 .bf16) (z : Vec Ideal S512x2048 .bf16) (q : Fin 1024) (r : Fin 512) :
    k0_pay8 w z (ix3 0 q r) = ∑ k : Fin 2048, w (ix2 q k) * z (ix2 r k) := keys_apply w z q r

/-- and so are the side columns. -/
theorem side_apply (w : Vec Ideal S128x2048 .bf16) (z : Vec Ideal S512x2048 .bf16) (q : Fin 128) (r : Fin 512) :
    k0_pay3 w z (ix3 0 q r) = ∑ k : Fin 2048, w (ix2 q k) * z (ix2 r k) := by
  pointwise [k0_pay3, k0_pay2]

/-! ## The blocks the windows read -/

variable (m : (ℓ : Loc nD τ sig) → Buf (Elt Ideal) ℓ)

theorem index0 : ∀ t : Fin cfg0.N, win0_0.index t 0 = t.val / 2 ∧ win0_0.index t 1 = 0 :=
  (by decide +kernel : ∀ t : Fin grid0.N, win0_0.index t 0 = t.val / 2 ∧ win0_0.index t 1 = 0)
theorem index1 : ∀ t : Fin cfg0.N, win0_1.index t 0 = 0 ∧ win0_1.index t 1 = 0 :=
  (by decide +kernel : ∀ t : Fin grid0.N, win0_1.index t 0 = 0 ∧ win0_1.index t 1 = 0)
theorem index2 : ∀ t : Fin cfg0.N, win0_2.index t 0 = 1 + t.val % 2 ∧ win0_2.index t 1 = 0 :=
  (by decide +kernel : ∀ t : Fin grid0.N, win0_2.index t 0 = 1 + t.val % 2 ∧ win0_2.index t 1 = 0)
theorem index3 : ∀ t : Fin cfg0.N, win0_3.index t 0 = 32 ∧ win0_3.index t 1 = 0 :=
  (by decide +kernel : ∀ t : Fin grid0.N, win0_3.index t 0 = 32 ∧ win0_3.index t 1 = 0)
theorem index4 : ∀ t : Fin cfg0.N, t.val % 2 = 1 → win0_4.index t 0 = t.val / 16 ∧ win0_4.index t 1 = 0 ∧ win0_4.index t 2 = t.val / 2 % 8 :=
  (by decide +kernel : ∀ t : Fin grid0.N, t.val % 2 = 1 → win0_4.index t 0 = t.val / 16 ∧ win0_4.index t 1 = 0 ∧ win0_4.index t 2 = t.val / 2 % 8)
theorem index5 : ∀ t : Fin cfg0.N, t.val % 2 = 1 → win0_5.index t 0 = t.val / 16 ∧ win0_5.index t 1 = 0 ∧ win0_5.index t 2 = t.val / 2 % 8 :=
  (by decide +kernel : ∀ t : Fin grid0.N, t.val % 2 = 1 → win0_5.index t 0 = t.val / 16 ∧ win0_5.index t 1 = 0 ∧ win0_5.index t 2 = t.val / 2 % 8)
theorem index8 : ∀ t : Fin cfg0.N, t.val % 2 = 1 → win0_8.index t 0 = t.val / 16 ∧ win0_8.index t 1 = 0 ∧ win0_8.index t 2 = t.val / 2 % 8 :=
  (by decide +kernel : ∀ t : Fin grid0.N, t.val % 2 = 1 → win0_8.index t 0 = t.val / 16 ∧ win0_8.index t 1 = 0 ∧ win0_8.index t 2 = t.val / 2 % 8)

theorem lt32 (t : Fin cfg0.N) : t.val < 32 := lt_of_lt_of_eq t.isLt N_0

/-- The first argument's rows, as one array of 8192 rows. -/
def xAt (c : Dev nD) (r : ℕ) (hr : r < 8192) (k : Fin 2048) : EReal :=
  (m ((c : Thread nD τ).loc main_arg0) : S2x4096x2048.Idx → EReal) (ix3 ⟨r / 4096, by omega⟩ ⟨r % 4096, by omega⟩ k)
def gAt (c : Dev nD) (k : Fin 2048) : EReal := (m ((c : Thread nD τ).loc main_arg1) : S1x2048.Idx → EReal) (ix2 0 k)
def wAt (c : Dev nD) (n : ℕ) (hn : n < 9296) (k : Fin 2048) : EReal :=
  (m ((c : Thread nD τ).loc main_arg2) : S1x2048x9296.Idx → EReal) (ix3 0 k ⟨n, hn⟩)

theorem V3_apply (c : Dev nD) (j : S8192x2048.Idx) :
    (V m c main_v3 : S8192x2048.Idx → EReal) j = xAt m c (j 0).val (j 0).isLt (j 1) := by
  unfold V
  after_reads_at
  rfl
theorem V5_apply (c : Dev nD) (j : S1x2048.Idx) :
    (V m c main_v5 : S1x2048.Idx → EReal) j = gAt m c (j 1) := by
  unfold V
  after_reads_at
  rfl
theorem V2_apply (c : Dev nD) (j : S9296x2048.Idx) :
    (V m c main_v2 : S9296x2048.Idx → EReal) j = wAt m c (j 0).val (j 0).isLt (j 1) := by
  unfold V
  after_reads_at
  rfl

/-- The weights' array at an index whose coordinates are known. -/
theorem V2_at (c : Dev nD) (j : S9296x2048.Idx) (n : ℕ) (hn : n < 9296) (k : Fin 2048) (h0 : (j 0 : ℕ) = n) (h1 : (j 1 : ℕ) = k.val) :
    (V m c main_v2 : S9296x2048.Idx → EReal) j = wAt m c n hn k := by
  subst h0
  rw [V2_apply, show j 1 = k from Fin.ext h1]

theorem x_block (c : Dev nD) (t : Fin cfg0.N) (r : Fin 512) (k : Fin 2048) :
    (iblk m c 0 t : S512x2048.Idx → EReal) (ix2 r k) = xAt m c (t.val / 2 * 512 + r.val) (by have := lt32 t; omega) k := by
  unfold iblk
  rw [View.read_apply]
  show (V m c main_v3 : S8192x2048.Idx → EReal) ((win0_0.rect t).emb (ix2 r k)) = _
  rw [V3_apply]
  have h0 : ((win0_0.rect t).emb (ix2 r k) 0 : Nat) = t.val / 2 * 512 + r.val := by
    rw [win0_0.rect_emb_val t (ix2 r k) 0, (index0 t).1]; rfl
  have h1 : (win0_0.rect t).emb (ix2 r k) 1 = k := Fin.ext (win0_0.rect_emb_val_of_index_zero t 1 (index0 t).2 (ix2 r k))
  unfold xAt
  simp only [h0, h1]

theorem g_block (c : Dev nD) (t : Fin cfg0.N) (k : Fin 2048) :
    (iblk m c 1 t : S1x2048.Idx → EReal) (ix2 0 k) = gAt m c k := by
  unfold iblk
  rw [View.read_apply]
  show (V m c main_v5 : S1x2048.Idx → EReal) ((win0_1.rect t).emb (ix2 0 k)) = _
  rw [V5_apply]
  exact congrArg (gAt m c) (Fin.ext (win0_1.rect_emb_val_of_index_zero t 1 (index1 t).2 (ix2 0 k)))

theorem V2_emb2 (c : Dev nD) (t : Fin cfg0.N) (q : Fin 1024) (k : Fin 2048) (y : (win0_2.xblock (grid0.coords t)).Idx)
    (y0 : (y 0 : Nat) = q.val) (y1 : (y 1 : Nat) = k.val) :
    (V m c main_v2 : S9296x2048.Idx → EReal) ((win0_2.rect t).emb y)
      = wAt m c ((1 + t.val % 2) * 1024 + q.val) (by omega) k := by
  refine V2_at m c _ _ _ k ?_ ((win0_2.rect_emb_val_of_index_zero t 1 (index2 t).2 y).trans y1)
  rw [win0_2.rect_emb_val t y 0, (index2 t).1, show win0_2.size 0 = 1024 from rfl, y0]

theorem w_block (c : Dev nD) (t : Fin cfg0.N) (q : Fin 1024) (k : Fin 2048) :
    (X0_2 m c t : S1024x2048.Idx → EReal) (ix2 q k) = wAt m c ((1 + t.val % 2) * 1024 + q.val) (by omega) k := by
  unfold X0_2 Pipeline.Window.fill
  rw [dif_pos (moved0_2 t (ix2 q k))]
  unfold iblk
  rw [View.read_apply]
  exact V2_emb2 m c t q k _ rfl rfl

theorem V2_emb3 (c : Dev nD) (t : Fin cfg0.N) (q : Fin 128) (k : Fin 2048) (y : (win0_3.xblock (grid0.coords t)).Idx)
    (y0 : (y 0 : Nat) = q.val) (y1 : (y 1 : Nat) = k.val) :
    (V m c main_v2 : S9296x2048.Idx → EReal) ((win0_3.rect t).emb y) = wAt m c (4096 + q.val) (by omega) k := by
  refine V2_at m c _ _ _ k ?_ ((win0_3.rect_emb_val_of_index_zero t 1 (index3 t).2 y).trans y1)
  rw [win0_3.rect_emb_val t y 0, (index3 t).1, show win0_3.size 0 = 128 from rfl, y0]

theorem s_block (c : Dev nD) (t : Fin cfg0.N) (q : Fin 128) (k : Fin 2048) :
    (X0_3 m c t : S128x2048.Idx → EReal) (ix2 q k) = wAt m c (4096 + q.val) (by omega) k := by
  unfold X0_3 Pipeline.Window.fill
  rw [dif_pos (moved0_3 t (ix2 q k))]
  unfold iblk
  rw [View.read_apply]
  exact V2_emb3 m c t q k _ rfl rfl

/-! ## What a block of rows' points leave -/

/-- The normalised row `r` against column `n` of the weights. -/
def entry (c : Dev nD) (r : ℕ) (hr : r < 8192) (n : ℕ) (hn : n < 9296) : EReal :=
  projected (xAt m c r hr) (gAt m c) (wAt m c n hn)

theorem entry_congr (c : Dev nD) {r r' n n' : ℕ} {hr : r < 8192} {hr' : r' < 8192} {hn : n < 9296} {hn' : n' < 9296}
    (h : r = r') (h' : n = n') : entry m c r hr n hn = entry m c r' hr' n' hn' := by
  subst h h'; rfl

/-- The normalised rows a block of rows' points share. -/
theorem rows_at (c : Dev nD) (t : Fin cfg0.N) (r : Fin 512) (k : Fin 2048) :
    rows m c t.val (ix2 r k)
      = normed (xAt m c (t.val / 2 * 512 + r.val) (by have := lt32 t; omega) k)
          (∑ q : Fin 2048, xAt m c (t.val / 2 * 512 + r.val) (by have := lt32 t; omega) q
            * xAt m c (t.val / 2 * 512 + r.val) (by have := lt32 t; omega) q) (gAt m c k) := by
  have ht := lt32 t
  have e : (head t.val).val / 2 = t.val / 2 := by show 2 * (t.val / 2) % 32 / 2 = t.val / 2; omega
  refine (rows_apply _ _ r k).trans ?_
  simp only [x_block, g_block, e]

/-- A sum over the shared rows is a row's entry. -/
theorem sum_rows (c : Dev nD) (t : Fin cfg0.N) (r : Fin 512) (n : ℕ) (hn : n < 9296) (w : Fin 2048 → EReal)
    (hw : ∀ k, w k = wAt m c n hn k) :
    (∑ k : Fin 2048, w k * rows m c t.val (ix2 r k))
      = entry m c (t.val / 2 * 512 + r.val) (by have := lt32 t; omega) n hn :=
  Finset.sum_congr rfl fun k _ =>
    (congrArg₂ (fun a b : EReal => a * b) (hw k) (rows_at m c t r k)).trans (mul_comm _ _)

theorem keys_at (c : Dev nD) (t : Fin cfg0.N) (q : Fin 1024) (r : Fin 512) :
    k0_pay6 (X0_2 m c (head t.val)) (rows m c t.val) (ix3 0 q r)
      = entry m c (t.val / 2 * 512 + r.val) (by have := lt32 t; omega) (1024 + q.val) (by omega) := by
  rw [keys_apply]
  refine sum_rows m c t r _ _ _ fun k => (w_block m c _ q k).trans ?_
  have e : (1 + (head t.val).val % 2) * 1024 + q.val = 1024 + q.val := by
    have : (head t.val).val % 2 = 0 := by show 2 * (t.val / 2) % 32 % 2 = 0; omega
    rw [this]
  simp only [e]

theorem values_at (c : Dev nD) (t : Fin cfg0.N) (h : t.val % 2 = 1) (q : Fin 1024) (r : Fin 512) :
    k0_pay8 (X0_2 m c t) (rows m c t.val) (ix3 0 q r)
      = entry m c (t.val / 2 * 512 + r.val) (by have := lt32 t; omega) (2048 + q.val) (by omega) := by
  rw [values_apply]
  refine sum_rows m c t r _ _ _ fun k => (w_block m c _ q k).trans ?_
  have e : (1 + t.val % 2) * 1024 + q.val = 2048 + q.val := by rw [h]
  simp only [e]

theorem side_at (c : Dev nD) (t : Fin cfg0.N) (q : Fin 128) (r : Fin 512) :
    k0_pay3 (X0_3 m c (head t.val)) (rows m c t.val) (ix3 0 q r)
      = entry m c (t.val / 2 * 512 + r.val) (by have := lt32 t; omega) (4096 + q.val) (by omega) := by
  rw [side_apply]
  exact sum_rows m c t r _ _ _ fun k => s_block m c _ q k

/-! ## The returned arrays -/

theorem row_lt (b : Fin 2) (s : Fin 4096) : b.val * 4096 + s.val < 8192 := by omega

/-- The keys, a column of the projection to a row; -/
def keys (c : Dev nD) : S2x1024x4096.Idx → EReal := fun i =>
  entry m c ((i 0).val * 4096 + (i 2).val) (row_lt (i 0) (i 2)) (1024 + (i 1).val) (by have h : (i 1).val < 1024 := (i 1).isLt; omega)

/-- the values; -/
def values (c : Dev nD) : S2x1024x4096.Idx → EReal := fun i =>
  entry m c ((i 0).val * 4096 + (i 2).val) (row_lt (i 0) (i 2)) (2048 + (i 1).val) (by have h : (i 1).val < 1024 := (i 1).isLt; omega)

/-- the side columns. -/
def side (c : Dev nD) : S2x128x4096.Idx → EReal := fun i =>
  entry m c ((i 0).val * 4096 + (i 2).val) (row_lt (i 0) (i 2)) (4096 + (i 1).val) (by have h : (i 1).val < 128 := (i 1).isLt; omega)

theorem flushed_keys (c : Dev nD) (t : Fin cfg0.N) (h : t.val % 2 = 1) :
    (dats m 0 c).flushed 4 t = ((cfg0.win 4).blk t).view.read (Elt Ideal) (keys m c) := by
  refine funext fun (y : S1x1024x512.Idx) => ?_
  obtain ⟨a, q, r, rfl⟩ : ∃ (a : Fin 1) (q : Fin 1024) (r : Fin 512), y = ix3 a q r := ⟨y 0, y 1, y 2, eq_ix3 y⟩
  obtain rfl : a = 0 := Subsingleton.elim _ _
  rw [View.read_apply]
  show k0_pay6 (X0_2 m c (head t.val)) (rows m c t.val) (ix3 0 q r) = keys m c ((win0_4.rect t).emb (ix3 0 q r))
  rw [keys_at]
  have ht := lt32 t
  have h0 : ((win0_4.rect t).emb (ix3 0 q r) 0 : Nat) = t.val / 16 := by
    rw [win0_4.rect_emb_val t (ix3 0 q r) 0, (index4 t h).1]; exact Nat.mul_one _
  have h1 : ((win0_4.rect t).emb (ix3 0 q r) 1 : Nat) = q.val :=
    win0_4.rect_emb_val_of_index_zero t 1 (index4 t h).2.1 (ix3 0 q r)
  have h2 : ((win0_4.rect t).emb (ix3 0 q r) 2 : Nat) = t.val / 2 % 8 * 512 + r.val := by
    rw [win0_4.rect_emb_val t (ix3 0 q r) 2, (index4 t h).2.2]; rfl
  exact entry_congr m c (by rw [h0, h2]; omega) (by rw [h1])

theorem flushed_values (c : Dev nD) (t : Fin cfg0.N) (h : t.val % 2 = 1) :
    (dats m 0 c).flushed 5 t = ((cfg0.win 5).blk t).view.read (Elt Ideal) (values m c) := by
  refine funext fun (y : S1x1024x512.Idx) => ?_
  obtain ⟨a, q, r, rfl⟩ : ∃ (a : Fin 1) (q : Fin 1024) (r : Fin 512), y = ix3 a q r := ⟨y 0, y 1, y 2, eq_ix3 y⟩
  obtain rfl : a = 0 := Subsingleton.elim _ _
  rw [View.read_apply]
  show k0_pay8 (X0_2 m c t) (rows m c t.val) (ix3 0 q r) = values m c ((win0_5.rect t).emb (ix3 0 q r))
  rw [values_at m c t h]
  have ht := lt32 t
  have h0 : ((win0_5.rect t).emb (ix3 0 q r) 0 : Nat) = t.val / 16 := by
    rw [win0_5.rect_emb_val t (ix3 0 q r) 0, (index5 t h).1]; exact Nat.mul_one _
  have h1 : ((win0_5.rect t).emb (ix3 0 q r) 1 : Nat) = q.val :=
    win0_5.rect_emb_val_of_index_zero t 1 (index5 t h).2.1 (ix3 0 q r)
  have h2 : ((win0_5.rect t).emb (ix3 0 q r) 2 : Nat) = t.val / 2 % 8 * 512 + r.val := by
    rw [win0_5.rect_emb_val t (ix3 0 q r) 2, (index5 t h).2.2]; rfl
  exact entry_congr m c (by rw [h0, h2]; omega) (by rw [h1])

theorem flushed_side (c : Dev nD) (t : Fin cfg0.N) (h : t.val % 2 = 1) :
    (dats m 0 c).flushed 8 t = ((cfg0.win 8).blk t).view.read (Elt Ideal) (side m c) := by
  refine funext fun (y : S1x128x512.Idx) => ?_
  obtain ⟨a, q, r, rfl⟩ : ∃ (a : Fin 1) (q : Fin 128) (r : Fin 512), y = ix3 a q r := ⟨y 0, y 1, y 2, eq_ix3 y⟩
  obtain rfl : a = 0 := Subsingleton.elim _ _
  rw [View.read_apply]
  show k0_pay3 (X0_3 m c (head t.val)) (rows m c t.val) (ix3 0 q r) = side m c ((win0_8.rect t).emb (ix3 0 q r))
  rw [side_at]
  have ht := lt32 t
  have h0 : ((win0_8.rect t).emb (ix3 0 q r) 0 : Nat) = t.val / 16 := by
    rw [win0_8.rect_emb_val t (ix3 0 q r) 0, (index8 t h).1]; exact Nat.mul_one _
  have h1 : ((win0_8.rect t).emb (ix3 0 q r) 1 : Nat) = q.val :=
    win0_8.rect_emb_val_of_index_zero t 1 (index8 t h).2.1 (ix3 0 q r)
  have h2 : ((win0_8.rect t).emb (ix3 0 q r) 2 : Nat) = t.val / 2 % 8 * 512 + r.val := by
    rw [win0_8.rect_emb_val t (ix3 0 q r) 2, (index8 t h).2.2]; rfl
  exact entry_congr m c (by rw [h0, h2]; omega) (by rw [h1])

/-- The second point of the block of rows that holds row `s` of batch entry `b`. -/
def owner (b : Fin 2) (s : Fin 4096) : Fin cfg0.N :=
  ⟨(b.val * 8 + s.val / 512) * 2 + 1, lt_of_lt_of_eq (by omega) N_0.symm⟩

theorem owner_val (b : Fin 2) (s : Fin 4096) : (owner b s).val = (b.val * 8 + s.val / 512) * 2 + 1 := rfl

theorem final_keys (c : Dev nD) : (dats m 0 c).arrAt 4 cfg0.N = keys m c :=
  (dats m 0 c).arrAt_eq_of_cover 4 (keys m c) (fun t h => flushed_keys m c t ((flush0_4 t).mp h)) fun (i : S2x1024x4096.Idx) => by
    have h0 : (i 0).val < 2 := (i 0).isLt
    have h1 : (i 1).val < 1024 := (i 1).isLt
    have h2 : (i 2).val < 4096 := (i 2).isLt
    have hv := owner_val (i 0) (i 2)
    have hx := index4 (owner (i 0) (i 2)) (by omega)
    refine ⟨owner (i 0) (i 2), (flush0_4 _).mpr (by omega), ?_⟩
    show i ∈ ((View.whole main_v6_0).slice (win0_4.rect (owner (i 0) (i 2)))).set
    rw [View.set_slice_whole]
    refine Rect.mem_set_unit.mpr fun (a : Fin 3) => ?_
    match a with
    | ⟨0, _⟩ =>
      show win0_4.index _ 0 * 1 ≤ (i 0).val ∧ (i 0).val < win0_4.index _ 0 * 1 + 1
      rw [hx.1]; omega
    | ⟨1, _⟩ =>
      show win0_4.index _ 1 * 1024 ≤ (i 1).val ∧ (i 1).val < win0_4.index _ 1 * 1024 + 1024
      rw [hx.2.1]; omega
    | ⟨2, _⟩ =>
      show win0_4.index _ 2 * 512 ≤ (i 2).val ∧ (i 2).val < win0_4.index _ 2 * 512 + 512
      rw [hx.2.2]; omega

theorem final_values (c : Dev nD) : (dats m 0 c).arrAt 5 cfg0.N = values m c :=
  (dats m 0 c).arrAt_eq_of_cover 5 (values m c) (fun t h => flushed_values m c t ((flush0_5 t).mp h)) fun (i : S2x1024x4096.Idx) => by
    have h0 : (i 0).val < 2 := (i 0).isLt
    have h1 : (i 1).val < 1024 := (i 1).isLt
    have h2 : (i 2).val < 4096 := (i 2).isLt
    have hv := owner_val (i 0) (i 2)
    have hx := index5 (owner (i 0) (i 2)) (by omega)
    refine ⟨owner (i 0) (i 2), (flush0_5 _).mpr (by omega), ?_⟩
    show i ∈ ((View.whole main_v6_1).slice (win0_5.rect (owner (i 0) (i 2)))).set
    rw [View.set_slice_whole]
    refine Rect.mem_set_unit.mpr fun (a : Fin 3) => ?_
    match a with
    | ⟨0, _⟩ =>
      show win0_5.index _ 0 * 1 ≤ (i 0).val ∧ (i 0).val < win0_5.index _ 0 * 1 + 1
      rw [hx.1]; omega
    | ⟨1, _⟩ =>
      show win0_5.index _ 1 * 1024 ≤ (i 1).val ∧ (i 1).val < win0_5.index _ 1 * 1024 + 1024
      rw [hx.2.1]; omega
    | ⟨2, _⟩ =>
      show win0_5.index _ 2 * 512 ≤ (i 2).val ∧ (i 2).val < win0_5.index _ 2 * 512 + 512
      rw [hx.2.2]; omega

theorem final_side (c : Dev nD) : (dats m 0 c).arrAt 8 cfg0.N = side m c :=
  (dats m 0 c).arrAt_eq_of_cover 8 (side m c) (fun t h => flushed_side m c t ((flush0_8 t).mp h)) fun (i : S2x128x4096.Idx) => by
    have h0 : (i 0).val < 2 := (i 0).isLt
    have h1 : (i 1).val < 128 := (i 1).isLt
    have h2 : (i 2).val < 4096 := (i 2).isLt
    have hv := owner_val (i 0) (i 2)
    have hx := index8 (owner (i 0) (i 2)) (by omega)
    refine ⟨owner (i 0) (i 2), (flush0_8 _).mpr (by omega), ?_⟩
    show i ∈ ((View.whole main_v6_4).slice (win0_8.rect (owner (i 0) (i 2)))).set
    rw [View.set_slice_whole]
    refine Rect.mem_set_unit.mpr fun (a : Fin 3) => ?_
    match a with
    | ⟨0, _⟩ =>
      show win0_8.index _ 0 * 1 ≤ (i 0).val ∧ (i 0).val < win0_8.index _ 0 * 1 + 1
      rw [hx.1]; omega
    | ⟨1, _⟩ =>
      show win0_8.index _ 1 * 128 ≤ (i 1).val ∧ (i 1).val < win0_8.index _ 1 * 128 + 128
      rw [hx.2.1]; omega
    | ⟨2, _⟩ =>
      show win0_8.index _ 2 * 512 ≤ (i 2).val ∧ (i 2).val < win0_8.index _ 2 * 512 + 512
      rw [hx.2.2]; omega

/-- The run: the returned arrays read, the arguments unchanged. -/
theorem run_read (ρ : Dev nD → PrngReg) : θ_run defs (onTc (τ := τ) (main (F := Ideal))) ⟨m, fun _ => 0, ρ⟩ fun r => ∀ c : Dev nD,
      r.2.mem ((c : Thread nD τ).loc main_v6_0) = keys m c
      ∧ r.2.mem ((c : Thread nD τ).loc main_v6_1) = values m c
      ∧ r.2.mem ((c : Thread nD τ).loc main_v6_4) = side m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h.2 c).1.trans (final_keys m c), (h.2 c).2.1.trans (final_values m c),
    (h.2 c).2.2.trans (final_side m c), h.1.1 c⟩) (run m ρ)

end Cert.Proof.Kv

end
-- ==== Proof.KvReference.lean ====
/- The reference of the projection of the prompt's keys, values and side columns, read at an index: it ends where the
   kernel does. -/
module

public import proofs.«01_k».proof.Proof.Gen.Reference3Ideal.Read
public import proofs.«01_k».proof.Proof.KvKernel
public import Idealize.ShloMosaic.Lib.IdealHost

@[expose] public section

noncomputable section

namespace Cert.Proof.Kv.Ref

open Idealize.ShloMosaic Idealize.ShloMosaic.TcCoe Idealize.SL.Sem Cert.Reference3Ideal Cert.Reference3Ideal.Gen Cert.Reference3Ideal.Read
open Cert.Proof.Rows (normed projected projected_congr)

variable (x0 : S2x4096x2048.Idx → EReal) (x1 : S1x2048.Idx → EReal) (x2 : S1x2048x9296.Idx → EReal)

/-- Row `s` of sequence `b`, normalised, against column `n` of the weights. -/
def entry (b : Fin 2) (s : Fin 4096) (n : ℕ) (hn : n < 9296) : EReal :=
  projected (fun k => x0 (ix3 b s k)) (fun k => x1 (ix2 0 k)) (fun k => x2 (ix3 0 k ⟨n, hn⟩))

/-- The projection of all the columns, read at an index. -/
theorem proj_apply (b : Fin 2) (s : Fin 4096) (n : Fin 9296) :
    val_main_v15 (F := Ideal) x0 x1 x2 (ix3 b s n) = entry x0 x1 x2 b s n.val n.isLt := by
  show _ = projected _ _ _
  rw [val_main_v15_apply]
  refine Finset.sum_congr rfl fun k _ => ?_
  pointwise [val_main_v13, val_main_v10, val_main_v9, val_main_v8, val_main_v7, val_main_v5, val_main_v3, val_main_v2, val_main_v1, val_main_cst, val_main_v4, val_main_cst_0, val_main_v6, val_main_cst_1, val_main_v12, val_main_v11, val_main_v0, val_main_v14]
  have e1 : lidx_main_v15 (ix3 b s n) k = ix3 b s k := funext fun a => by fin_cases a <;> rfl
  rw [e1]; rfl

/-- The keys, read at an index. -/
theorem keys_apply (b : Fin 2) (q : Fin 1024) (s : Fin 4096) :
    val_main_v19 (F := Ideal) x0 x1 x2 (ix3 b q s) = entry x0 x1 x2 b s (1024 + q.val) (by omega) := by
  pointwise [val_main_v19, val_main_v16]
  rw [proj_apply]

/-- The values, read at an index. -/
theorem values_apply (b : Fin 2) (q : Fin 1024) (s : Fin 4096) :
    val_main_v20 (F := Ideal) x0 x1 x2 (ix3 b q s) = entry x0 x1 x2 b s (2048 + q.val) (by omega) := by
  pointwise [val_main_v20, val_main_v17]
  rw [proj_apply]

/-- The side columns, read at an index. -/
theorem side_apply (b : Fin 2) (q : Fin 128) (s : Fin 4096) :
    val_main_v21 (F := Ideal) x0 x1 x2 (ix3 b q s) = entry x0 x1 x2 b s (4096 + q.val) (by omega) := by
  pointwise [val_main_v21, val_main_v18]
  rw [proj_apply]

/-- The kernel's entry of the row at place `b`, `s`, from the arguments. -/
theorem entry_eq (m : (ℓ : Loc Cert.Kernel3Ideal.nD Cert.Kernel3Ideal.τ Cert.Kernel3Ideal.sig) → Buf (Elt Ideal) ℓ)
    (c : Dev nD) (b : Fin 2) (s : Fin 4096) (n : ℕ) (hn : n < 9296) :
    entry (m ((c.tc : Thread Cert.Kernel3Ideal.nD Cert.Kernel3Ideal.τ).loc Cert.Kernel3Ideal.main_arg0))
        (m ((c.tc : Thread Cert.Kernel3Ideal.nD Cert.Kernel3Ideal.τ).loc Cert.Kernel3Ideal.main_arg1))
        (m ((c.tc : Thread Cert.Kernel3Ideal.nD Cert.Kernel3Ideal.τ).loc Cert.Kernel3Ideal.main_arg2)) b s n hn
      = Kv.entry m c (b.val * 4096 + s.val) (row_lt b s) n hn := by
  refine projected_congr (fun k => ?_) (fun _ => rfl) (fun _ => rfl)
  have hb := b.isLt
  have hs := s.isLt
  have h0 : b = ⟨(b.val * 4096 + s.val) / 4096, by omega⟩ := Fin.ext (by dsimp only; omega)
  have h1 : s = ⟨(b.val * 4096 + s.val) % 4096, by omega⟩ := Fin.ext (by dsimp only; omega)
  exact congrArg₂ (fun b s => (m ((c.tc : Thread Cert.Kernel3Ideal.nD Cert.Kernel3Ideal.τ).loc Cert.Kernel3Ideal.main_arg0) : S2x4096x2048.Idx → EReal) (ix3 b s k)) h0 h1

/-- The reference's run from a memory that holds the kernel's arguments: its results are the kernel's. -/
theorem run (m : (ℓ : Loc Cert.Kernel3Ideal.nD Cert.Kernel3Ideal.τ Cert.Kernel3Ideal.sig) → Buf (Elt Ideal) ℓ)
    (m' : (ℓ : Loc nD τ sig) → Buf (Elt Ideal) ℓ) (ρ : Dev nD → PrngReg)
    (h : ∀ c : Dev nD, m' ((c : Thread nD τ).loc main_arg0) = m ((c.tc : Thread Cert.Kernel3Ideal.nD Cert.Kernel3Ideal.τ).loc Cert.Kernel3Ideal.main_arg0)
      ∧ m' ((c : Thread nD τ).loc main_arg1) = m ((c.tc : Thread Cert.Kernel3Ideal.nD Cert.Kernel3Ideal.τ).loc Cert.Kernel3Ideal.main_arg1)
      ∧ m' ((c : Thread nD τ).loc main_arg2) = m ((c.tc : Thread Cert.Kernel3Ideal.nD Cert.Kernel3Ideal.τ).loc Cert.Kernel3Ideal.main_arg2)) :
    θ_run defs (onTc (τ := τ) (main (F := Ideal))) ⟨m', fun _ => 0, ρ⟩ fun r => ∀ c : Dev nD,
      r.2.mem ((c : Thread nD τ).loc main_v19) = Kv.keys m c
      ∧ r.2.mem ((c : Thread nD τ).loc main_v20) = Kv.values m c
      ∧ r.2.mem ((c : Thread nD τ).loc main_v21) = Kv.side m c
      ∧ r.2.mem ((c : Thread nD τ).loc main_arg0) = m' ((c : Thread nD τ).loc main_arg0)
      ∧ r.2.mem ((c : Thread nD τ).loc main_arg1) = m' ((c : Thread nD τ).loc main_arg1)
      ∧ r.2.mem ((c : Thread nD τ).loc main_arg2) = m' ((c : Thread nD τ).loc main_arg2) := by
  refine (θ_run defs _ _).mono (fun _ hr c => ⟨((hr c).1.trans (val_main_v19_eq ..)).trans ?_,
    ((hr c).2.1.trans (val_main_v20_eq ..)).trans ?_, ((hr c).2.2.1.trans (val_main_v21_eq ..)).trans ?_, (hr c).2.2.2⟩) (Value.run m' ρ)
  · rw [(h c).1, (h c).2.1, (h c).2.2]
    refine funext fun (i : S2x1024x4096.Idx) => ?_
    obtain ⟨b, q, s, rfl⟩ : ∃ (b : Fin 2) (q : Fin 1024) (s : Fin 4096), i = ix3 b q s := ⟨i 0, i 1, i 2, eq_ix3 i⟩
    exact (keys_apply _ _ _ b q s).trans (entry_eq m c b s _ _)
  · rw [(h c).1, (h c).2.1, (h c).2.2]
    refine funext fun (i : S2x1024x4096.Idx) => ?_
    obtain ⟨b, q, s, rfl⟩ : ∃ (b : Fin 2) (q : Fin 1024) (s : Fin 4096), i = ix3 b q s := ⟨i 0, i 1, i 2, eq_ix3 i⟩
    exact (values_apply _ _ _ b q s).trans (entry_eq m c b s _ _)
  · rw [(h c).1, (h c).2.1, (h c).2.2]
    refine funext fun (i : S2x128x4096.Idx) => ?_
    obtain ⟨b, q, s, rfl⟩ : ∃ (b : Fin 2) (q : Fin 128) (s : Fin 4096), i = ix3 b q s := ⟨i 0, i 1, i 2, eq_ix3 i⟩
    exact (side_apply _ _ _ b q s).trans (entry_eq m c b s _ _)

end Cert.Proof.Kv.Ref

end
-- ==== Proof.KvText.lean ====
/- The call that makes the keys, values and side columns as compiled and as idealized: one text, so a run of the one is
   a run of the other. -/
module

public import proofs.«01_k».proof.Proof.Gen.Kernel3Ideal
public import proofs.«01_k».proof.Proof.Gen.Kernel3

@[expose] public section

set_option maxRecDepth 100000

noncomputable section

namespace Cert.Proof.Kv

open Idealize.ShloMosaic Idealize.ShloMosaic.TcCoe Idealize.SL.Sem

variable {F : FTy → Type} [FloatOps F]

/-- The two bodies are one text, -/
theorem text_body : Cert.Kernel3.cc0_rms_proj_k_v (F := F) = Cert.Kernel3Ideal.cc0_rms_proj_k_v (F := F) := by
  unfold Cert.Kernel3.cc0_rms_proj_k_v Cert.Kernel3Ideal.cc0_rms_proj_k_v
  rfl

theorem text_defs₀ : Cert.Kernel3.defs₀ (F := F) = Cert.Kernel3Ideal.defs₀ (F := F) := by
  unfold Cert.Kernel3.defs₀ Cert.Kernel3Ideal.defs₀
  refine congrArg Defs.onTc (funext fun l => funext fun x => ?_)
  match l, x with
  | ⟨0, _⟩, (t, s) =>
    show Cert.Kernel3.cc0_rms_proj_k_v _ _ _ _ _ _ _ _ _ _ _ _ _ _ _ _ _ _ _ _ _ _ _
      = Cert.Kernel3Ideal.cc0_rms_proj_k_v _ _ _ _ _ _ _ _ _ _ _ _ _ _ _ _ _ _ _ _ _ _ _
    rw [text_body]
    rfl
  | ⟨_ + 1, h⟩, _ => exact absurd h (Nat.not_lt.2 (Nat.le_add_left _ _))

/-- with them the tables of bodies, -/
theorem text_defs : Cert.Kernel3.defs (F := F) = Cert.Kernel3Ideal.defs (F := F) := by
  unfold Cert.Kernel3.defs Cert.Kernel3Ideal.defs
  rw [text_defs₀]
  rfl

/-- and the programs. -/
theorem text_main : Cert.Kernel3.main (F := F) = Cert.Kernel3Ideal.main (F := F) := rfl

end Cert.Proof.Kv

end
-- ==== Proof.QueriesKernel.lean ====
/- What the projection of the prompt's queries and index queries leaves in its result array, read at an index. -/
module

public import proofs.«01_k».proof.Proof.Gen.Kernel4Ideal.Value
public import proofs.«01_k».proof.Proof.Rows
public import Idealize.ShloMosaic.Lib.StableHlo.ReadAt

@[expose] public section

noncomputable section

namespace Cert.Proof.Queries

open Idealize.ShloMosaic Idealize.ShloMosaic.TcCoe Idealize.SL.Sem Cert.Kernel4Ideal Cert.Kernel4Ideal.Gen Cert.Proof.Rows

/-! ## One point's block -/

theorem zeros4 : (![0, 0, 0, 0] : Fin 4 → Nat) = fun _ => 0 := funext fun a => by fin_cases a <;> rfl

/-- The stored rows, read at an index. -/
theorem rows_apply (x : Vec Ideal S1024x2048 .f32) (g : Vec Ideal S1x2048 .f32) (r : Fin 1024) (k : Fin 2048) :
    k0_pay1 x g (ix2 r k) = normed (x (ix2 r k)) (∑ q : Fin 2048, x (ix2 r q) * x (ix2 r q)) (g (ix2 0 k)) := by
  pointwise [k0_pay1]; rfl

/-- The factor of an array's entries: the queries' scale, or one for the index queries. -/
def factor (j : ℕ) : EReal := if j = 0 then Ideal.ofBits .f32 0x3E38AA3B#32 else Ideal.ofBits .f32 0x3F800000#32

/-- The factor as the body selects it. -/
theorem factor_select (j : Fin 2) : (Scalar.select (Scalar.cmpi .eq (BitVec.ofNat 32 j.val) 0#32) (Ideal.ofBits .f32 0x3E38AA3B#32)
    (Ideal.ofBits .f32 0x3F800000#32) : EReal) = factor j.val := by
  fin_cases j <;> rfl

/-- The stored product, read at an index: row `q` of the weights against row `r` of the rows, times the factor. -/
theorem prod_apply (i : grid0.Coords) (w z : Vec Ideal S1024x2048 .bf16) (q r : Fin 1024) :
    k0_pay2 i w z (ix4 0 0 q r) = (∑ k : Fin 2048, w (ix2 q k) * z (ix2 r k)) * factor (i 1).val := by
  rw [← factor_select (i 1)]
  pointwise [k0_pay2]

section Found
variable (c : Dev nD) (i : grid0.Coords) (a2 : Memref sig .tc .vmem S1024x2048 .f32) (h2 : a2.IsWhole)
  (a3 : Memref sig .tc .vmem S1x2048 .f32) (h3 : a3.IsWhole) (a4 : Memref sig .tc .vmem S1024x2048 .bf16) (h4 : a4.IsWhole)
  (a5 : Memref sig .tc .vmem S1x1x1024x1024 .bf16) (h5 : a5.IsWhole) (a6 : Memref sig .tc .vmem S1024x2048 .bf16) (h6 : a6.IsWhole)
  (x : Vec Ideal S1024x2048 .f32) (g : Vec Ideal S1x2048 .f32) (w z : Vec Ideal S1024x2048 .bf16)

/-- A row tile's first point leaves its normalized rows in the scratch. -/
theorem scratch_first (hc : cond0_0 i) :
    sout0_A_0 c i a2 h2 a3 h3 a4 h4 a5 h5 a6 h6 hc x g w = k0_pay1 x g := by
  unfold sout0_A_0
  rw [View.read_writes_eq_canon _ _ _ (scover0_A_0 c i a2 h2 a3 h3 a4 h4 a5 h5 a6 h6 hc x g w)]
  unfold kernelRun0_A
  dsimp only
  sl_unfold_words
  rw [View.canon_unit_zero zeros2]
  simp only [View.readAt_eq_ld, h2.read_unread, h3.read_unread, View.ld_unit_zero (S := S1024x2048) zeros2, View.ld_unit_zero (S := S1x2048) zeros2]

/-- That point's block of the result is the product of those rows. -/
theorem block_first (hc : cond0_0 i) :
    out0_A_3 c i a2 h2 a3 h3 a4 h4 a5 h5 a6 h6 hc x g w = k0_pay2 i w (k0_pay1 x g) := by
  unfold out0_A_3
  rw [View.read_writes_eq_canon _ _ _ (cover0_A_3 c i a2 h2 a3 h3 a4 h4 a5 h5 a6 h6 hc x g w)]
  unfold kernelRun0_A
  dsimp only
  sl_unfold_words
  rw [View.canon_unit_zero zeros4]
  simp only [View.readCov_unit_zero (S := S1024x2048) _ zeros2, View.readAt_eq_ld, h2.read_unread, h3.read_unread, h4.read_unread, View.ld_unit_zero (S := S1024x2048) zeros2, View.ld_unit_zero (S := S1x2048) zeros2]

/-- A later point's block of the result is the product of the rows the scratch holds. -/
theorem block_later (hc : ¬cond0_0 i) :
    out0_B_3 c i a2 h2 a3 h3 a4 h4 a5 h5 a6 h6 hc x g w z = k0_pay2 i w z := by
  unfold out0_B_3
  rw [View.read_writes_eq_canon _ _ _ (cover0_B_3 c i a2 h2 a3 h3 a4 h4 a5 h5 a6 h6 hc x g w z)]
  unfold kernelRun0_B
  dsimp only
  try sl_unfold_words
  rw [View.canon_unit_zero zeros4]
  simp only [View.readAt_eq_ld, h4.read_unread, h6.read_unread, View.ld_unit_zero (S := S1024x2048) zeros2]

end Found

/-! ## The blocks the windows read -/

variable (m : (ℓ : Loc nD τ sig) → Buf (Elt Ideal) ℓ)

theorem index0 : ∀ t : Fin cfg0.N, win0_0.index t 0 = t.val / 2 ∧ win0_0.index t 1 = 0 :=
  (by decide +kernel : ∀ t : Fin grid0.N, win0_0.index t 0 = t.val / 2 ∧ win0_0.index t 1 = 0)
theorem index1 : ∀ t : Fin cfg0.N, win0_1.index t 0 = 0 ∧ win0_1.index t 1 = 0 :=
  (by decide +kernel : ∀ t : Fin grid0.N, win0_1.index t 0 = 0 ∧ win0_1.index t 1 = 0)
theorem index2 : ∀ t : Fin cfg0.N, win0_2.index t 0 = t.val % 2 * 3 ∧ win0_2.index t 1 = 0 :=
  (by decide +kernel : ∀ t : Fin grid0.N, win0_2.index t 0 = t.val % 2 * 3 ∧ win0_2.index t 1 = 0)
theorem index3 : ∀ t : Fin cfg0.N, win0_3.index t 0 = t.val % 2 ∧ win0_3.index t 1 = t.val / 2 / 4
      ∧ win0_3.index t 2 = 0 ∧ win0_3.index t 3 = t.val / 2 % 4 :=
  (by decide +kernel : ∀ t : Fin grid0.N, win0_3.index t 0 = t.val % 2 ∧ win0_3.index t 1 = t.val / 2 / 4
      ∧ win0_3.index t 2 = 0 ∧ win0_3.index t 3 = t.val / 2 % 4)
theorem coord1 : ∀ t : Fin cfg0.N, (grid0.coords t 1).val = t.val % 2 :=
  (by decide +kernel : ∀ t : Fin grid0.N, (grid0.coords t 1).val = t.val % 2)

theorem lt16 (t : Fin cfg0.N) : t.val < 16 := lt_of_lt_of_eq t.isLt N_0

/-- The first argument's rows, as one array of 8192 rows. -/
def xAt (c : Dev nD) (r : ℕ) (hr : r < 8192) (k : Fin 2048) : EReal :=
  (m ((c : Thread nD τ).loc main_arg0) : S2x4096x2048.Idx → EReal) (ix3 ⟨r / 4096, by omega⟩ ⟨r % 4096, by omega⟩ k)
def gAt (c : Dev nD) (k : Fin 2048) : EReal := (m ((c : Thread nD τ).loc main_arg1) : S1x2048.Idx → EReal) (ix2 0 k)
def wAt (c : Dev nD) (k : Fin 2048) (n : ℕ) (hn : n < 9296) : EReal :=
  (m ((c : Thread nD τ).loc main_arg2) : S1x2048x9296.Idx → EReal) (ix3 0 k ⟨n, hn⟩)

theorem xAt_congr (c : Dev nD) {r r' : ℕ} {hr : r < 8192} {hr' : r' < 8192} (h : r = r') (k : Fin 2048) : xAt m c r hr k = xAt m c r' hr' k := by
  subst h; rfl
theorem wAt_congr (c : Dev nD) (k : Fin 2048) {n n' : ℕ} {hn : n < 9296} {hn' : n' < 9296} (h : n = n') : wAt m c k n hn = wAt m c k n' hn' := by
  subst h; rfl

theorem V3_apply (c : Dev nD) (j : S8192x2048.Idx) :
    (V m c main_v3 : S8192x2048.Idx → EReal) j = xAt m c (j 0).val (j 0).isLt (j 1) := by
  unfold V
  after_reads_at
  rfl
theorem V5_apply (c : Dev nD) (j : S1x2048.Idx) :
    (V m c main_v5 : S1x2048.Idx → EReal) j = gAt m c (j 1) := by
  unfold V
  after_reads_at
  rfl
theorem V2_apply (c : Dev nD) (j : S9296x2048.Idx) :
    (V m c main_v2 : S9296x2048.Idx → EReal) j = wAt m c (j 1) (j 0).val (j 0).isLt := by
  unfold V
  after_reads_at
  rfl

theorem x_block (c : Dev nD) (t : Fin cfg0.N) (r : Fin 1024) (k : Fin 2048) :
    (iblk m c 0 t : S1024x2048.Idx → EReal) (ix2 r k) = xAt m c (t.val / 2 * 1024 + r.val) (by have := lt16 t; omega) k := by
  unfold iblk
  rw [View.read_apply]
  show (V m c main_v3 : S8192x2048.Idx → EReal) ((win0_0.rect t).emb (ix2 r k)) = _
  rw [V3_apply]
  have h0 : ((win0_0.rect t).emb (ix2 r k) 0 : Nat) = t.val / 2 * 1024 + r.val := by
    rw [win0_0.rect_emb_val t (ix2 r k) 0, (index0 t).1]; rfl
  have h1 : (win0_0.rect t).emb (ix2 r k) 1 = k := Fin.ext (win0_0.rect_emb_val_of_index_zero t 1 (index0 t).2 (ix2 r k))
  unfold xAt
  simp only [h0, h1]

theorem g_block (c : Dev nD) (t : Fin cfg0.N) (k : Fin 2048) :
    (iblk m c 1 t : S1x2048.Idx → EReal) (ix2 0 k) = gAt m c k := by
  unfold iblk
  rw [View.read_apply]
  show (V m c main_v5 : S1x2048.Idx → EReal) ((win0_1.rect t).emb (ix2 0 k)) = _
  rw [V5_apply]
  exact congrArg (gAt m c) (Fin.ext (win0_1.rect_emb_val_of_index_zero t 1 (index1 t).2 (ix2 0 k)))

theorem V2_emb (c : Dev nD) (t : Fin cfg0.N) (q : Fin 1024) (k : Fin 2048) (y : (win0_2.xblock (grid0.coords t)).Idx)
    (y0 : (y 0 : Nat) = q.val) (y1 : (y 1 : Nat) = k.val) :
    (V m c main_v2 : S9296x2048.Idx → EReal) ((win0_2.rect t).emb y) = wAt m c k (t.val % 2 * 3072 + q.val) (by omega) := by
  rw [V2_apply]
  have h0 : ((win0_2.rect t).emb y 0 : Nat) = t.val % 2 * 3072 + q.val := by
    rw [win0_2.rect_emb_val t y 0, (index2 t).1, show win0_2.size 0 = 1024 from rfl, Nat.mul_assoc, y0]
  have h1 : (win0_2.rect t).emb y 1 = k :=
    Fin.ext ((win0_2.rect_emb_val_of_index_zero t 1 (index2 t).2 y).trans y1)
  simp only [h0, h1]

theorem w_block (c : Dev nD) (t : Fin cfg0.N) (q : Fin 1024) (k : Fin 2048) :
    (X0_2 m c t : S1024x2048.Idx → EReal) (ix2 q k) = wAt m c k (t.val % 2 * 3072 + q.val) (by omega) := by
  unfold X0_2 Pipeline.Window.fill
  rw [dif_pos (moved0_2 t (ix2 q k))]
  unfold iblk
  rw [View.read_apply]
  exact V2_emb m c t q k _ rfl rfl

/-! ## The scratch and the result's blocks at any point -/

theorem step_first (c : Dev nD) (t : Fin cfg0.N) (h0 : t.val % 2 = 0) :
    outsAt0 m c t.val t.isLt = (k0_pay2 (grid0.coords t) (X0_2 m c t) (k0_pay1 (iblk m c 0 t) (iblk m c 1 t)), k0_pay1 (iblk m c 0 t) (iblk m c 1 t)) := by
  rw [outsAt0_A m c t h0, scratch_first, block_first]

theorem step_later (c : Dev nD) (t : Fin cfg0.N) (h0 : ¬t.val % 2 = 0) (h : t.val - 1 < cfg0.N) :
    outsAt0 m c t.val t.isLt = (k0_pay2 (grid0.coords t) (X0_2 m c t) (outsAt0 m c (t.val - 1) h).2, (outsAt0 m c (t.val - 1) h).2) := by
  rw [outsAt0_B m c t h0, block_later]; rfl

/-- The normalized rows, as one array of 8192 rows. -/
def rowAt (c : Dev nD) (r : ℕ) (hr : r < 8192) (k : Fin 2048) : EReal :=
  normed (xAt m c r hr k) (∑ q : Fin 2048, xAt m c r hr q * xAt m c r hr q) (gAt m c k)

theorem rows_block (c : Dev nD) (t : Fin cfg0.N) (r : Fin 1024) (k : Fin 2048) :
    k0_pay1 (iblk m c 0 t) (iblk m c 1 t) (ix2 r k) = rowAt m c (t.val / 2 * 1024 + r.val) (by have := lt16 t; omega) k := by
  refine (rows_apply _ _ r k).trans ?_
  simp only [x_block, g_block, rowAt]

/-- After any point the scratch holds the normalized rows of the point's row tile. -/
theorem scratch_at (c : Dev nD) : ∀ (n : ℕ) (h : n < cfg0.N) (hr : n < 16) (r : Fin 1024) (k : Fin 2048),
    (outsAt0 m c n h).2 (ix2 r k) = rowAt m c (n / 2 * 1024 + r.val) (by omega) k := by
  intro n
  induction n with
  | zero =>
    intro h hr r k
    exact (congrFun (congrArg Prod.snd (step_first m c ⟨0, h⟩ (Nat.zero_mod 2))) (ix2 r k)).trans (rows_block m c ⟨0, h⟩ r k)
  | succ n ih =>
    intro h hr r k
    by_cases h0 : (n + 1) % 2 = 0
    · exact (congrFun (congrArg Prod.snd (step_first m c ⟨n + 1, h⟩ h0)) (ix2 r k)).trans (rows_block m c ⟨n + 1, h⟩ r k)
    · refine (congrFun (congrArg Prod.snd (step_later m c ⟨n + 1, h⟩ h0 (Nat.lt_of_succ_lt h))) (ix2 r k)).trans
        ((ih (Nat.lt_of_succ_lt h) (by omega) r k).trans ?_)
      simp only [show (n + 1) / 2 = n / 2 by omega]

/-- What a point leaves in its block of the result: the product of the rows the scratch then holds. -/
theorem step_prod (c : Dev nD) (t : Fin cfg0.N) :
    (outsAt0 m c t.val t.isLt).1 = k0_pay2 (grid0.coords t) (X0_2 m c t) (outsAt0 m c t.val t.isLt).2 := by
  by_cases h0 : t.val % 2 = 0
  · rw [step_first m c t h0]
  · rw [step_later m c t h0 (Nat.lt_of_le_of_lt (Nat.sub_le _ _) t.isLt)]

theorem block_at (c : Dev nD) (t : Fin cfg0.N) (q r : Fin 1024) :
    (outsAt0 m c t.val t.isLt).1 (ix4 0 0 q r)
      = projected (xAt m c (t.val / 2 * 1024 + r.val) (by have := lt16 t; omega)) (gAt m c)
          (fun k => wAt m c k (t.val % 2 * 3072 + q.val) (by omega)) * factor (t.val % 2) := by
  refine (congrFun (step_prod m c t) (ix4 0 0 q r)).trans ((prod_apply _ _ _ q r).trans ?_)
  rw [coord1]
  refine congrArg (fun s : EReal => s * factor (t.val % 2)) (Finset.sum_congr rfl fun k _ => ?_)
  exact (congrArg₂ (fun a b : EReal => a * b) (w_block m c t q k) (scratch_at m c t.val t.isLt (lt16 t) r k)).trans (mul_comm _ _)

/-! ## The result array -/

/-- The result array: per array, the queries or the index queries, each row's normalization against each of its weights' columns, times the array's factor. -/
def result (c : Dev nD) : S2x2x1024x4096.Idx → EReal := fun i =>
  projected (xAt m c ((i 1).val * 4096 + (i 3).val) (by have h1 : (i 1).val < 2 := (i 1).isLt; have h3 : (i 3).val < 4096 := (i 3).isLt; omega)) (gAt m c)
    (fun k => wAt m c k ((i 0).val * 3072 + (i 2).val) (by have h0 : (i 0).val < 2 := (i 0).isLt; have h2 : (i 2).val < 1024 := (i 2).isLt; omega))
  * factor (i 0).val

theorem flushed_eq (c : Dev nD) (t : Fin cfg0.N) :
    (dats m 0 c).flushed 3 t = ((cfg0.win 3).blk t).view.read (Elt Ideal) (result m c) := by
  rw [Value.flushed3]
  refine funext fun (y : S1x1x1024x1024.Idx) => ?_
  obtain ⟨a, b, q, r, rfl⟩ : ∃ (a b : Fin 1) (q r : Fin 1024), y = ix4 a b q r := ⟨y 0, y 1, y 2, y 3, eq_ix4 y⟩
  obtain rfl : a = 0 := Subsingleton.elim _ _
  obtain rfl : b = 0 := Subsingleton.elim _ _
  rw [View.read_apply]
  show (outsAt0 m c t.val t.isLt).1 (ix4 0 0 q r) = result m c ((win0_3.rect t).emb (ix4 0 0 q r))
  rw [block_at]
  have ht := lt16 t
  have h0 : ((win0_3.rect t).emb (ix4 0 0 q r) 0 : Nat) = t.val % 2 := by
    rw [win0_3.rect_emb_val t (ix4 0 0 q r) 0, (index3 t).1]; exact Nat.mul_one _
  have h1 : ((win0_3.rect t).emb (ix4 0 0 q r) 1 : Nat) = t.val / 2 / 4 := by
    rw [win0_3.rect_emb_val t (ix4 0 0 q r) 1, (index3 t).2.1]; exact Nat.mul_one _
  have h2 : ((win0_3.rect t).emb (ix4 0 0 q r) 2 : Nat) = q.val :=
    win0_3.rect_emb_val_of_index_zero t 2 (index3 t).2.2.1 (ix4 0 0 q r)
  have h3 : ((win0_3.rect t).emb (ix4 0 0 q r) 3 : Nat) = t.val / 2 % 4 * 1024 + r.val := by
    rw [win0_3.rect_emb_val t (ix4 0 0 q r) 3, (index3 t).2.2.2]; rfl
  refine congrArg₂ (fun a b : EReal => a * b) (projected_congr (fun k => xAt_congr m c ?_ k) (fun _ => rfl) (fun k => wAt_congr m c k ?_)) (congrArg factor h0.symm)
  · rw [h1, h3]; omega
  · rw [h0, h2]

theorem mem_block (t : Fin cfg0.N) (i : S2x2x1024x4096.Idx) :
    i ∈ ((cfg0.win 3).blk t).view.set ↔ ∀ a : Fin 4, win0_3.index t a * win0_3.size a ≤ (i a : Nat) ∧ (i a : Nat) < win0_3.index t a * win0_3.size a + win0_3.xsize (grid0.coords t) a := by
  show i ∈ ((View.whole main_v6).slice (win0_3.rect t)).set ↔ _
  rw [View.set_slice_whole, Rect.mem_set_unit]
  exact Iff.rfl

theorem flush_all : ∀ t : Fin cfg0.N, (cfg0.win 3).flush t = true :=
  (by decide +kernel : ∀ t : Fin grid0.N, win0_3.flush t = true)

theorem final (c : Dev nD) : (dats m 0 c).arrAt 3 cfg0.N = result m c :=
  (dats m 0 c).arrAt_eq_of_cover 3 (result m c) (fun t _ => flushed_eq m c t) fun (i : S2x2x1024x4096.Idx) => by
    have h0 : (i 0).val < 2 := (i 0).isLt
    have h1 : (i 1).val < 2 := (i 1).isLt
    have h2 : (i 2).val < 1024 := (i 2).isLt
    have h3 : (i 3).val < 4096 := (i 3).isLt
    have hN : cfg0.N = 16 := N_0
    let t : Fin cfg0.N := ⟨((i 1).val * 4 + (i 3).val / 1024) * 2 + (i 0).val, by omega⟩
    refine ⟨t, flush_all t, ?_⟩
    rw [mem_block]
    have hv : t.val = ((i 1).val * 4 + (i 3).val / 1024) * 2 + (i 0).val := rfl
    intro a
    match a with
    | ⟨0, _⟩ =>
      show win0_3.index t 0 * 1 ≤ (i 0).val ∧ (i 0).val < win0_3.index t 0 * 1 + 1
      rw [(index3 t).1]; omega
    | ⟨1, _⟩ =>
      show win0_3.index t 1 * 1 ≤ (i 1).val ∧ (i 1).val < win0_3.index t 1 * 1 + 1
      rw [(index3 t).2.1]; omega
    | ⟨2, _⟩ =>
      show win0_3.index t 2 * 1024 ≤ (i 2).val ∧ (i 2).val < win0_3.index t 2 * 1024 + 1024
      rw [(index3 t).2.2.1]; omega
    | ⟨3, _⟩ =>
      show win0_3.index t 3 * 1024 ≤ (i 3).val ∧ (i 3).val < win0_3.index t 3 * 1024 + 1024
      rw [(index3 t).2.2.2]; omega

/-- The run: the result array read, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v6) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (Value.run_blocks m ρ)

end Cert.Proof.Queries

end
-- ==== Proof.QueriesReference.lean ====
/- The reference of the projection of the prompt's queries and index queries, read at an index: it ends where the kernel does. -/
module

public import proofs.«01_k».proof.Proof.Gen.Reference4Ideal.Read
public import proofs.«01_k».proof.Proof.QueriesKernel
public import Idealize.ShloMosaic.Lib.IdealHost

@[expose] public section

noncomputable section

namespace Cert.Proof.Queries.Ref

open Idealize.ShloMosaic Idealize.ShloMosaic.TcCoe Idealize.SL.Sem Cert.Reference4Ideal Cert.Reference4Ideal.Gen Cert.Reference4Ideal.Read Cert.Proof.Rows

variable (x0 : S2x4096x2048.Idx → EReal) (x1 : S1x2048.Idx → EReal) (x2 : S1x2048x9296.Idx → EReal)

/-- The projection of all the columns, read at an index. -/
theorem proj_apply (b : Fin 2) (s : Fin 4096) (n : Fin 9296) :
    val_main_v15 (F := Ideal) x0 x1 x2 (ix3 b s n)
      = projected (fun k => x0 (ix3 b s k)) (fun k => x1 (ix2 0 k)) (fun k => x2 (ix3 0 k n)) := by
  rw [val_main_v15_apply]
  refine Finset.sum_congr rfl fun k _ => ?_
  pointwise [val_main_v13, val_main_v10, val_main_v9, val_main_v8, val_main_v7, val_main_v5, val_main_v3, val_main_v2, val_main_v1, val_main_cst, val_main_v4, val_main_cst_0, val_main_v6, val_main_cst_1, val_main_v12, val_main_v11, val_main_v0, val_main_v14]
  have e1 : lidx_main_v15 (ix3 b s n) k = ix3 b s k := funext fun a => by fin_cases a <;> rfl
  rw [e1]; rfl

/-- The scaled queries, read at an index. -/
theorem queries_apply (a : Fin 1) (b : Fin 2) (s : Fin 4096) (q : Fin 1024) :
    val_main_v20 (F := Ideal) x0 x1 x2 (ix4 a b s q)
      = projected (fun k => x0 (ix3 b s k)) (fun k => x1 (ix2 0 k)) (fun k => x2 (ix3 0 k ⟨q.val, by omega⟩)) * Ideal.ofBits .f32 0x3E38AA3B#32 := by
  pointwise [val_main_v20, val_main_v18, val_main_v17, val_main_cst_2, val_main_v16]
  rw [proj_apply]

/-- The index queries, read at an index. -/
theorem indices_apply (a : Fin 1) (b : Fin 2) (s : Fin 4096) (q : Fin 1024) :
    val_main_v21 (F := Ideal) x0 x1 x2 (ix4 a b s q)
      = projected (fun k => x0 (ix3 b s k)) (fun k => x1 (ix2 0 k)) (fun k => x2 (ix3 0 k ⟨3072 + q.val, by omega⟩)) := by
  pointwise [val_main_v21, val_main_v19]
  rw [proj_apply]

/-- The reference's result, read at an index: the queries scaled, the index queries as they are. -/
theorem result_apply (j b : Fin 2) (q : Fin 1024) (s : Fin 4096) :
    val_main_v24 (F := Ideal) x0 x1 x2 (ix4 j b q s)
      = projected (fun k => x0 (ix3 b s k)) (fun k => x1 (ix2 0 k))
          (fun k => x2 (ix3 0 k ⟨j.val * 3072 + q.val, by omega⟩)) * factor j.val := by
  pointwise [val_main_v24, val_main_v23, val_main_v22]
  have hj := j.isLt
  split_ifs with h
  · have h0 : j.val = 0 := Nat.lt_one_iff.mp h
    refine (queries_apply x0 x1 x2 _ b s q).trans ?_
    simp only [factor, h0, if_true, Nat.zero_mul, Nat.zero_add]
  · have h0 : j.val = 1 := by have h' : ¬j.val < 1 := h; omega
    refine (indices_apply x0 x1 x2 _ b s q).trans ?_
    simp only [factor, h0, if_neg Nat.one_ne_zero, Nat.one_mul, Ideal.ofBits_one_f32, mul_one]
  · rename_i h'
    exact absurd rfl h'

/-- The reference's run from a memory that holds the kernel's arguments: its result is the kernel's. -/
theorem run (m : (ℓ : Loc Cert.Kernel4Ideal.nD Cert.Kernel4Ideal.τ Cert.Kernel4Ideal.sig) → Buf (Elt Ideal) ℓ)
    (m' : (ℓ : Loc nD τ sig) → Buf (Elt Ideal) ℓ) (ρ : Dev nD → PrngReg)
    (h : ∀ c : Dev nD, m' ((c : Thread nD τ).loc main_arg0) = m ((c.tc : Thread Cert.Kernel4Ideal.nD Cert.Kernel4Ideal.τ).loc Cert.Kernel4Ideal.main_arg0)
      ∧ m' ((c : Thread nD τ).loc main_arg1) = m ((c.tc : Thread Cert.Kernel4Ideal.nD Cert.Kernel4Ideal.τ).loc Cert.Kernel4Ideal.main_arg1)
      ∧ m' ((c : Thread nD τ).loc main_arg2) = m ((c.tc : Thread Cert.Kernel4Ideal.nD Cert.Kernel4Ideal.τ).loc Cert.Kernel4Ideal.main_arg2)) :
    θ_run defs (onTc (τ := τ) (main (F := Ideal))) ⟨m', fun _ => 0, ρ⟩ fun r => ∀ c : Dev nD,
      r.2.mem ((c : Thread nD τ).loc main_v24) = Queries.result m c
      ∧ r.2.mem ((c : Thread nD τ).loc main_arg0) = m' ((c : Thread nD τ).loc main_arg0)
      ∧ r.2.mem ((c : Thread nD τ).loc main_arg1) = m' ((c : Thread nD τ).loc main_arg1)
      ∧ r.2.mem ((c : Thread nD τ).loc main_arg2) = m' ((c : Thread nD τ).loc main_arg2) := by
  refine (θ_run defs _ _).mono (fun _ hr c => ⟨((hr c).1.trans (val_main_v24_eq ..)).trans ?_, (hr c).2⟩) (Value.run m' ρ)
  rw [(h c).1, (h c).2.1, (h c).2.2]
  refine funext fun (i : S2x2x1024x4096.Idx) => ?_
  obtain ⟨j, b, q, s, rfl⟩ : ∃ (j b : Fin 2) (q : Fin 1024) (s : Fin 4096), i = ix4 j b q s := ⟨i 0, i 1, i 2, i 3, eq_ix4 i⟩
  refine (result_apply _ _ _ j b q s).trans (congrArg (fun a : EReal => a * factor j.val) (projected_congr (fun k => ?_) (fun _ => rfl) (fun _ => rfl)))
  have hb := b.isLt
  have hs := s.isLt
  have h0 : b = ⟨(b.val * 4096 + s.val) / 4096, by omega⟩ := Fin.ext (by dsimp only; omega)
  have h1 : s = ⟨(b.val * 4096 + s.val) % 4096, by omega⟩ := Fin.ext (by dsimp only; omega)
  exact congrArg₂ (fun b s => (m ((c.tc : Thread Cert.Kernel4Ideal.nD Cert.Kernel4Ideal.τ).loc Cert.Kernel4Ideal.main_arg0) : S2x4096x2048.Idx → EReal) (ix3 b s k)) h0 h1

end Cert.Proof.Queries.Ref

end
-- ==== Proof.StepHeadKernel.lean ====
/- What the projection of the sample's queries, keys, values and index keys leaves in its result array, read at an index. -/
module

public import proofs.«01_k».proof.Proof.Gen.Kernel5Ideal.Value
public import proofs.«01_k».proof.Proof.Rows
public import Idealize.ShloMosaic.Lib.StableHlo.ReadAt

@[expose] public section

noncomputable section

namespace Cert.Proof.StepHead

open Idealize.ShloMosaic Idealize.ShloMosaic.TcCoe Idealize.SL.Sem Cert.Kernel5Ideal Cert.Kernel5Ideal.Gen Cert.Proof.Rows

/-! ## One point's block -/

/-- The stored rows, read at an index. -/
theorem rows_apply (x : Vec Ideal S32x2048 .f32) (g : Vec Ideal S1x2048 .f32) (r : Fin 32) (k : Fin 2048) :
    k0_pay1 x g (ix2 r k) = normed (x (ix2 r k)) (∑ q : Fin 2048, x (ix2 r q) * x (ix2 r q)) (g (ix2 0 k)) := by
  pointwise [k0_pay1]; rfl

/-- The stored product, read at an index: row `r` of the rows against row `q` of the weights. -/
theorem prod_apply (z : Vec Ideal S32x2048 .bf16) (w : Vec Ideal S384x2048 .bf16) (r : Fin 32) (q : Fin 384) :
    k0_pay2 z w (ix2 r q) = ∑ k : Fin 2048, z (ix2 r k) * w (ix2 q k) := by
  pointwise [k0_pay2]

section Found
variable (c : Dev nD) (i : grid0.Coords) (a2 : Memref sig .tc .vmem S32x2048 .f32) (h2 : a2.IsWhole)
  (a3 : Memref sig .tc .vmem S1x2048 .f32) (h3 : a3.IsWhole) (a4 : Memref sig .tc .vmem S384x2048 .bf16) (h4 : a4.IsWhole)
  (a5 : Memref sig .tc .vmem S32x384 .f32) (h5 : a5.IsWhole) (a6 : Memref sig .tc .vmem S32x2048 .bf16) (h6 : a6.IsWhole)
  (x : Vec Ideal S32x2048 .f32) (g : Vec Ideal S1x2048 .f32) (w : Vec Ideal S384x2048 .bf16) (z : Vec Ideal S32x2048 .bf16)

/-- A row tile's first point leaves its normalized rows in the scratch. -/
theorem scratch_first (hc : cond0_0 i) :
    sout0_A_0 c i a2 h2 a3 h3 a4 h4 a5 h5 a6 h6 hc x g w = k0_pay1 x g := by
  unfold sout0_A_0
  rw [View.read_writes_eq_canon _ _ _ (scover0_A_0 c i a2 h2 a3 h3 a4 h4 a5 h5 a6 h6 hc x g w)]
  unfold kernelRun0_A
  dsimp only
  sl_unfold_words
  rw [View.canon_unit_zero zeros2]
  simp only [View.readAt_eq_ld, h2.read_unread, h3.read_unread, View.ld_unit_zero (S := S32x2048) zeros2, View.ld_unit_zero (S := S384x2048) zeros2, View.ld_unit_zero (S := S1x2048) zeros2]

/-- That point's block of the result is the product of those rows. -/
theorem block_first (hc : cond0_0 i) :
    out0_A_3 c i a2 h2 a3 h3 a4 h4 a5 h5 a6 h6 hc x g w = k0_pay2 (k0_pay1 x g) w := by
  unfold out0_A_3
  rw [View.read_writes_eq_canon _ _ _ (cover0_A_3 c i a2 h2 a3 h3 a4 h4 a5 h5 a6 h6 hc x g w)]
  unfold kernelRun0_A
  dsimp only
  sl_unfold_words
  rw [View.canon_unit_zero zeros2]
  simp only [View.readCov_unit_zero (S := S32x2048) _ zeros2, View.readAt_eq_ld, h2.read_unread, h3.read_unread, h4.read_unread, View.ld_unit_zero (S := S32x2048) zeros2, View.ld_unit_zero (S := S384x2048) zeros2, View.ld_unit_zero (S := S1x2048) zeros2]

/-- A later point's block of the result is the product of the rows the scratch holds. -/
theorem block_later (hc : ¬cond0_0 i) :
    out0_B_3 c i a2 h2 a3 h3 a4 h4 a5 h5 a6 h6 hc x g w z = k0_pay2 z w := by
  unfold out0_B_3
  rw [View.read_writes_eq_canon _ _ _ (cover0_B_3 c i a2 h2 a3 h3 a4 h4 a5 h5 a6 h6 hc x g w z)]
  unfold kernelRun0_B
  dsimp only
  try sl_unfold_words
  rw [View.canon_unit_zero zeros2]
  simp only [View.readAt_eq_ld, h4.read_unread, h6.read_unread, View.ld_unit_zero (S := S32x2048) zeros2, View.ld_unit_zero (S := S384x2048) zeros2]

end Found

/-! ## The blocks the windows read -/

variable (m : (ℓ : Loc nD τ sig) → Buf (Elt Ideal) ℓ)

theorem index0 : ∀ t : Fin cfg0.N, win0_0.index t 0 = 0 ∧ win0_0.index t 1 = 0 :=
  (by decide +kernel : ∀ t : Fin grid0.N, win0_0.index t 0 = 0 ∧ win0_0.index t 1 = 0)
theorem index1 : ∀ t : Fin cfg0.N, win0_1.index t 0 = 0 ∧ win0_1.index t 1 = 0 :=
  (by decide +kernel : ∀ t : Fin grid0.N, win0_1.index t 0 = 0 ∧ win0_1.index t 1 = 0)
theorem index2 : ∀ t : Fin cfg0.N, win0_2.index t 0 = t.val * 384 ∧ win0_2.index t 1 = 0 :=
  (by decide +kernel : ∀ t : Fin grid0.N, win0_2.index t 0 = t.val * 384 ∧ win0_2.index t 1 = 0)
theorem index3 : ∀ t : Fin cfg0.N, win0_3.index t 0 = 0 ∧ win0_3.index t 1 = t.val :=
  (by decide +kernel : ∀ t : Fin grid0.N, win0_3.index t 0 = 0 ∧ win0_3.index t 1 = t.val)

theorem lt11 (t : Fin cfg0.N) : t.val < 11 := lt_of_lt_of_eq t.isLt N_0

def xAt (c : Dev nD) (r : Fin 32) (k : Fin 2048) : EReal := (m ((c : Thread nD τ).loc main_arg0) : S32x1x2048.Idx → EReal) (ix3 r 0 k)
def gAt (c : Dev nD) (k : Fin 2048) : EReal := (m ((c : Thread nD τ).loc main_arg1) : S1x2048.Idx → EReal) (ix2 0 k)
def wAt (c : Dev nD) (k : Fin 2048) (n : ℕ) (hn : n < 9296) : EReal :=
  (m ((c : Thread nD τ).loc main_arg2) : S1x2048x9296.Idx → EReal) (ix3 0 k ⟨n, hn⟩)

theorem wAt_congr (c : Dev nD) (k : Fin 2048) {n n' : ℕ} {hn : n < 9296} {hn' : n' < 9296} (h : n = n') : wAt m c k n hn = wAt m c k n' hn' := by
  subst h; rfl

theorem V3_apply (c : Dev nD) (j : S32x2048.Idx) : (V m c main_v3 : S32x2048.Idx → EReal) j = xAt m c (j 0) (j 1) := by
  unfold V
  after_reads_at
  rfl
theorem V5_apply (c : Dev nD) (j : S1x2048.Idx) : (V m c main_v5 : S1x2048.Idx → EReal) j = gAt m c (j 1) := by
  unfold V
  after_reads_at
  rfl
theorem V2_apply (c : Dev nD) (j : S9296x2048.Idx) :
    (V m c main_v2 : S9296x2048.Idx → EReal) j = wAt m c (j 1) (j 0).val (j 0).isLt := by
  unfold V
  after_reads_at
  rfl

theorem x_block (c : Dev nD) (t : Fin cfg0.N) (r : Fin 32) (k : Fin 2048) :
    (iblk m c 0 t : S32x2048.Idx → EReal) (ix2 r k) = xAt m c r k := by
  unfold iblk
  rw [View.read_apply]
  show (V m c main_v3 : S32x2048.Idx → EReal) ((win0_0.rect t).emb (ix2 r k)) = _
  rw [V3_apply]
  exact congrArg₂ (xAt m c) (Fin.ext (win0_0.rect_emb_val_of_index_zero t 0 (index0 t).1 (ix2 r k)))
    (Fin.ext (win0_0.rect_emb_val_of_index_zero t 1 (index0 t).2 (ix2 r k)))

theorem g_block (c : Dev nD) (t : Fin cfg0.N) (k : Fin 2048) :
    (iblk m c 1 t : S1x2048.Idx → EReal) (ix2 0 k) = gAt m c k := by
  unfold iblk
  rw [View.read_apply]
  show (V m c main_v5 : S1x2048.Idx → EReal) ((win0_1.rect t).emb (ix2 0 k)) = _
  rw [V5_apply]
  exact congrArg (gAt m c) (Fin.ext (win0_1.rect_emb_val_of_index_zero t 1 (index1 t).2 (ix2 0 k)))

theorem w_block (c : Dev nD) (t : Fin cfg0.N) (q : Fin 384) (k : Fin 2048) :
    (iblk m c 2 t : S384x2048.Idx → EReal) (ix2 q k) = wAt m c k (t.val * 384 + q.val) (by have := lt11 t; omega) := by
  unfold iblk
  rw [View.read_apply]
  show (V m c main_v2 : S9296x2048.Idx → EReal) ((win0_2.rect t).emb (ix2 q k)) = _
  rw [V2_apply]
  have h0 : ((win0_2.rect t).emb (ix2 q k) 0 : Nat) = t.val * 384 + q.val := by
    rw [win0_2.rect_emb_val_off t (ix2 q k) 0, (index2 t).1]; rfl
  have h1 : (win0_2.rect t).emb (ix2 q k) 1 = k := Fin.ext (win0_2.rect_emb_val_of_index_zero t 1 (index2 t).2 (ix2 q k))
  simp only [h0, h1]

/-! ## The scratch and the result's blocks at any point -/

theorem step_first (c : Dev nD) (t : Fin cfg0.N) (h0 : t.val % 11 = 0) :
    outsAt0 m c t.val t.isLt = (k0_pay2 (k0_pay1 (iblk m c 0 t) (iblk m c 1 t)) (iblk m c 2 t), k0_pay1 (iblk m c 0 t) (iblk m c 1 t)) := by
  rw [outsAt0_A m c t h0, scratch_first, block_first]

theorem step_later (c : Dev nD) (t : Fin cfg0.N) (h0 : ¬t.val % 11 = 0) (h : t.val - 1 < cfg0.N) :
    outsAt0 m c t.val t.isLt = (k0_pay2 (outsAt0 m c (t.val - 1) h).2 (iblk m c 2 t), (outsAt0 m c (t.val - 1) h).2) := by
  rw [outsAt0_B m c t h0, block_later]; rfl

/-- After any point the scratch holds the normalized rows. -/
theorem scratch_at (c : Dev nD) (r : Fin 32) (k : Fin 2048) : ∀ (n : ℕ) (h : n < cfg0.N),
    (outsAt0 m c n h).2 (ix2 r k) = normed (xAt m c r k) (∑ q : Fin 2048, xAt m c r q * xAt m c r q) (gAt m c k) := by
  have first (t : Fin cfg0.N) (h0 : t.val % 11 = 0) : (outsAt0 m c t.val t.isLt).2 (ix2 r k)
      = normed (xAt m c r k) (∑ q : Fin 2048, xAt m c r q * xAt m c r q) (gAt m c k) := by
    refine (congrFun (congrArg Prod.snd (step_first m c t h0)) (ix2 r k)).trans ((rows_apply _ _ r k).trans ?_)
    simp only [x_block, g_block]
  intro n
  induction n with
  | zero => exact fun h => first ⟨0, h⟩ (Nat.zero_mod 11)
  | succ n ih =>
    intro h
    by_cases h0 : (n + 1) % 11 = 0
    · exact first ⟨n + 1, h⟩ h0
    · exact (congrFun (congrArg Prod.snd (step_later m c ⟨n + 1, h⟩ h0 (Nat.lt_of_succ_lt h))) (ix2 r k)).trans (ih (Nat.lt_of_succ_lt h))

/-- What a point leaves in its block of the result: the product of the rows the scratch then holds. -/
theorem step_prod (c : Dev nD) (t : Fin cfg0.N) :
    (outsAt0 m c t.val t.isLt).1 = k0_pay2 (outsAt0 m c t.val t.isLt).2 (iblk m c 2 t) := by
  by_cases h0 : t.val % 11 = 0
  · rw [step_first m c t h0]
  · rw [step_later m c t h0 (Nat.lt_of_le_of_lt (Nat.sub_le _ _) t.isLt)]

theorem block_at (c : Dev nD) (t : Fin cfg0.N) (r : Fin 32) (q : Fin 384) :
    (outsAt0 m c t.val t.isLt).1 (ix2 r q)
      = projected (xAt m c r) (gAt m c) (fun k => wAt m c k (t.val * 384 + q.val) (by have := lt11 t; omega)) := by
  refine (congrFun (step_prod m c t) (ix2 r q)).trans ((prod_apply _ _ r q).trans (Finset.sum_congr rfl fun k _ => ?_))
  exact congrArg₂ (fun a b : EReal => a * b) (scratch_at m c r k t.val t.isLt) (w_block m c t q k)

/-! ## The result array -/

/-- The result array: each row's normalization against each of the weights' columns. -/
def result (c : Dev nD) : S32x4224.Idx → EReal := fun i =>
  projected (xAt m c (i 0)) (gAt m c) (fun k => wAt m c k ((i 1).val) (lt_of_lt_of_le (i 1).isLt (by decide)))

theorem flushed_eq (c : Dev nD) (t : Fin cfg0.N) :
    (dats m 0 c).flushed 3 t = ((cfg0.win 3).blk t).view.read (Elt Ideal) (result m c) := by
  rw [Value.flushed3]
  refine funext fun (y : S32x384.Idx) => ?_
  obtain ⟨r, q, rfl⟩ : ∃ (r : Fin 32) (q : Fin 384), y = ix2 r q := ⟨y 0, y 1, eq_ix2 y⟩
  rw [View.read_apply]
  show (outsAt0 m c t.val t.isLt).1 (ix2 r q) = result m c ((win0_3.rect t).emb (ix2 r q))
  rw [block_at]
  have ht := lt11 t
  have h0 : (win0_3.rect t).emb (ix2 r q) 0 = r := Fin.ext (win0_3.rect_emb_val_of_index_zero t 0 (index3 t).1 (ix2 r q))
  have h1 : ((win0_3.rect t).emb (ix2 r q) 1 : Nat) = t.val * 384 + q.val := by
    rw [win0_3.rect_emb_val t (ix2 r q) 1, (index3 t).2]; rfl
  refine projected_congr (fun k => congrArg (xAt m c · k) h0.symm) (fun _ => rfl) (fun k => wAt_congr m c k ?_)
  exact h1.symm

theorem mem_block (t : Fin cfg0.N) (i : S32x4224.Idx) :
    i ∈ ((cfg0.win 3).blk t).view.set ↔ ∀ a : Fin 2, win0_3.index t a * win0_3.size a ≤ (i a : Nat) ∧ (i a : Nat) < win0_3.index t a * win0_3.size a + win0_3.xsize (grid0.coords t) a := by
  show i ∈ ((View.whole main_v6).slice (win0_3.rect t)).set ↔ _
  rw [View.set_slice_whole, Rect.mem_set_unit]
  exact Iff.rfl

theorem flush_all : ∀ t : Fin cfg0.N, (cfg0.win 3).flush t = true :=
  (by decide +kernel : ∀ t : Fin grid0.N, win0_3.flush t = true)

theorem final (c : Dev nD) : (dats m 0 c).arrAt 3 cfg0.N = result m c :=
  (dats m 0 c).arrAt_eq_of_cover 3 (result m c) (fun t _ => flushed_eq m c t) fun (i : S32x4224.Idx) => by
    have h0 : (i 0).val < 32 := (i 0).isLt
    have h1 : (i 1).val < 4224 := (i 1).isLt
    have hN : cfg0.N = 11 := N_0
    let t : Fin cfg0.N := ⟨(i 1).val / 384, by omega⟩
    refine ⟨t, flush_all t, ?_⟩
    rw [mem_block]
    have hv : t.val = (i 1).val / 384 := rfl
    intro a
    match a with
    | ⟨0, _⟩ =>
      show win0_3.index t 0 * 32 ≤ (i 0).val ∧ (i 0).val < win0_3.index t 0 * 32 + 32
      rw [(index3 t).1]; omega
    | ⟨1, _⟩ =>
      show win0_3.index t 1 * 384 ≤ (i 1).val ∧ (i 1).val < win0_3.index t 1 * 384 + 384
      rw [(index3 t).2]; omega

/-- The run: the result array read, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v6) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (Value.run_blocks m ρ)

end Cert.Proof.StepHead

end
-- ==== Proof.StepHeadReference.lean ====
/- The reference of the projection of the sample's queries, keys, values and index keys, read at an index: it ends where the kernel does. -/
module

public import proofs.«01_k».proof.Proof.Gen.Reference5Ideal.Read
public import proofs.«01_k».proof.Proof.StepHeadKernel

@[expose] public section

noncomputable section

namespace Cert.Proof.StepHead.Ref

open Idealize.ShloMosaic Idealize.ShloMosaic.TcCoe Idealize.SL.Sem Cert.Reference5Ideal Cert.Reference5Ideal.Gen Cert.Reference5Ideal.Read Cert.Proof.Rows

variable (x0 : S32x1x2048.Idx → EReal) (x1 : S1x2048.Idx → EReal) (x2 : S1x2048x9296.Idx → EReal)

/-- The projection of all the columns, read at an index. -/
theorem proj_apply (b : Fin 32) (n : Fin 9296) :
    val_main_v15 (F := Ideal) x0 x1 x2 (ix3 b 0 n)
      = projected (fun k => x0 (ix3 b 0 k)) (fun k => x1 (ix2 0 k)) (fun k => x2 (ix3 0 k n)) := by
  rw [val_main_v15_apply]
  refine Finset.sum_congr rfl fun k _ => ?_
  pointwise [val_main_v13, val_main_v10, val_main_v9, val_main_v8, val_main_v7, val_main_v5, val_main_v3, val_main_v2, val_main_v1, val_main_cst, val_main_v4, val_main_cst_0, val_main_v6, val_main_cst_1, val_main_v12, val_main_v11, val_main_v0, val_main_v14]
  have e1 : lidx_main_v15 (ix3 b 0 n) k = ix3 b 0 k := funext fun a => by fin_cases a <;> rfl
  rw [e1]; rfl

/-- The reference's result, read at an index. -/
theorem result_apply (r : Fin 32) (n : Fin 4224) :
    val_main_v17 (F := Ideal) x0 x1 x2 (ix2 r n)
      = projected (fun k => x0 (ix3 r 0 k)) (fun k => x1 (ix2 0 k))
          (fun k => x2 (ix3 0 k ⟨n.val, by omega⟩)) := by
  pointwise [val_main_v17, val_main_v16]
  rw [proj_apply]

/-- The reference's run from a memory that holds the kernel's arguments: its result is the kernel's. -/
theorem run (m : (ℓ : Loc Cert.Kernel5Ideal.nD Cert.Kernel5Ideal.τ Cert.Kernel5Ideal.sig) → Buf (Elt Ideal) ℓ)
    (m' : (ℓ : Loc nD τ sig) → Buf (Elt Ideal) ℓ) (ρ : Dev nD → PrngReg)
    (h : ∀ c : Dev nD, m' ((c : Thread nD τ).loc main_arg0) = m ((c.tc : Thread Cert.Kernel5Ideal.nD Cert.Kernel5Ideal.τ).loc Cert.Kernel5Ideal.main_arg0)
      ∧ m' ((c : Thread nD τ).loc main_arg1) = m ((c.tc : Thread Cert.Kernel5Ideal.nD Cert.Kernel5Ideal.τ).loc Cert.Kernel5Ideal.main_arg1)
      ∧ m' ((c : Thread nD τ).loc main_arg2) = m ((c.tc : Thread Cert.Kernel5Ideal.nD Cert.Kernel5Ideal.τ).loc Cert.Kernel5Ideal.main_arg2)) :
    θ_run defs (onTc (τ := τ) (main (F := Ideal))) ⟨m', fun _ => 0, ρ⟩ fun r => ∀ c : Dev nD,
      r.2.mem ((c : Thread nD τ).loc main_v17) = StepHead.result m c
      ∧ r.2.mem ((c : Thread nD τ).loc main_arg0) = m' ((c : Thread nD τ).loc main_arg0)
      ∧ r.2.mem ((c : Thread nD τ).loc main_arg1) = m' ((c : Thread nD τ).loc main_arg1)
      ∧ r.2.mem ((c : Thread nD τ).loc main_arg2) = m' ((c : Thread nD τ).loc main_arg2) := by
  refine (θ_run defs _ _).mono (fun _ hr c => ⟨((hr c).1.trans (val_main_v17_eq ..)).trans ?_, (hr c).2⟩) (Value.run m' ρ)
  rw [(h c).1, (h c).2.1, (h c).2.2]
  refine funext fun (i : S32x4224.Idx) => ?_
  obtain ⟨r, n, rfl⟩ : ∃ (r : Fin 32) (n : Fin 4224), i = ix2 r n := ⟨i 0, i 1, eq_ix2 i⟩
  exact result_apply _ _ _ r n

end Cert.Proof.StepHead.Ref

end
-- ==== Proof.StepTailKernel.lean ====
/- What the projection of the sample's gates and pooled vectors leaves in its result array, read at an index. -/
module

public import proofs.«01_k».proof.Proof.Gen.Kernel6Ideal.Value
public import proofs.«01_k».proof.Proof.Rows
public import Idealize.ShloMosaic.Lib.StableHlo.ReadAt

@[expose] public section

noncomputable section

namespace Cert.Proof.StepTail

open Idealize.ShloMosaic Idealize.ShloMosaic.TcCoe Idealize.SL.Sem Cert.Kernel6Ideal Cert.Kernel6Ideal.Gen Cert.Proof.Rows

/-! ## One point's block -/

/-- The stored rows, read at an index. -/
theorem rows_apply (x : Vec Ideal S32x2048 .f32) (g : Vec Ideal S1x2048 .f32) (r : Fin 32) (k : Fin 2048) :
    k0_pay1 x g (ix2 r k) = normed (x (ix2 r k)) (∑ q : Fin 2048, x (ix2 r q) * x (ix2 r q)) (g (ix2 0 k)) := by
  pointwise [k0_pay1]; rfl

/-- The stored product, read at an index: row `r` of the rows against row `q` of the weights. -/
theorem prod_apply (z : Vec Ideal S32x2048 .bf16) (w : Vec Ideal S1024x2048 .bf16) (r : Fin 32) (q : Fin 1024) :
    k0_pay2 z w (ix2 r q) = ∑ k : Fin 2048, z (ix2 r k) * w (ix2 q k) := by
  pointwise [k0_pay2]

section Found
variable (c : Dev nD) (i : grid0.Coords) (a2 : Memref sig .tc .vmem S32x2048 .f32) (h2 : a2.IsWhole)
  (a3 : Memref sig .tc .vmem S1x2048 .f32) (h3 : a3.IsWhole) (a4 : Memref sig .tc .vmem S1024x2048 .bf16) (h4 : a4.IsWhole)
  (a5 : Memref sig .tc .vmem S32x1024 .f32) (h5 : a5.IsWhole) (a6 : Memref sig .tc .vmem S32x2048 .bf16) (h6 : a6.IsWhole)
  (x : Vec Ideal S32x2048 .f32) (g : Vec Ideal S1x2048 .f32) (w : Vec Ideal S1024x2048 .bf16) (z : Vec Ideal S32x2048 .bf16)

/-- A row tile's first point leaves its normalized rows in the scratch. -/
theorem scratch_first (hc : cond0_0 i) :
    sout0_A_0 c i a2 h2 a3 h3 a4 h4 a5 h5 a6 h6 hc x g w = k0_pay1 x g := by
  unfold sout0_A_0
  rw [View.read_writes_eq_canon _ _ _ (scover0_A_0 c i a2 h2 a3 h3 a4 h4 a5 h5 a6 h6 hc x g w)]
  unfold kernelRun0_A
  dsimp only
  sl_unfold_words
  rw [View.canon_unit_zero zeros2]
  simp only [View.readAt_eq_ld, h2.read_unread, h3.read_unread, View.ld_unit_zero (S := S32x2048) zeros2, View.ld_unit_zero (S := S1024x2048) zeros2, View.ld_unit_zero (S := S1x2048) zeros2]

/-- That point's block of the result is the product of those rows. -/
theorem block_first (hc : cond0_0 i) :
    out0_A_3 c i a2 h2 a3 h3 a4 h4 a5 h5 a6 h6 hc x g w = k0_pay2 (k0_pay1 x g) w := by
  unfold out0_A_3
  rw [View.read_writes_eq_canon _ _ _ (cover0_A_3 c i a2 h2 a3 h3 a4 h4 a5 h5 a6 h6 hc x g w)]
  unfold kernelRun0_A
  dsimp only
  sl_unfold_words
  rw [View.canon_unit_zero zeros2]
  simp only [View.readCov_unit_zero (S := S32x2048) _ zeros2, View.readAt_eq_ld, h2.read_unread, h3.read_unread, h4.read_unread, View.ld_unit_zero (S := S32x2048) zeros2, View.ld_unit_zero (S := S1024x2048) zeros2, View.ld_unit_zero (S := S1x2048) zeros2]

/-- A later point's block of the result is the product of the rows the scratch holds. -/
theorem block_later (hc : ¬cond0_0 i) :
    out0_B_3 c i a2 h2 a3 h3 a4 h4 a5 h5 a6 h6 hc x g w z = k0_pay2 z w := by
  unfold out0_B_3
  rw [View.read_writes_eq_canon _ _ _ (cover0_B_3 c i a2 h2 a3 h3 a4 h4 a5 h5 a6 h6 hc x g w z)]
  unfold kernelRun0_B
  dsimp only
  try sl_unfold_words
  rw [View.canon_unit_zero zeros2]
  simp only [View.readAt_eq_ld, h4.read_unread, h6.read_unread, View.ld_unit_zero (S := S32x2048) zeros2, View.ld_unit_zero (S := S1024x2048) zeros2]

end Found

/-! ## The blocks the windows read -/

variable (m : (ℓ : Loc nD τ sig) → Buf (Elt Ideal) ℓ)

theorem index0 : ∀ t : Fin cfg0.N, win0_0.index t 0 = 0 ∧ win0_0.index t 1 = 0 :=
  (by decide +kernel : ∀ t : Fin grid0.N, win0_0.index t 0 = 0 ∧ win0_0.index t 1 = 0)
theorem index1 : ∀ t : Fin cfg0.N, win0_1.index t 0 = 0 ∧ win0_1.index t 1 = 0 :=
  (by decide +kernel : ∀ t : Fin grid0.N, win0_1.index t 0 = 0 ∧ win0_1.index t 1 = 0)
theorem index2 : ∀ t : Fin cfg0.N, win0_2.index t 0 = 4176 + t.val * 1024 ∧ win0_2.index t 1 = 0 :=
  (by decide +kernel : ∀ t : Fin grid0.N, win0_2.index t 0 = 4176 + t.val * 1024 ∧ win0_2.index t 1 = 0)
theorem index3 : ∀ t : Fin cfg0.N, win0_3.index t 0 = 0 ∧ win0_3.index t 1 = (t.val + 4) % 5 :=
  (by decide +kernel : ∀ t : Fin grid0.N, win0_3.index t 0 = 0 ∧ win0_3.index t 1 = (t.val + 4) % 5)

theorem lt5 (t : Fin cfg0.N) : t.val < 5 := lt_of_lt_of_eq t.isLt N_0

def xAt (c : Dev nD) (r : Fin 32) (k : Fin 2048) : EReal := (m ((c : Thread nD τ).loc main_arg0) : S32x1x2048.Idx → EReal) (ix3 r 0 k)
def gAt (c : Dev nD) (k : Fin 2048) : EReal := (m ((c : Thread nD τ).loc main_arg1) : S1x2048.Idx → EReal) (ix2 0 k)
def wAt (c : Dev nD) (k : Fin 2048) (n : ℕ) (hn : n < 9296) : EReal :=
  (m ((c : Thread nD τ).loc main_arg2) : S1x2048x9296.Idx → EReal) (ix3 0 k ⟨n, hn⟩)

theorem wAt_congr (c : Dev nD) (k : Fin 2048) {n n' : ℕ} {hn : n < 9296} {hn' : n' < 9296} (h : n = n') : wAt m c k n hn = wAt m c k n' hn' := by
  subst h; rfl

theorem V3_apply (c : Dev nD) (j : S32x2048.Idx) : (V m c main_v3 : S32x2048.Idx → EReal) j = xAt m c (j 0) (j 1) := by
  unfold V
  after_reads_at
  rfl
theorem V5_apply (c : Dev nD) (j : S1x2048.Idx) : (V m c main_v5 : S1x2048.Idx → EReal) j = gAt m c (j 1) := by
  unfold V
  after_reads_at
  rfl
theorem V2_apply (c : Dev nD) (j : S9296x2048.Idx) :
    (V m c main_v2 : S9296x2048.Idx → EReal) j = wAt m c (j 1) (j 0).val (j 0).isLt := by
  unfold V
  after_reads_at
  rfl

theorem x_block (c : Dev nD) (t : Fin cfg0.N) (r : Fin 32) (k : Fin 2048) :
    (iblk m c 0 t : S32x2048.Idx → EReal) (ix2 r k) = xAt m c r k := by
  unfold iblk
  rw [View.read_apply]
  show (V m c main_v3 : S32x2048.Idx → EReal) ((win0_0.rect t).emb (ix2 r k)) = _
  rw [V3_apply]
  exact congrArg₂ (xAt m c) (Fin.ext (win0_0.rect_emb_val_of_index_zero t 0 (index0 t).1 (ix2 r k)))
    (Fin.ext (win0_0.rect_emb_val_of_index_zero t 1 (index0 t).2 (ix2 r k)))

theorem g_block (c : Dev nD) (t : Fin cfg0.N) (k : Fin 2048) :
    (iblk m c 1 t : S1x2048.Idx → EReal) (ix2 0 k) = gAt m c k := by
  unfold iblk
  rw [View.read_apply]
  show (V m c main_v5 : S1x2048.Idx → EReal) ((win0_1.rect t).emb (ix2 0 k)) = _
  rw [V5_apply]
  exact congrArg (gAt m c) (Fin.ext (win0_1.rect_emb_val_of_index_zero t 1 (index1 t).2 (ix2 0 k)))

theorem w_block (c : Dev nD) (t : Fin cfg0.N) (q : Fin 1024) (k : Fin 2048) :
    (iblk m c 2 t : S1024x2048.Idx → EReal) (ix2 q k) = wAt m c k (4176 + t.val * 1024 + q.val) (by have := lt5 t; omega) := by
  unfold iblk
  rw [View.read_apply]
  show (V m c main_v2 : S9296x2048.Idx → EReal) ((win0_2.rect t).emb (ix2 q k)) = _
  rw [V2_apply]
  have h0 : ((win0_2.rect t).emb (ix2 q k) 0 : Nat) = 4176 + t.val * 1024 + q.val := by
    rw [win0_2.rect_emb_val_off t (ix2 q k) 0, (index2 t).1]; rfl
  have h1 : (win0_2.rect t).emb (ix2 q k) 1 = k := Fin.ext (win0_2.rect_emb_val_of_index_zero t 1 (index2 t).2 (ix2 q k))
  simp only [h0, h1]

/-! ## The scratch and the result's blocks at any point -/

theorem step_first (c : Dev nD) (t : Fin cfg0.N) (h0 : t.val % 5 = 0) :
    outsAt0 m c t.val t.isLt = (k0_pay2 (k0_pay1 (iblk m c 0 t) (iblk m c 1 t)) (iblk m c 2 t), k0_pay1 (iblk m c 0 t) (iblk m c 1 t)) := by
  rw [outsAt0_A m c t h0, scratch_first, block_first]

theorem step_later (c : Dev nD) (t : Fin cfg0.N) (h0 : ¬t.val % 5 = 0) (h : t.val - 1 < cfg0.N) :
    outsAt0 m c t.val t.isLt = (k0_pay2 (outsAt0 m c (t.val - 1) h).2 (iblk m c 2 t), (outsAt0 m c (t.val - 1) h).2) := by
  rw [outsAt0_B m c t h0, block_later]; rfl

/-- After any point the scratch holds the normalized rows. -/
theorem scratch_at (c : Dev nD) (r : Fin 32) (k : Fin 2048) : ∀ (n : ℕ) (h : n < cfg0.N),
    (outsAt0 m c n h).2 (ix2 r k) = normed (xAt m c r k) (∑ q : Fin 2048, xAt m c r q * xAt m c r q) (gAt m c k) := by
  have first (t : Fin cfg0.N) (h0 : t.val % 5 = 0) : (outsAt0 m c t.val t.isLt).2 (ix2 r k)
      = normed (xAt m c r k) (∑ q : Fin 2048, xAt m c r q * xAt m c r q) (gAt m c k) := by
    refine (congrFun (congrArg Prod.snd (step_first m c t h0)) (ix2 r k)).trans ((rows_apply _ _ r k).trans ?_)
    simp only [x_block, g_block]
  intro n
  induction n with
  | zero => exact fun h => first ⟨0, h⟩ (Nat.zero_mod 5)
  | succ n ih =>
    intro h
    by_cases h0 : (n + 1) % 5 = 0
    · exact first ⟨n + 1, h⟩ h0
    · exact (congrFun (congrArg Prod.snd (step_later m c ⟨n + 1, h⟩ h0 (Nat.lt_of_succ_lt h))) (ix2 r k)).trans (ih (Nat.lt_of_succ_lt h))

/-- What a point leaves in its block of the result: the product of the rows the scratch then holds. -/
theorem step_prod (c : Dev nD) (t : Fin cfg0.N) :
    (outsAt0 m c t.val t.isLt).1 = k0_pay2 (outsAt0 m c t.val t.isLt).2 (iblk m c 2 t) := by
  by_cases h0 : t.val % 5 = 0
  · rw [step_first m c t h0]
  · rw [step_later m c t h0 (Nat.lt_of_le_of_lt (Nat.sub_le _ _) t.isLt)]

theorem block_at (c : Dev nD) (t : Fin cfg0.N) (r : Fin 32) (q : Fin 1024) :
    (outsAt0 m c t.val t.isLt).1 (ix2 r q)
      = projected (xAt m c r) (gAt m c) (fun k => wAt m c k (4176 + t.val * 1024 + q.val) (by have := lt5 t; omega)) := by
  refine (congrFun (step_prod m c t) (ix2 r q)).trans ((prod_apply _ _ r q).trans (Finset.sum_congr rfl fun k _ => ?_))
  exact congrArg₂ (fun a b : EReal => a * b) (scratch_at m c r k t.val t.isLt) (w_block m c t q k)

/-! ## The result array -/

/-- The result array: each row's normalization against each of the weights' columns. -/
def result (c : Dev nD) : S32x5120.Idx → EReal := fun i =>
  projected (xAt m c (i 0)) (gAt m c) (fun k => wAt m c k (col (i 1).val) (col_lt (i 1).isLt))

theorem flushed_eq (c : Dev nD) (t : Fin cfg0.N) :
    (dats m 0 c).flushed 3 t = ((cfg0.win 3).blk t).view.read (Elt Ideal) (result m c) := by
  rw [Value.flushed3]
  refine funext fun (y : S32x1024.Idx) => ?_
  obtain ⟨r, q, rfl⟩ : ∃ (r : Fin 32) (q : Fin 1024), y = ix2 r q := ⟨y 0, y 1, eq_ix2 y⟩
  rw [View.read_apply]
  show (outsAt0 m c t.val t.isLt).1 (ix2 r q) = result m c ((win0_3.rect t).emb (ix2 r q))
  rw [block_at]
  have ht := lt5 t
  have h0 : (win0_3.rect t).emb (ix2 r q) 0 = r := Fin.ext (win0_3.rect_emb_val_of_index_zero t 0 (index3 t).1 (ix2 r q))
  have h1 : ((win0_3.rect t).emb (ix2 r q) 1 : Nat) = (t.val + 4) % 5 * 1024 + q.val := by
    rw [win0_3.rect_emb_val t (ix2 r q) 1, (index3 t).2]; rfl
  have hc : col ((win0_3.rect t).emb (ix2 r q) 1 : Nat) = 4176 + t.val * 1024 + q.val := by
    rw [h1]; unfold col; split <;> omega
  refine projected_congr (fun k => congrArg (xAt m c · k) h0.symm) (fun _ => rfl) (fun k => wAt_congr m c k ?_)
  exact hc.symm

theorem mem_block (t : Fin cfg0.N) (i : S32x5120.Idx) :
    i ∈ ((cfg0.win 3).blk t).view.set ↔ ∀ a : Fin 2, win0_3.index t a * win0_3.size a ≤ (i a : Nat) ∧ (i a : Nat) < win0_3.index t a * win0_3.size a + win0_3.xsize (grid0.coords t) a := by
  show i ∈ ((View.whole main_v6).slice (win0_3.rect t)).set ↔ _
  rw [View.set_slice_whole, Rect.mem_set_unit]
  exact Iff.rfl

theorem flush_all : ∀ t : Fin cfg0.N, (cfg0.win 3).flush t = true :=
  (by decide +kernel : ∀ t : Fin grid0.N, win0_3.flush t = true)

theorem final (c : Dev nD) : (dats m 0 c).arrAt 3 cfg0.N = result m c :=
  (dats m 0 c).arrAt_eq_of_cover 3 (result m c) (fun t _ => flushed_eq m c t) fun (i : S32x5120.Idx) => by
    have h0 : (i 0).val < 32 := (i 0).isLt
    have h1 : (i 1).val < 5120 := (i 1).isLt
    have hN : cfg0.N = 5 := N_0
    let t : Fin cfg0.N := ⟨((i 1).val / 1024 + 1) % 5, by omega⟩
    refine ⟨t, flush_all t, ?_⟩
    rw [mem_block]
    have hv : t.val = ((i 1).val / 1024 + 1) % 5 := rfl
    intro a
    match a with
    | ⟨0, _⟩ =>
      show win0_3.index t 0 * 32 ≤ (i 0).val ∧ (i 0).val < win0_3.index t 0 * 32 + 32
      rw [(index3 t).1]; omega
    | ⟨1, _⟩ =>
      show win0_3.index t 1 * 1024 ≤ (i 1).val ∧ (i 1).val < win0_3.index t 1 * 1024 + 1024
      rw [(index3 t).2]; omega

/-- The run: the result array read, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v6) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (Value.run_blocks m ρ)

end Cert.Proof.StepTail

end
-- ==== Proof.StepTailReference.lean ====
/- The reference of the projection of the sample's gates and pooled vectors, read at an index: it ends where the kernel does. -/
module

public import proofs.«01_k».proof.Proof.Gen.Reference6Ideal.Read
public import proofs.«01_k».proof.Proof.StepTailKernel

@[expose] public section

noncomputable section

namespace Cert.Proof.StepTail.Ref

open Idealize.ShloMosaic Idealize.ShloMosaic.TcCoe Idealize.SL.Sem Cert.Reference6Ideal Cert.Reference6Ideal.Gen Cert.Reference6Ideal.Read Cert.Proof.Rows

variable (x0 : S32x1x2048.Idx → EReal) (x1 : S1x2048.Idx → EReal) (x2 : S1x2048x9296.Idx → EReal)

/-- The projection of all the columns, read at an index. -/
theorem proj_apply (b : Fin 32) (n : Fin 9296) :
    val_main_v15 (F := Ideal) x0 x1 x2 (ix3 b 0 n)
      = projected (fun k => x0 (ix3 b 0 k)) (fun k => x1 (ix2 0 k)) (fun k => x2 (ix3 0 k n)) := by
  rw [val_main_v15_apply]
  refine Finset.sum_congr rfl fun k _ => ?_
  pointwise [val_main_v13, val_main_v10, val_main_v9, val_main_v8, val_main_v7, val_main_v5, val_main_v3, val_main_v2, val_main_v1, val_main_cst, val_main_v4, val_main_cst_0, val_main_v6, val_main_cst_1, val_main_v12, val_main_v11, val_main_v0, val_main_v14]
  have e1 : lidx_main_v15 (ix3 b 0 n) k = ix3 b 0 k := funext fun a => by fin_cases a <;> rfl
  rw [e1]; rfl

/-- The reference's result, read at an index: the kernel's column order. -/
theorem result_apply (r : Fin 32) (n : Fin 5120) :
    val_main_v22 (F := Ideal) x0 x1 x2 (ix2 r n)
      = projected (fun k => x0 (ix3 r 0 k)) (fun k => x1 (ix2 0 k))
          (fun k => x2 (ix3 0 k ⟨col n.val, col_lt n.isLt⟩)) := by
  pointwise [val_main_v22, val_main_v21, val_main_v20, val_main_v19, val_main_v18, val_main_v17, val_main_v16]
  have hn := n.isLt
  split_ifs with h h' <;> rw [proj_apply] <;>
    exact projected_congr (fun _ => rfl) (fun _ => rfl) fun k => congrArg (fun q => x2 (ix3 0 k q)) (Fin.ext (by
      show _ = col n.val
      unfold col; split <;> dsimp only <;> omega))

/-- The reference's run from a memory that holds the kernel's arguments: its result is the kernel's. -/
theorem run (m : (ℓ : Loc Cert.Kernel6Ideal.nD Cert.Kernel6Ideal.τ Cert.Kernel6Ideal.sig) → Buf (Elt Ideal) ℓ)
    (m' : (ℓ : Loc nD τ sig) → Buf (Elt Ideal) ℓ) (ρ : Dev nD → PrngReg)
    (h : ∀ c : Dev nD, m' ((c : Thread nD τ).loc main_arg0) = m ((c.tc : Thread Cert.Kernel6Ideal.nD Cert.Kernel6Ideal.τ).loc Cert.Kernel6Ideal.main_arg0)
      ∧ m' ((c : Thread nD τ).loc main_arg1) = m ((c.tc : Thread Cert.Kernel6Ideal.nD Cert.Kernel6Ideal.τ).loc Cert.Kernel6Ideal.main_arg1)
      ∧ m' ((c : Thread nD τ).loc main_arg2) = m ((c.tc : Thread Cert.Kernel6Ideal.nD Cert.Kernel6Ideal.τ).loc Cert.Kernel6Ideal.main_arg2)) :
    θ_run defs (onTc (τ := τ) (main (F := Ideal))) ⟨m', fun _ => 0, ρ⟩ fun r => ∀ c : Dev nD,
      r.2.mem ((c : Thread nD τ).loc main_v22) = StepTail.result m c
      ∧ r.2.mem ((c : Thread nD τ).loc main_arg0) = m' ((c : Thread nD τ).loc main_arg0)
      ∧ r.2.mem ((c : Thread nD τ).loc main_arg1) = m' ((c : Thread nD τ).loc main_arg1)
      ∧ r.2.mem ((c : Thread nD τ).loc main_arg2) = m' ((c : Thread nD τ).loc main_arg2) := by
  refine (θ_run defs _ _).mono (fun _ hr c => ⟨((hr c).1.trans (val_main_v22_eq ..)).trans ?_, (hr c).2⟩) (Value.run m' ρ)
  rw [(h c).1, (h c).2.1, (h c).2.2]
  refine funext fun (i : S32x5120.Idx) => ?_
  obtain ⟨r, n, rfl⟩ : ∃ (r : Fin 32) (n : Fin 5120), i = ix2 r n := ⟨i 0, i 1, eq_ix2 i⟩
  exact result_apply _ _ _ r n

end Cert.Proof.StepTail.Ref

end
-- ==== Proof.StepFfnKernel.lean ====
/- What the call that does the sample rows' feed-forward leaves in its result array, read at an index. -/
module

public import proofs.«01_k».proof.Proof.Gen.Kernel7Ideal.Value
public import proofs.«01_k».proof.Proof.Rows
public import proofs.«01_k».proof.Proof.Hidden
public import Idealize.ShloMosaic.Lib.StableHlo.ReadAt

@[expose] public section

noncomputable section

namespace Cert.Proof.StepFfn

open Idealize.ShloMosaic Idealize.ShloMosaic.TcCoe Idealize.SL.Sem Cert.Kernel7Ideal Cert.Kernel7Ideal.Gen
open Cert.Proof.Rows (normed zeros2)
open Cert.Proof.Hidden

/-! ## One point's blocks -/

/-- The sum after a slice of hidden columns, read at an index. -/
theorem added_apply (z : Vec Ideal S32x2048 .bf16) (up : Vec Ideal S2048x512 .bf16) (y : Vec Ideal S32x2048 .f32)
    (down : Vec Ideal S512x2048 .bf16) (r : Fin 32) (d : Fin 2048) :
    k0_pay2 z up y down (ix2 r d)
      = y (ix2 r d) + ∑ q : Fin 512, term (fun k : Fin 2048 => z (ix2 r k)) (fun k => up (ix2 k q)) (down (ix2 q d)) := by
  unfold term act
  pointwise [k0_pay2]

/-- The normalized rows, read at an index. -/
theorem normed_apply (y : Vec Ideal S32x2048 .f32) (g : Vec Ideal S1x2048 .f32) (r : Fin 32) (d : Fin 2048) :
    k0_pay3 y g (ix2 r d) = normed (y (ix2 r d)) (∑ q : Fin 2048, y (ix2 r q) * y (ix2 r q)) (g (ix2 0 d)) := by
  pointwise [k0_pay3]; rfl

/-- The sum starts as the residual rows. -/
theorem start_eq (h : Vec Ideal S32x2048 .f32) : k0_pay1 h = h := by
  funext j
  obtain ⟨r, d, rfl⟩ : ∃ (r : Fin 32) (d : Fin 2048), j = ix2 r d := ⟨j 0, j 1, eq_ix2 j⟩
  pointwise [k0_pay1]

section Found
variable (c : Dev nD) (i : grid0.Coords) (a2 : Memref sig .tc .vmem S32x2048 .bf16) (h2 : a2.IsWhole)
  (a3 : Memref sig .tc .vmem S32x2048 .f32) (h3 : a3.IsWhole) (a4 : Memref sig .tc .vmem S2048x512 .bf16) (h4 : a4.IsWhole)
  (a5 : Memref sig .tc .vmem S512x2048 .bf16) (h5 : a5.IsWhole) (a6 : Memref sig .tc .vmem S1x2048 .f32) (h6 : a6.IsWhole)
  (a7 : Memref sig .tc .vmem S32x2048 .f32) (h7 : a7.IsWhole) (a8 : Memref sig .tc .vmem S32x2048 .f32) (h8 : a8.IsWhole)
  (z : Vec Ideal S32x2048 .bf16) (h : Vec Ideal S32x2048 .f32) (up : Vec Ideal S2048x512 .bf16) (down : Vec Ideal S512x2048 .bf16)
  (g : Vec Ideal S1x2048 .f32) (y : Vec Ideal S32x2048 .f32)

/-- The first point leaves the residual with its slice in the scratch. -/
theorem scratch_first (hc : cond0_0 i) (hd : ¬cond0_1 i) :
    sout0_A_0 c i a2 h2 a3 h3 a4 h4 a5 h5 a6 h6 a7 h7 a8 h8 hc hd z h up down g = k0_pay2 z up h down := by
  unfold sout0_A_0
  rw [View.read_writes_eq_canon _ _ _ (scover0_A_0 c i a2 h2 a3 h3 a4 h4 a5 h5 a6 h6 a7 h7 a8 h8 hc hd z h up down g)]
  unfold kernelRun0_A
  dsimp only
  sl_unfold_words
  rw [View.canon_cons_unit_zero zeros2]
  simp only [View.readCov_unit_zero (S := S32x2048) _ zeros2, View.readAt_eq_ld, h2.read_unread, h3.read_unread, h4.read_unread, h5.read_unread,
    View.ld_unit_zero (S := S32x2048) zeros2, View.ld_unit_zero (S := S2048x512) zeros2, View.ld_unit_zero (S := S512x2048) zeros2, start_eq]

/-- A later point adds its slice to the scratch. -/
theorem scratch_later (hc : ¬cond0_0 i) (hd : ¬cond0_1 i) :
    sout0_B_0 c i a2 h2 a3 h3 a4 h4 a5 h5 a6 h6 a7 h7 a8 h8 hc hd z h up down g y = k0_pay2 z up y down := by
  unfold sout0_B_0
  rw [View.read_writes_eq_canon _ _ _ (scover0_B_0 c i a2 h2 a3 h3 a4 h4 a5 h5 a6 h6 a7 h7 a8 h8 hc hd z h up down g y)]
  unfold kernelRun0_B
  dsimp only
  sl_unfold_words
  rw [View.canon_unit_zero zeros2]
  simp only [View.readCov_unit_zero (S := S32x2048) _ zeros2, View.readAt_eq_ld, h2.read_unread, h4.read_unread, h5.read_unread, h8.read_unread,
    View.ld_unit_zero (S := S32x2048) zeros2, View.ld_unit_zero (S := S2048x512) zeros2, View.ld_unit_zero (S := S512x2048) zeros2]

/-- The last point's result is the sum with its slice, each row scaled to unit mean square. -/
theorem block_last (hc : ¬cond0_0 i) (hd : cond0_1 i) :
    out0_C_5 c i a2 h2 a3 h3 a4 h4 a5 h5 a6 h6 a7 h7 a8 h8 hc hd z h up down g y = k0_pay3 (k0_pay2 z up y down) g := by
  unfold out0_C_5
  rw [View.read_writes_eq_canon _ _ _ (cover0_C_5 c i a2 h2 a3 h3 a4 h4 a5 h5 a6 h6 a7 h7 a8 h8 hc hd z h up down g y)]
  unfold kernelRun0_C
  dsimp only
  sl_unfold_words
  rw [View.canon_unit_zero zeros2]
  simp only [View.readCov_unit_zero (S := S32x2048) _ zeros2, View.readAt_eq_ld, h2.read_unread, h4.read_unread, h5.read_unread, h6.read_unread, h8.read_unread,
    View.ld_unit_zero (S := S32x2048) zeros2, View.ld_unit_zero (S := S2048x512) zeros2, View.ld_unit_zero (S := S512x2048) zeros2, View.ld_unit_zero (S := S1x2048) zeros2]
end Found

/-! ## The blocks the windows read -/

variable (m : (ℓ : Loc nD τ sig) → Buf (Elt Ideal) ℓ)

theorem index0 : ∀ t : Fin cfg0.N, win0_0.index t 0 = 0 ∧ win0_0.index t 1 = 0 :=
  (by decide +kernel : ∀ t : Fin grid0.N, win0_0.index t 0 = 0 ∧ win0_0.index t 1 = 0)
theorem index1 : ∀ t : Fin cfg0.N, win0_1.index t 0 = 0 ∧ win0_1.index t 1 = 0 :=
  (by decide +kernel : ∀ t : Fin grid0.N, win0_1.index t 0 = 0 ∧ win0_1.index t 1 = 0)
theorem index2 : ∀ t : Fin cfg0.N, win0_2.index t 0 = 0 ∧ win0_2.index t 1 = t.val :=
  (by decide +kernel : ∀ t : Fin grid0.N, win0_2.index t 0 = 0 ∧ win0_2.index t 1 = t.val)
theorem index3 : ∀ t : Fin cfg0.N, win0_3.index t 0 = t.val ∧ win0_3.index t 1 = 0 :=
  (by decide +kernel : ∀ t : Fin grid0.N, win0_3.index t 0 = t.val ∧ win0_3.index t 1 = 0)
theorem index4 : ∀ t : Fin cfg0.N, win0_4.index t 0 = 0 ∧ win0_4.index t 1 = 0 :=
  (by decide +kernel : ∀ t : Fin grid0.N, win0_4.index t 0 = 0 ∧ win0_4.index t 1 = 0)
theorem index5 : ∀ t : Fin cfg0.N, win0_5.index t 0 = 0 ∧ win0_5.index t 1 = 0 :=
  (by decide +kernel : ∀ t : Fin grid0.N, win0_5.index t 0 = 0 ∧ win0_5.index t 1 = 0)

theorem lt16 (t : Fin cfg0.N) : t.val < 16 := lt_of_lt_of_eq t.isLt N_0

def zAt (c : Dev nD) (r : Fin 32) (k : Fin 2048) : EReal := (m ((c : Thread nD τ).loc main_arg0) : S32x2048.Idx → EReal) (ix2 r k)
def hAt (c : Dev nD) (r : Fin 32) (d : Fin 2048) : EReal := (m ((c : Thread nD τ).loc main_arg1) : S32x2048.Idx → EReal) (ix2 r d)
def upAt (c : Dev nD) (k : Fin 2048) (n : Fin 8192) : EReal := (m ((c : Thread nD τ).loc main_arg2) : S1x2048x8192.Idx → EReal) (ix3 0 k n)
def downAt (c : Dev nD) (n : Fin 8192) (d : Fin 2048) : EReal := (m ((c : Thread nD τ).loc main_arg3) : S1x8192x2048.Idx → EReal) (ix3 0 n d)
def gAt (c : Dev nD) (d : Fin 2048) : EReal := (m ((c : Thread nD τ).loc main_arg4) : S2048.Idx → EReal) (ix1 d)

theorem V1_apply (c : Dev nD) (j : S2048x8192.Idx) : (V m c main_v1 : S2048x8192.Idx → EReal) j = upAt m c (j 0) (j 1) := by
  unfold V
  after_reads_at
  rfl
theorem V3_apply (c : Dev nD) (j : S8192x2048.Idx) : (V m c main_v3 : S8192x2048.Idx → EReal) j = downAt m c (j 0) (j 1) := by
  unfold V
  after_reads_at
  rfl
theorem V4_apply (c : Dev nD) (j : S1x2048.Idx) : (V m c main_v4 : S1x2048.Idx → EReal) j = gAt m c (j 1) := by
  unfold V
  after_reads_at
  rfl
theorem V0_apply (c : Dev nD) (j : S32x2048.Idx) : (V m c main_arg0 : S32x2048.Idx → EReal) j = zAt m c (j 0) (j 1) := by
  unfold V
  after_reads_at
  exact congrArg (m ((c : Thread nD τ).loc main_arg0) : S32x2048.Idx → EReal) (eq_ix2 j)
theorem Vh_apply (c : Dev nD) (j : S32x2048.Idx) : (V m c main_arg1 : S32x2048.Idx → EReal) j = hAt m c (j 0) (j 1) := by
  unfold V
  after_reads_at
  exact congrArg (m ((c : Thread nD τ).loc main_arg1) : S32x2048.Idx → EReal) (eq_ix2 j)

theorem z_block (c : Dev nD) (t : Fin cfg0.N) (r : Fin 32) (k : Fin 2048) : (iblk m c 0 t : S32x2048.Idx → EReal) (ix2 r k) = zAt m c r k := by
  unfold iblk
  rw [View.read_apply]
  show (V m c main_arg0 : S32x2048.Idx → EReal) ((win0_0.rect t).emb (ix2 r k)) = _
  rw [V0_apply]
  exact congrArg₂ (zAt m c) (Fin.ext (win0_0.rect_emb_val_of_index_zero t 0 (index0 t).1 (ix2 r k)))
    (Fin.ext (win0_0.rect_emb_val_of_index_zero t 1 (index0 t).2 (ix2 r k)))

theorem h_block (c : Dev nD) (t : Fin cfg0.N) (r : Fin 32) (d : Fin 2048) : (iblk m c 1 t : S32x2048.Idx → EReal) (ix2 r d) = hAt m c r d := by
  unfold iblk
  rw [View.read_apply]
  show (V m c main_arg1 : S32x2048.Idx → EReal) ((win0_1.rect t).emb (ix2 r d)) = _
  rw [Vh_apply]
  exact congrArg₂ (hAt m c) (Fin.ext (win0_1.rect_emb_val_of_index_zero t 0 (index1 t).1 (ix2 r d)))
    (Fin.ext (win0_1.rect_emb_val_of_index_zero t 1 (index1 t).2 (ix2 r d)))

theorem up_block (c : Dev nD) (t : Fin cfg0.N) (k : Fin 2048) (q : Fin 512) :
    (iblk m c 2 t : S2048x512.Idx → EReal) (ix2 k q) = upAt m c k ⟨t.val * 512 + q.val, by have := lt16 t; omega⟩ := by
  unfold iblk
  rw [View.read_apply]
  show (V m c main_v1 : S2048x8192.Idx → EReal) ((win0_2.rect t).emb (ix2 k q)) = _
  rw [V1_apply]
  refine congrArg₂ (upAt m c) (Fin.ext (win0_2.rect_emb_val_of_index_zero t 0 (index2 t).1 (ix2 k q))) (Fin.ext ?_)
  rw [win0_2.rect_emb_val t (ix2 k q) 1, (index2 t).2]; rfl

theorem down_block (c : Dev nD) (t : Fin cfg0.N) (q : Fin 512) (d : Fin 2048) :
    (iblk m c 3 t : S512x2048.Idx → EReal) (ix2 q d) = downAt m c ⟨t.val * 512 + q.val, by have := lt16 t; omega⟩ d := by
  unfold iblk
  rw [View.read_apply]
  show (V m c main_v3 : S8192x2048.Idx → EReal) ((win0_3.rect t).emb (ix2 q d)) = _
  rw [V3_apply]
  refine congrArg₂ (downAt m c) (Fin.ext ?_) (Fin.ext (win0_3.rect_emb_val_of_index_zero t 1 (index3 t).2 (ix2 q d)))
  rw [win0_3.rect_emb_val t (ix2 q d) 0, (index3 t).1]; rfl

theorem g_block (c : Dev nD) (t : Fin cfg0.N) (d : Fin 2048) : (iblk m c 4 t : S1x2048.Idx → EReal) (ix2 0 d) = gAt m c d := by
  unfold iblk
  rw [View.read_apply]
  show (V m c main_v4 : S1x2048.Idx → EReal) ((win0_4.rect t).emb (ix2 0 d)) = _
  rw [V4_apply]
  exact congrArg (gAt m c) (Fin.ext (win0_4.rect_emb_val_of_index_zero t 1 (index4 t).2 (ix2 0 d)))

/-! ## The sums, slice by slice -/

/-- A row's entry after the first `n` hidden columns. -/
def sumAt (c : Dev nD) (r : Fin 32) (d : Fin 2048) (n : ℕ) : EReal :=
  upto (hAt m c r d) (fun k : Fin 8192 => term (zAt m c r) (fun q => upAt m c q k) (downAt m c k d)) n

/-- The sum a point forms, when it starts from the slices before. -/
theorem added_at (c : Dev nD) (t : Fin cfg0.N) (y : Vec Ideal S32x2048 .f32) (r : Fin 32) (d : Fin 2048)
    (hy : y (ix2 r d) = sumAt m c r d (t.val * 512)) :
    k0_pay2 (iblk m c 0 t) (iblk m c 2 t) y (iblk m c 3 t) (ix2 r d) = sumAt m c r d ((t.val + 1) * 512) := by
  have ht := lt16 t
  refine (added_apply _ _ _ _ r d).trans ?_
  rw [hy, sumAt, sumAt, upto_slice _ _ _ (by omega)]
  refine congrArg _ (Finset.sum_congr rfl fun q _ => ?_)
  simp only [z_block, up_block, down_block]

theorem step_first (c : Dev nD) (t : Fin cfg0.N) (h0 : t.val % 16 = 0) (h1 : ¬t.val % 16 = 15) :
    (outsAt0 m c t.val t.isLt).2 = k0_pay2 (iblk m c 0 t) (iblk m c 2 t) (iblk m c 1 t) (iblk m c 3 t) := by
  rw [outsAt0_A m c t h0 h1]
  dsimp only
  rw [scratch_first]

theorem step_later (c : Dev nD) (t : Fin cfg0.N) (h0 : ¬t.val % 16 = 0) (h1 : ¬t.val % 16 = 15) (h : t.val - 1 < cfg0.N) :
    (outsAt0 m c t.val t.isLt).2 = k0_pay2 (iblk m c 0 t) (iblk m c 2 t) (outsAt0 m c (t.val - 1) h).2 (iblk m c 3 t) := by
  rw [outsAt0_B m c t h0 h1]
  dsimp only
  rw [scratch_later]

theorem step_last (c : Dev nD) (t : Fin cfg0.N) (h0 : ¬t.val % 16 = 0) (h1 : t.val % 16 = 15) (h : t.val - 1 < cfg0.N) :
    (outsAt0 m c t.val t.isLt).1 = k0_pay3 (k0_pay2 (iblk m c 0 t) (iblk m c 2 t) (outsAt0 m c (t.val - 1) h).2 (iblk m c 3 t)) (iblk m c 4 t) := by
  rw [outsAt0_C m c t h0 h1]
  dsimp only
  rw [block_last]

/-- Before the last point the scratch holds the sum so far. -/
theorem scratch_at (c : Dev nD) (r : Fin 32) (d : Fin 2048) : ∀ (n : ℕ) (h : n < cfg0.N), n < 15 →
    (outsAt0 m c n h).2 (ix2 r d) = sumAt m c r d ((n + 1) * 512) := by
  intro n
  induction n with
  | zero =>
    intro h _
    refine (congrFun (step_first m c ⟨0, h⟩ (Nat.zero_mod 16) (show ¬(0 : ℕ) % 16 = 15 by decide)) (ix2 r d)).trans ?_
    refine added_at m c ⟨0, h⟩ _ r d ((h_block m c ⟨0, h⟩ r d).trans ?_)
    rw [sumAt, Nat.zero_mul, upto_zero]
  | succ n ih =>
    intro h hn
    refine (congrFun (step_later m c ⟨n + 1, h⟩ (show ¬(n + 1) % 16 = 0 by omega) (show ¬(n + 1) % 16 = 15 by omega) (Nat.lt_of_succ_lt h)) (ix2 r d)).trans ?_
    exact added_at m c ⟨n + 1, h⟩ _ r d (ih (Nat.lt_of_succ_lt h) (by omega))

/-- A returned row's entry: the residual with all the hidden columns, the row scaled to unit mean square. -/
def result (c : Dev nD) : S32x2048.Idx → EReal := fun i =>
  normed (sumAt m c (i 0) (i 1) 8192) (∑ q : Fin 2048, sumAt m c (i 0) q 8192 * sumAt m c (i 0) q 8192) (gAt m c (i 1))

/-- The last point leaves those rows in the result's block. -/
theorem block_at (c : Dev nD) (t : Fin cfg0.N) (h : t.val = 15) (r : Fin 32) (d : Fin 2048) :
    (outsAt0 m c t.val t.isLt).1 (ix2 r d) = result m c (ix2 r d) := by
  refine (congrFun (step_last m c t (by omega) (by omega) (Nat.lt_of_le_of_lt (Nat.sub_le _ _) t.isLt)) (ix2 r d)).trans ((normed_apply _ _ r d).trans ?_)
  have e (q : Fin 2048) : k0_pay2 (iblk m c 0 t) (iblk m c 2 t)
      (outsAt0 m c (t.val - 1) (Nat.lt_of_le_of_lt (Nat.sub_le _ _) t.isLt)).2 (iblk m c 3 t) (ix2 r q) = sumAt m c r q 8192 := by
    refine (added_at m c t _ r q ((scratch_at m c r q _ _ (by omega)).trans ?_)).trans (by rw [h])
    rw [show t.val - 1 + 1 = t.val by omega]
  simp only [e, g_block]
  rfl

theorem flushed_eq (c : Dev nD) (t : Fin cfg0.N) (h : t.val = 15) :
    (dats m 0 c).flushed 5 t = ((cfg0.win 5).blk t).view.read (Elt Ideal) (result m c) := by
  rw [Value.flushed5]
  refine funext fun (y : S32x2048.Idx) => ?_
  obtain ⟨r, d, rfl⟩ : ∃ (r : Fin 32) (d : Fin 2048), y = ix2 r d := ⟨y 0, y 1, eq_ix2 y⟩
  rw [View.read_apply]
  show (outsAt0 m c t.val t.isLt).1 (ix2 r d) = result m c ((win0_5.rect t).emb (ix2 r d))
  rw [block_at m c t h r d]
  refine congrArg (result m c) (funext fun (a : Fin 2) => Fin.ext ?_)
  match a with
  | ⟨0, _⟩ => exact (win0_5.rect_emb_val_of_index_zero t 0 (index5 t).1 (ix2 r d)).symm
  | ⟨1, _⟩ => exact (win0_5.rect_emb_val_of_index_zero t 1 (index5 t).2 (ix2 r d)).symm

theorem flush_iff : ∀ t : Fin cfg0.N, (cfg0.win 5).flush t = true ↔ t.val = 15 :=
  (by decide +kernel : ∀ t : Fin grid0.N, win0_5.flush t = true ↔ t.val = 15)

theorem mem_block (t : Fin cfg0.N) (i : S32x2048.Idx) : i ∈ ((cfg0.win 5).blk t).view.set := by
  show i ∈ ((View.whole main_v5).slice (win0_5.rect t)).set
  rw [View.set_slice_whole, Rect.mem_set_unit]
  have h0 : (i 0).val < 32 := (i 0).isLt
  have h1 : (i 1).val < 2048 := (i 1).isLt
  intro a
  match a with
  | ⟨0, _⟩ =>
    show win0_5.index t 0 * 32 ≤ (i 0).val ∧ (i 0).val < win0_5.index t 0 * 32 + 32
    rw [(index5 t).1]; omega
  | ⟨1, _⟩ =>
    show win0_5.index t 1 * 2048 ≤ (i 1).val ∧ (i 1).val < win0_5.index t 1 * 2048 + 2048
    rw [(index5 t).2]; omega

theorem final (c : Dev nD) : (dats m 0 c).arrAt 5 cfg0.N = result m c :=
  (dats m 0 c).arrAt_eq_of_cover 5 (result m c) (fun t h => flushed_eq m c t ((flush_iff t).mp h)) fun (i : S32x2048.Idx) => by
    have hN : cfg0.N = 16 := N_0
    let t : Fin cfg0.N := ⟨15, by omega⟩
    exact ⟨t, (flush_iff t).mpr rfl, mem_block t i⟩

/-- The run: the result array read, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v5) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final m c), (h c).2⟩) (Value.run_blocks m ρ)

end Cert.Proof.StepFfn

end
-- ==== Proof.StepFfnReference.lean ====
/- The reference of the sample rows' feed-forward, read at an index: it ends where the kernel does. -/
module

public import proofs.«01_k».proof.Proof.Gen.Reference7Ideal.Read
public import proofs.«01_k».proof.Proof.StepFfnKernel

@[expose] public section

noncomputable section

namespace Cert.Proof.StepFfn.Ref

open Idealize.ShloMosaic Idealize.ShloMosaic.TcCoe Idealize.SL.Sem Cert.Reference7Ideal Cert.Reference7Ideal.Gen Cert.Reference7Ideal.Read
open Cert.Proof.Rows (normed)
open Cert.Proof.Hidden

variable (x0 x1 : S32x2048.Idx → EReal) (x2 : S1x2048x8192.Idx → EReal) (x3 : S1x8192x2048.Idx → EReal) (x4 : S2048.Idx → EReal)

/-- The residual with the feed-forward, read at an index. -/
theorem sum_apply (r : Fin 32) (d : Fin 2048) :
    val_main_v7 (F := Ideal) x0 x1 x2 x3 (ix2 r d)
      = x1 (ix2 r d) + ∑ n : Fin 8192, term (fun k : Fin 2048 => x0 (ix2 r k)) (fun k => x2 (ix3 0 k n)) (x3 (ix3 0 n d)) := by
  unfold term act
  pointwise [val_main_v7, val_main_v6, val_main_v5, val_main_v4, val_main_v3, val_main_call0_v0, val_main_call0_cst, val_main_v2, val_main_v1, val_main_v0]

theorem result_apply (r : Fin 32) (d : Fin 2048) :
    val_main_v20 (F := Ideal) x0 x1 x2 x3 x4 (ix2 r d)
      = normed (val_main_v7 (F := Ideal) x0 x1 x2 x3 (ix2 r d))
          (∑ q : Fin 2048, val_main_v7 (F := Ideal) x0 x1 x2 x3 (ix2 r q) * val_main_v7 (F := Ideal) x0 x1 x2 x3 (ix2 r q)) (x4 (ix1 d)) := by
  pointwise [val_main_v20, val_main_v19, val_main_v18, val_main_v17, val_main_v16, val_main_v15, val_main_v14, val_main_v13, val_main_cst_1, val_main_v12, val_main_v11, val_main_cst_0, val_main_v10, val_main_v9, val_main_cst, val_main_v8]
  rfl

section Runs
variable (m : (ℓ : Loc Cert.Kernel7Ideal.nD Cert.Kernel7Ideal.τ Cert.Kernel7Ideal.sig) → Buf (Elt Ideal) ℓ)

/-- The reference's run from a memory that holds the kernel's arguments: its result is the kernel's. -/
theorem run (m' : (ℓ : Loc nD τ sig) → Buf (Elt Ideal) ℓ) (ρ : Dev nD → PrngReg)
    (h : ∀ c : Dev nD, m' ((c : Thread nD τ).loc main_arg0) = m ((c.tc : Thread Cert.Kernel7Ideal.nD Cert.Kernel7Ideal.τ).loc Cert.Kernel7Ideal.main_arg0)
      ∧ m' ((c : Thread nD τ).loc main_arg1) = m ((c.tc : Thread Cert.Kernel7Ideal.nD Cert.Kernel7Ideal.τ).loc Cert.Kernel7Ideal.main_arg1)
      ∧ m' ((c : Thread nD τ).loc main_arg2) = m ((c.tc : Thread Cert.Kernel7Ideal.nD Cert.Kernel7Ideal.τ).loc Cert.Kernel7Ideal.main_arg2)
      ∧ m' ((c : Thread nD τ).loc main_arg3) = m ((c.tc : Thread Cert.Kernel7Ideal.nD Cert.Kernel7Ideal.τ).loc Cert.Kernel7Ideal.main_arg3)
      ∧ m' ((c : Thread nD τ).loc main_arg4) = m ((c.tc : Thread Cert.Kernel7Ideal.nD Cert.Kernel7Ideal.τ).loc Cert.Kernel7Ideal.main_arg4)) :
    θ_run defs (onTc (τ := τ) (main (F := Ideal))) ⟨m', fun _ => 0, ρ⟩ fun r => ∀ c : Dev nD,
      r.2.mem ((c : Thread nD τ).loc main_v20) = StepFfn.result m c
      ∧ r.2.mem ((c : Thread nD τ).loc main_arg0) = m' ((c : Thread nD τ).loc main_arg0)
      ∧ r.2.mem ((c : Thread nD τ).loc main_arg1) = m' ((c : Thread nD τ).loc main_arg1)
      ∧ r.2.mem ((c : Thread nD τ).loc main_arg2) = m' ((c : Thread nD τ).loc main_arg2)
      ∧ r.2.mem ((c : Thread nD τ).loc main_arg3) = m' ((c : Thread nD τ).loc main_arg3)
      ∧ r.2.mem ((c : Thread nD τ).loc main_arg4) = m' ((c : Thread nD τ).loc main_arg4) := by
  refine (θ_run defs _ _).mono (fun _ hr c => ⟨((hr c).1.trans (val_main_v20_eq ..)).trans ?_, (hr c).2⟩) (Value.run m' ρ)
  rw [(h c).1, (h c).2.1, (h c).2.2.1, (h c).2.2.2.1, (h c).2.2.2.2]
  refine funext fun (i : S32x2048.Idx) => ?_
  obtain ⟨r, d, rfl⟩ : ∃ (r : Fin 32) (d : Fin 2048), i = ix2 r d := ⟨i 0, i 1, eq_ix2 i⟩
  refine (result_apply _ _ _ _ _ r d).trans ?_
  show _ = StepFfn.result m c (ix2 r d)
  unfold StepFfn.result sumAt
  simp only [sum_apply, upto_all]
  rfl

end Runs

end Cert.Proof.StepFfn.Ref

end
-- ==== Proof.lean ====
/- The proof of the claims of this directory. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame.Runs
public import proofs.«01_k».proof.Proof.Gen.Reference2Ideal
public import proofs.«01_k».proof.Proof.Gen.Reference2Ideal.Run
public import proofs.«01_k».proof.Proof.Gen.Reference2Ideal.Read
public import proofs.«01_k».proof.Proof.Gen.Pre_pages_in_pool
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.TailReference
public import proofs.«01_k».proof.Proof.FfnReference
public import proofs.«01_k».proof.Proof.FfnPages
public import proofs.«01_k».proof.Proof.KvReference
public import proofs.«01_k».proof.Proof.KvText
public import proofs.«01_k».proof.Proof.QueriesReference
public import proofs.«01_k».proof.Proof.StepHeadReference
public import proofs.«01_k».proof.Proof.StepTailReference
public import proofs.«01_k».proof.Proof.StepFfnReference
public import Idealize.ShloMosaic.Adequacy
public import Idealize.ShloMosaic.Init

@[expose] public section

set_option maxRecDepth 100000

noncomputable section

-- The frame claims also say that every semaphore counter ends at zero; the proof must show that too.

namespace Cert.Proof

open Idealize.ShloMosaic Idealize.SL.Sem Cert.Kernel

theorem tail_reference_frame : Cert.quiescent_ReferenceIdeal (hReferenceIdeal := Cert.ReferenceIdeal.Gen.facts) :=
  fun m g _ => (θ_run Cert.ReferenceIdeal.defs _ _).mono (fun r h => ⟨fun c => (h c).2,
    sem_eq_zero_of_no_sems (by decide) r.2⟩) (Cert.ReferenceIdeal.Value.run m g)

theorem tail_algebraic : Cert.algebraic_KernelIdeal_ReferenceIdeal (hKernelIdeal := Cert.KernelIdeal.Gen.facts)
    (hReferenceIdeal := Cert.ReferenceIdeal.Gen.facts) :=
  fun m g m' g' _ h => ⟨Tail.result m, Tail.run m g, Tail.Ref.run m m' g' h⟩

theorem ffn_frame : Cert.quiescent_Kernel2Ideal (hKernel2Ideal := Cert.Kernel2Ideal.Gen.facts) (hPre_pages_in_pool := Cert.Pre_pages_in_pool.Gen.facts) :=
  fun m g h => (θ_run Cert.Kernel2Ideal.defs _ _).mono (fun _ h => h.1) (Ffn.run (F := Ideal) m g (Ffn.ok_of_pre m h))

theorem ffn_reference_frame : Cert.quiescent_Reference2Ideal (hReference2Ideal := Cert.Reference2Ideal.Gen.facts) (hPre_pages_in_pool := Cert.Pre_pages_in_pool.Gen.facts) :=
  fun m g _ => (θ_run Cert.Reference2Ideal.defs _ _).mono (fun r h => ⟨fun c => (h c).2,
    sem_eq_zero_of_no_sems (by decide) r.2⟩) (Cert.Reference2Ideal.Value.run m g)

theorem ffn_algebraic : Cert.algebraic_Kernel2Ideal_Reference2Ideal (hKernel2Ideal := Cert.Kernel2Ideal.Gen.facts)
    (hReference2Ideal := Cert.Reference2Ideal.Gen.facts) (hPre_pages_in_pool := Cert.Pre_pages_in_pool.Gen.facts) :=
  fun m g m' g' hp h => ⟨Ffn.result m,
    (θ_run Cert.Kernel2Ideal.defs _ _).mono (fun _ r c => ⟨(r.2 c).trans (Ffn.final m (Ffn.ok_of_pre m hp) c), r.1.1 c⟩)
      (Ffn.run (F := Ideal) m g (Ffn.ok_of_pre m hp)),
    Ffn.Ref.run m m' g' h⟩

theorem kv_frame_bits : Cert.quiescent_Kernel3 (hKernel3 := Cert.Kernel3.Gen.facts) := fun m g _ => by
  have h := (θ_run Cert.Kernel3Ideal.defs _ _).mono (fun _ h => h.1) (Kv.run (F := Bits) m g)
  rw [Kv.text_defs, Kv.text_main]
  exact h

theorem kv_frame : Cert.quiescent_Kernel3Ideal (hKernel3Ideal := Cert.Kernel3Ideal.Gen.facts) := fun m g _ =>
  (θ_run Cert.Kernel3Ideal.defs _ _).mono (fun _ h => h.1) (Kv.run m g)

theorem kv_reference_frame : Cert.quiescent_Reference3Ideal (hReference3Ideal := Cert.Reference3Ideal.Gen.facts) :=
  fun m g _ => (θ_run Cert.Reference3Ideal.defs _ _).mono (fun r h => ⟨fun c => (h c).2.2.2,
    sem_eq_zero_of_no_sems (by decide) r.2⟩) (Cert.Reference3Ideal.Value.run m g)

theorem kv_algebraic : Cert.algebraic_Kernel3Ideal_Reference3Ideal (hKernel3Ideal := Cert.Kernel3Ideal.Gen.facts)
    (hReference3Ideal := Cert.Reference3Ideal.Gen.facts) :=
  fun m g m' g' _ h => ⟨Kv.keys m, Kv.values m, Kv.side m, Kv.run_read m g, Kv.Ref.run m m' g' h⟩

theorem queries_reference_frame : Cert.quiescent_Reference4Ideal (hReference4Ideal := Cert.Reference4Ideal.Gen.facts) :=
  fun m g _ => (θ_run Cert.Reference4Ideal.defs _ _).mono (fun r h => ⟨fun c => (h c).2,
    sem_eq_zero_of_no_sems (by decide) r.2⟩) (Cert.Reference4Ideal.Value.run m g)

theorem queries_algebraic : Cert.algebraic_Kernel4Ideal_Reference4Ideal (hKernel4Ideal := Cert.Kernel4Ideal.Gen.facts)
    (hReference4Ideal := Cert.Reference4Ideal.Gen.facts) :=
  fun m g m' g' _ h => ⟨Queries.result m, Queries.run m g, Queries.Ref.run m m' g' h⟩

theorem stepHead_reference_frame : Cert.quiescent_Reference5Ideal (hReference5Ideal := Cert.Reference5Ideal.Gen.facts) :=
  fun m g _ => (θ_run Cert.Reference5Ideal.defs _ _).mono (fun r h => ⟨fun c => (h c).2,
    sem_eq_zero_of_no_sems (by decide) r.2⟩) (Cert.Reference5Ideal.Value.run m g)

theorem stepHead_algebraic : Cert.algebraic_Kernel5Ideal_Reference5Ideal (hKernel5Ideal := Cert.Kernel5Ideal.Gen.facts)
    (hReference5Ideal := Cert.Reference5Ideal.Gen.facts) :=
  fun m g m' g' _ h => ⟨StepHead.result m, StepHead.run m g, StepHead.Ref.run m m' g' h⟩

theorem stepTail_reference_frame : Cert.quiescent_Reference6Ideal (hReference6Ideal := Cert.Reference6Ideal.Gen.facts) :=
  fun m g _ => (θ_run Cert.Reference6Ideal.defs _ _).mono (fun r h => ⟨fun c => (h c).2,
    sem_eq_zero_of_no_sems (by decide) r.2⟩) (Cert.Reference6Ideal.Value.run m g)

theorem stepTail_algebraic : Cert.algebraic_Kernel6Ideal_Reference6Ideal (hKernel6Ideal := Cert.Kernel6Ideal.Gen.facts)
    (hReference6Ideal := Cert.Reference6Ideal.Gen.facts) :=
  fun m g m' g' _ h => ⟨StepTail.result m, StepTail.run m g, StepTail.Ref.run m m' g' h⟩

theorem stepFfn_reference_frame : Cert.quiescent_Reference7Ideal (hReference7Ideal := Cert.Reference7Ideal.Gen.facts) :=
  fun m g _ => (θ_run Cert.Reference7Ideal.defs _ _).mono (fun r h => ⟨fun c => (h c).2,
    sem_eq_zero_of_no_sems (by decide) r.2⟩) (Cert.Reference7Ideal.Value.run m g)

theorem stepFfn_algebraic : Cert.algebraic_Kernel7Ideal_Reference7Ideal (hKernel7Ideal := Cert.Kernel7Ideal.Gen.facts)
    (hReference7Ideal := Cert.Reference7Ideal.Gen.facts) :=
  fun m g m' g' _ h => ⟨StepFfn.result m, StepFfn.run m g, StepFfn.Ref.run m m' g' h⟩

theorem claim : Cert.Claim := ⟨
  Cert.Kernel.Gen.facts, Cert.KernelIdeal.Gen.facts, Cert.ReferenceIdeal.Gen.facts,
  Cert.Kernel2Ideal.Gen.facts, Cert.Reference2Ideal.Gen.facts,
  Cert.Kernel3.Gen.facts, Cert.Kernel3Ideal.Gen.facts, Cert.Reference3Ideal.Gen.facts, Cert.Kernel4.Gen.facts,
  Cert.Kernel4Ideal.Gen.facts, Cert.Reference4Ideal.Gen.facts, Cert.Kernel5.Gen.facts,
  Cert.Kernel5Ideal.Gen.facts, Cert.Reference5Ideal.Gen.facts, Cert.Kernel6.Gen.facts,
  Cert.Kernel6Ideal.Gen.facts, Cert.Reference6Ideal.Gen.facts, Cert.Kernel7.Gen.facts,
  Cert.Kernel7Ideal.Gen.facts, Cert.Reference7Ideal.Gen.facts, Cert.Pre_pages_in_pool.Gen.facts,
  fun m g _ => Cert.Kernel.Gen.frame m g, fun m g _ => Cert.KernelIdeal.Gen.frame m g, tail_reference_frame,
  ffn_frame, ffn_reference_frame,
  kv_frame_bits, kv_frame, kv_reference_frame,
  fun m g _ => Cert.Kernel4.Gen.frame m g, fun m g _ => Cert.Kernel4Ideal.Gen.frame m g, queries_reference_frame,
  fun m g _ => Cert.Kernel5.Gen.frame m g, fun m g _ => Cert.Kernel5Ideal.Gen.frame m g, stepHead_reference_frame,
  fun m g _ => Cert.Kernel6.Gen.frame m g, fun m g _ => Cert.Kernel6Ideal.Gen.frame m g, stepTail_reference_frame,
  fun m g _ => Cert.Kernel7.Gen.frame m g, fun m g _ => Cert.Kernel7Ideal.Gen.frame m g, stepFfn_reference_frame,
  trivial, tail_algebraic,
  ffn_algebraic,
  trivial, kv_algebraic,
  trivial, queries_algebraic,
  trivial, stepHead_algebraic,
  trivial, stepTail_algebraic,
  trivial, stepFfn_algebraic⟩

end Cert.Proof

end
